-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)) (v2 : (c : Dev Cert.KernelIdeal.nD) → Buf (Elt Ideal) ((c.tc : Thread Cert.KernelIdeal.nD Cert.KernelIdeal.τ).loc Cert.KernelIdeal.main_v66_2)) (v3 : (c : Dev Cert.KernelIdeal.nD) → Buf (Elt Ideal) ((c.tc : Thread Cert.KernelIdeal.nD Cert.KernelIdeal.τ).loc Cert.KernelIdeal.main_v66_3)) (v4 : (c : Dev Cert.KernelIdeal.nD) → Buf (Elt Ideal) ((c.tc : Thread Cert.KernelIdeal.nD Cert.KernelIdeal.τ).loc Cert.KernelIdeal.main_v66_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_v66_2) = v2 c
          ∧ r.2.mem ((c.tc : Thread Cert.KernelIdeal.nD Cert.KernelIdeal.τ).loc Cert.KernelIdeal.main_v66_3) = v3 c
          ∧ r.2.mem ((c.tc : Thread Cert.KernelIdeal.nD Cert.KernelIdeal.τ).loc Cert.KernelIdeal.main_v66_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v6) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  IdealRules.named_const.Statement Cert.Kernel14Ideal.κ "mask" .f32 0xF149F2CA#32 ⊥
  ∧ IdealRules.named_const.Statement Cert.Kernel14Ideal.κ "inv_ln2" .f32 0x3FB8AA3B#32 (((Real.log 2)⁻¹ : ℝ) : EReal)

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v14_0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v14_0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v38) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite.lean ====
abbrev S8192x2048 : Shape := ⟨2, ![8192, 2048]⟩
abbrev S8192x16 : Shape := ⟨2, ![8192, 16]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x2048 .f32) (main_v3 : IVec S_ 1) (main_v7 : IVec S_ 1) (main_v11 : IVec S_ 1) (main_v15 : IVec S_ 1) : IVec S_ 1 :=
  let main_v16 : FVec F S8192x2048 .f32 := Host.absf main_arg4
  let main_cst_6 : FVec F S_ .f32 := constant S_ .f32 0x7F800000#32
  let main_v17 : FVec F S8192x2048 .f32 := broadcastInDim S8192x2048 ![] bcast_S_S8192x2048 main_cst_6
  let main_v18 : IVec S8192x2048 1 := cmpf .olt main_v16 main_v17
  let main_c_7 : IVec S_ 1 := constantI S_ 1 1#1
  let main_v19 : IVec S_ 1 := (fun x v => Host.reduce IntOp.andi x v reducesTo_S8192x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x2048 .f32) (main_arg1 : FVec F S8192x2048 .f32) (main_arg2 : FVec F S8192x2048 .f32) (main_arg3 : FVec F S8192x16 .f32) (main_arg4 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S8192x2048 .f32 := Host.absf main_arg2
  let main_cst_2 : FVec F S_ .f32 := constant S_ .f32 0x7F800000#32
  let main_v9 : FVec F S8192x2048 .f32 := broadcastInDim S8192x2048 ![] bcast_S_S8192x2048 main_cst_2
  let main_v10 : IVec S8192x2048 1 := cmpf .olt main_v8 main_v9
  let main_c_3 : IVec S_ 1 := constantI S_ 1 1#1
  let main_v11 : IVec S_ 1 := (fun x v => Host.reduce IntOp.andi x v reducesTo_S8192x2048_S_d0_1 h_S_) main_v10 main_c_3
  let main_v12 : FVec F S8192x16 .f32 := Host.absf main_arg3
  let main_cst_4 : FVec F S_ .f32 := constant S_ .f32 0x7F800000#32
  let main_v13 : FVec F S8192x16 .f32 := broadcastInDim S8192x16 ![] bcast_S_S8192x16 main_cst_4
  let main_v14 : IVec S8192x16 1 := cmpf .olt main_v12 main_v13
  let main_c_5 : IVec S_ 1 := constantI S_ 1 1#1
  let main_v15 : IVec S_ 1 := (fun x v => Host.reduce IntOp.andi x v reducesTo_S8192x16_S_d0_1 h_S_) main_v14 main_c_5
  fn_part1 (F := F) main_arg4 main_v3 main_v7 main_v11 main_v15
-- ==== Pre_finite14.lean ====
abbrev S8192x2048 : Shape := ⟨2, ![8192, 2048]⟩
abbrev S8192x16 : Shape := ⟨2, ![8192, 16]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x2048 .f32) (main_arg1 : FVec F S8192x2048 .f32) (main_arg2 : FVec F S8192x2048 .f32) (main_arg3 : FVec F S8192x16 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : FVec F S8192x2048 .f32 := Host.absf main_arg2
  let main_cst_2 : FVec F S_ .f32 := constant S_ .f32 0x7F800000#32
  let main_v9 : FVec F S8192x2048 .f32 := broadcastInDim S8192x2048 ![] bcast_S_S8192x2048 main_cst_2
  let main_v10 : IVec S8192x2048 1 := cmpf .olt main_v8 main_v9
  let main_c_3 : IVec S_ 1 := constantI S_ 1 1#1
  let main_v11 : IVec S_ 1 := (fun x v => Host.reduce IntOp.andi x v reducesTo_S8192x2048_S_d0_1 h_S_) main_v10 main_c_3
  let main_v12 : FVec F S8192x16 .f32 := Host.absf main_arg3
  let main_cst_4 : FVec F S_ .f32 := constant S_ .f32 0x7F800000#32
  let main_v13 : FVec F S8192x16 .f32 := broadcastInDim S8192x16 ![] bcast_S_S8192x16 main_cst_4
  let main_v14 : IVec S8192x16 1 := cmpf .olt main_v12 main_v13
  let main_c_5 : IVec S_ 1 := constantI S_ 1 1#1
  let main_v15 : IVec S_ 1 := (fun x v => Host.reduce IntOp.andi x v reducesTo_S8192x16_S_d0_1 h_S_) main_v14 main_c_5
  fn_part1 (F := F) main_v3 main_v7 main_v11 main_v15
-- ==== Kernel.lean ====
abbrev S8192x2048 : Shape := ⟨2, ![8192, 2048]⟩
abbrev S8192x16 : Shape := ⟨2, ![8192, 16]⟩
abbrev S_ : Shape := ⟨0, ![]⟩
abbrev S8192x16x128 : Shape := ⟨3, ![8192, 16, 128]⟩
abbrev S16x8192x128 : Shape := ⟨3, ![16, 8192, 128]⟩
abbrev S16x8192 : Shape := ⟨2, ![16, 8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8x1024 : Shape := ⟨3, ![16, 8, 1024]⟩
abbrev S16x8x1 : Shape := ⟨3, ![16, 8, 1]⟩
abbrev S16x8x1x1024 : Shape := ⟨4, ![16, 8, 1, 1024]⟩
abbrev S8192x128 : Shape := ⟨2, ![8192, 128]⟩
abbrev S8192x4096 : Shape := ⟨2, ![8192, 4096]⟩
abbrev S1024x128 : Shape := ⟨2, ![1024, 128]⟩
abbrev S1x8x1x1024 : Shape := ⟨4, ![1, 8, 1, 1024]⟩
abbrev S1024 : Shape := ⟨1, ![1024]⟩
abbrev S1024x1 : Shape := ⟨2, ![1024, 1]⟩
abbrev S8x1x1024 : Shape := ⟨3, ![8, 1, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S1x1 : Shape := ⟨2, ![1, 1]⟩

abbrev nBuf : Space → Nat
  | .hbm => 89
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192x16x128, .f32⟩
  | .hbm, ⟨10, _⟩ => ⟨S16x8192x128, .f32⟩
  | .hbm, ⟨11, _⟩ => ⟨S8192x16x128, .f32⟩
  | .hbm, ⟨12, _⟩ => ⟨S16x8192x128, .f32⟩
  | .hbm, ⟨13, _⟩ => ⟨S8192x16x128, .f32⟩
  | .hbm, ⟨14, _⟩ => ⟨S16x8192x128, .f32⟩
  | .hbm, ⟨15, _⟩ => ⟨S16x8192, .f32⟩
  | .hbm, ⟨16, _⟩ => ⟨S16x8192x8192, .f32⟩
  | .hbm, ⟨17, _⟩ => ⟨S_, .f32⟩
  | .hbm, ⟨18, _⟩ => ⟨S16x8192x8192, .f32⟩
  | .hbm, ⟨19, _⟩ => ⟨S16x8192x8192, .f32⟩
  | .hbm, ⟨20, _⟩ => ⟨S16x8192x1, .f32⟩
  | .hbm, ⟨21, _⟩ => ⟨S16x1x8192, .f32⟩
  | .hbm, ⟨22, _⟩ => ⟨S16x8192x8192, .f32⟩
  | .hbm, ⟨23, _⟩ => ⟨S16x8192x8192, .f32⟩
  | .hbm, ⟨24, _⟩ => ⟨S16x8192x8192, .f32⟩
  | .hbm, ⟨25, _⟩ => ⟨S16x8192x8192, .f32⟩
  | .hbm, ⟨26, _⟩ => ⟨S8192, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S16x8192x8192, .i1⟩
  | .hbm, ⟨35, _⟩ => ⟨S16x8192x8192, .f32⟩
  | .hbm, ⟨36, _⟩ => ⟨S16x8192x8192, .f32⟩
  | .hbm, ⟨37, _⟩ => ⟨S_, .f32⟩
  | .hbm, ⟨38, _⟩ => ⟨S16x8192, .f32⟩
  | .hbm, ⟨39, _⟩ => ⟨S16x8192x1, .f32⟩
  | .hbm, ⟨40, _⟩ => ⟨S16x8192x8192, .f32⟩
  | .hbm, ⟨41, _⟩ => ⟨S16x8192x8192, .f32⟩
  | .hbm, ⟨42, _⟩ => ⟨S16x8192x8192, .f32⟩
  | .hbm, ⟨43, _⟩ => ⟨S_, .f32⟩
  | .hbm, ⟨44, _⟩ => ⟨S16x8192, .f32⟩
  | .hbm, ⟨45, _⟩ => ⟨S16x8192x1, .f32⟩
  | .hbm, ⟨46, _⟩ => ⟨S16x8192x8192, .f32⟩
  | .hbm, ⟨47, _⟩ => ⟨S16x8192x8192, .f32⟩
  | .hbm, ⟨48, _⟩ => ⟨S16x8192x128, .f32⟩
  | .hbm, ⟨49, _⟩ => ⟨S16x8192x1, .f32⟩
  | .hbm, ⟨50, _⟩ => ⟨S16x8192x1, .f32⟩
  | .hbm, ⟨51, _⟩ => ⟨S16x8192, .f32⟩
  | .hbm, ⟨52, _⟩ => ⟨S8192x16x128, .f32⟩
  | .hbm, ⟨53, _⟩ => ⟨S16x8192x128, .f32⟩
  | .hbm, ⟨54, _⟩ => ⟨S16x8192x128, .f32⟩
  | .hbm, ⟨55, _⟩ => ⟨S_, .f32⟩
  | .hbm, ⟨56, _⟩ => ⟨S16x8192, .f32⟩
  | .hbm, ⟨57, _⟩ => ⟨S16x8x1024, .f32⟩
  | .hbm, ⟨58, _⟩ => ⟨S16x8x1, .f32⟩
  | .hbm, ⟨59, _⟩ => ⟨S16x8x1x1024, .f32⟩
  | .hbm, ⟨60, _⟩ => ⟨S16x8x1024, .f32⟩
  | .hbm, ⟨61, _⟩ => ⟨S16x8192, .f32⟩
  | .hbm, ⟨62, _⟩ => ⟨S16x8192, .f32⟩
  | .hbm, ⟨63, _⟩ => ⟨S16x8192, .f32⟩
  | .hbm, ⟨64, _⟩ => ⟨S16x8192, .f32⟩
  | .hbm, ⟨65, _⟩ => ⟨S16x8192, .f32⟩
  | .hbm, ⟨66, _⟩ => ⟨S16x8x1x1024, .f32⟩
  | .hbm, ⟨67, _⟩ => ⟨S16x8x1x1024, .f32⟩
  | .hbm, ⟨68, _⟩ => ⟨S_, .i32⟩
  | .hbm, ⟨69, _⟩ => ⟨S_, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S8192x16, .f32⟩
  | .hbm, ⟨74, _⟩ => ⟨S16x8192, .f32⟩
  | .hbm, ⟨75, _⟩ => ⟨S16x8x1x1024, .f32⟩
  | .hbm, ⟨76, _⟩ => ⟨S_, .f32⟩
  | .hbm, ⟨77, _⟩ => ⟨S_, .f32⟩
  | .hbm, ⟨78, _⟩ => ⟨S8192x2048, .f32⟩
  | .hbm, ⟨79, _⟩ => ⟨S8192x2048, .f32⟩
  | .hbm, ⟨80, _⟩ => ⟨S8192x2048, .bf16⟩
  | .hbm, ⟨81, _⟩ => ⟨S8192x4096, .f32⟩
  | .hbm, ⟨82, _⟩ => ⟨S8192x4096, .bf16⟩
  | .hbm, ⟨83, _⟩ => ⟨S8192x2048, .bf16⟩
  | .hbm, ⟨84, _⟩ => ⟨S8192x2048, .bf16⟩
  | .hbm, ⟨85, _⟩ => ⟨S8192x2048, .bf16⟩
  | .hbm, ⟨86, _⟩ => ⟨S8192x2048, .bf16⟩
  | .hbm, ⟨87, _⟩ => ⟨S8192x128, .f32⟩
  | .hbm, ⟨88, _⟩ => ⟨S16x8x1x1024, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1x8x1x1024, .f32⟩
  | .local _ .vmem, ⟨11, _⟩ => ⟨S1x8x1x1024, .f32⟩
  | .local _ .vmem, ⟨12, _⟩ => ⟨S1x8x1x1024, .f32⟩
  | .local _ .vmem, ⟨13, _⟩ => ⟨S1x8x1x1024, .f32⟩
  | .local _ .vmem, ⟨14, _⟩ => ⟨S1x8x1x1024, .f32⟩
  | .local _ .vmem, ⟨15, _⟩ => ⟨S1x8x1x1024, .f32⟩
  | .local _ .vmem, ⟨16, _⟩ => ⟨S8192x128, .bf16⟩
  | .local _ .vmem, ⟨17, _⟩ => ⟨S8192x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S8192x128, .f32⟩
  | .local _ .vmem, ⟨23, _⟩ => ⟨S1x8x1x1024, .f32⟩
  | .local _ .vmem, ⟨24, _⟩ => ⟨S1x8x1x1024, .f32⟩
  | .local _ .vmem, ⟨25, _⟩ => ⟨S8192x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c : Ref sig .tc := ⟨.hbm, 68, rfl⟩
abbrev main_call1_v0 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66_0 : Ref sig .tc := ⟨.hbm, 84, rfl⟩
abbrev main_v66_1 : Ref sig .tc := ⟨.hbm, 85, rfl⟩
abbrev main_v66_2 : Ref sig .tc := ⟨.hbm, 86, rfl⟩
abbrev main_v66_3 : Ref sig .tc := ⟨.hbm, 87, rfl⟩
abbrev main_v66_4 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v19 : BitVec 32 := Scalar.muli arg1 c1024_i32
  v19
def k0_off1 (i : grid0.Coords) : Fin 2 → Nat :=
  let arg1 : BitVec 32 := BitVec.ofNat 32 (i 1).val
  let c1024_i32 : BitVec 32 := 1024#32
  let v19 : BitVec 32 := Scalar.muli arg1 c1024_i32
  let v20 : BitVec 32 := v19
  let v21 : Index := Scalar.indexCast v20
  let c0_10 : Index := 0#32
  ![v21.toNat, 0]
def k0_off2 (i : grid0.Coords) : Fin 4 → Nat :=
  let c0_13 : Index := 0#32
  let arg1 : BitVec 32 := BitVec.ofNat 32 (i 1).val
  let v28 : Index := Scalar.indexCast arg1
  let c0_14 : Index := 0#32
  let c0_15 : Index := 0#32
  ![0, v28.toNat, 0, 0]
@[reducible] def k0_t1_loop (i : grid0.Coords) : Scf.Loop 32 :=
  let arg1 : BitVec 32 := BitVec.ofNat 32 (i 1).val
  let c1_i32 : BitVec 32 := 1#32
  let v81 : BitVec 32 := Scalar.addi arg1 c1_i32
  let c8_i32 : BitVec 32 := 8#32
  let v82 : BitVec 32 := Scalar.subi c8_i32 v81
  let c1_i32_37 : BitVec 32 := 1#32
  let v84 : BitVec 32 := Scalar.divsi v82 c1_i32_37
  let v85 : BitVec 32 := Scalar.muli v84 c1_i32_37
  let v86 : BitVec 32 := Scalar.addi v81 v85
  let c1_i32_38 : BitVec 32 := 1#32
  ⟨v81, v86, c1_i32_38⟩
def k0_mult2 (i : grid0.Coords) (k0_t1 : Fin (k0_t1_loop i).trips) : BitVec 32 :=
  let arg1 : BitVec 32 := BitVec.ofNat 32 (i 1).val
  let c1_i32 : BitVec 32 := 1#32
  let v81 : BitVec 32 := Scalar.addi arg1 c1_i32
  let c1_i32_38 : BitVec 32 := 1#32
  let arg16 : BitVec 32 := Scf.iv v81 c1_i32_38 k0_t1
  let c1024_i32_51 : BitVec 32 := 1024#32
  let v107 : BitVec 32 := Scalar.muli arg16 c1024_i32_51
  v107
def k0_off3 (i : grid0.Coords) (k0_t1 : Fin (k0_t1_loop i).trips) : Fin 2 → Nat :=
  let arg1 : BitVec 32 := BitVec.ofNat 32 (i 1).val
  let c1_i32 : BitVec 32 := 1#32
  let v81 : BitVec 32 := Scalar.addi arg1 c1_i32
  let c1_i32_38 : BitVec 32 := 1#32
  let arg16 : BitVec 32 := Scf.iv v81 c1_i32_38 k0_t1
  let c1024_i32_51 : BitVec 32 := 1024#32
  let v107 : BitVec 32 := Scalar.muli arg16 c1024_i32_51
  let v108 : BitVec 32 := v107
  let v109 : Index := Scalar.indexCast v108
  let c0_52 : Index := 0#32
  ![v109.toNat, 0]
def k0_off4 (i : grid0.Coords) (k0_t1 : Fin (k0_t1_loop i).trips) : Fin 4 → Nat :=
  let c0_55 : Index := 0#32
  let arg1 : BitVec 32 := BitVec.ofNat 32 (i 1).val
  let c1_i32 : BitVec 32 := 1#32
  let v81 : BitVec 32 := Scalar.addi arg1 c1_i32
  let c1_i32_38 : BitVec 32 := 1#32
  let arg16 : BitVec 32 := Scf.iv v81 c1_i32_38 k0_t1
  let v116 : Index := Scalar.indexCast arg16
  let c0_56 : Index := 0#32
  let c0_57 : Index := 0#32
  ![0, v116.toNat, 0, 0]
@[reducible] def k0_t2_loop (i : grid0.Coords) : Scf.Loop 32 :=
  let arg1 : BitVec 32 := BitVec.ofNat 32 (i 1).val
  let c1_i32 : BitVec 32 := 1#32
  let v81 : BitVec 32 := Scalar.addi arg1 c1_i32
  let c8_i32 : BitVec 32 := 8#32
  let v82 : BitVec 32 := Scalar.subi c8_i32 v81
  let c1_i32_37 : BitVec 32 := 1#32
  let v84 : BitVec 32 := Scalar.divsi v82 c1_i32_37
  let v85 : BitVec 32 := Scalar.muli v84 c1_i32_37
  let v86 : BitVec 32 := Scalar.addi v81 v85
  let v83 : BitVec 32 := Scalar.addi v81 v82
  let c1_i32_39 : BitVec 32 := 1#32
  ⟨v86, v83, c1_i32_39⟩
def k0_mult3 (i : grid0.Coords) (k0_t2 : Fin (k0_t2_loop i).trips) : BitVec 32 :=
  let arg1 : BitVec 32 := BitVec.ofNat 32 (i 1).val
  let c1_i32 : BitVec 32 := 1#32
  let v81 : BitVec 32 := Scalar.addi arg1 c1_i32
  let c8_i32 : BitVec 32 := 8#32
  let v82 : BitVec 32 := Scalar.subi c8_i32 v81
  let c1_i32_37 : BitVec 32 := 1#32
  let v84 : BitVec 32 := Scalar.divsi v82 c1_i32_37
  let v85 : BitVec 32 := Scalar.muli v84 c1_i32_37
  let v86 : BitVec 32 := Scalar.addi v81 v85
  let c1_i32_39 : BitVec 32 := 1#32
  let arg16 : BitVec 32 := Scf.iv v86 c1_i32_39 k0_t2
  let c1024_i32_51 : BitVec 32 := 1024#32
  let v107 : BitVec 32 := Scalar.muli arg16 c1024_i32_51
  v107
def k0_off5 (i : grid0.Coords) (k0_t2 : Fin (k0_t2_loop i).trips) : Fin 2 → Nat :=
  let arg1 : BitVec 32 := BitVec.ofNat 32 (i 1).val
  let c1_i32 : BitVec 32 := 1#32
  let v81 : BitVec 32 := Scalar.addi arg1 c1_i32
  let c8_i32 : BitVec 32 := 8#32
  let v82 : BitVec 32 := Scalar.subi c8_i32 v81
  let c1_i32_37 : BitVec 32 := 1#32
  let v84 : BitVec 32 := Scalar.divsi v82 c1_i32_37
  let v85 : BitVec 32 := Scalar.muli v84 c1_i32_37
  let v86 : BitVec 32 := Scalar.addi v81 v85
  let c1_i32_39 : BitVec 32 := 1#32
  let arg16 : BitVec 32 := Scf.iv v86 c1_i32_39 k0_t2
  let c1024_i32_51 : BitVec 32 := 1024#32
  let v107 : BitVec 32 := Scalar.muli arg16 c1024_i32_51
  let v108 : BitVec 32 := v107
  let v109 : Index := Scalar.indexCast v108
  let c0_52 : Index := 0#32
  ![v109.toNat, 0]
def k0_off6 (i : grid0.Coords) (k0_t2 : Fin (k0_t2_loop i).trips) : Fin 4 → Nat :=
  let c0_55 : Index := 0#32
  let arg1 : BitVec 32 := BitVec.ofNat 32 (i 1).val
  let c1_i32 : BitVec 32 := 1#32
  let v81 : BitVec 32 := Scalar.addi arg1 c1_i32
  let c8_i32 : BitVec 32 := 8#32
  let v82 : BitVec 32 := Scalar.subi c8_i32 v81
  let c1_i32_37 : BitVec 32 := 1#32
  let v84 : BitVec 32 := Scalar.divsi v82 c1_i32_37
  let v85 : BitVec 32 := Scalar.muli v84 c1_i32_37
  let v86 : BitVec 32 := Scalar.addi v81 v85
  let c1_i32_39 : BitVec 32 := 1#32
  let arg16 : BitVec 32 := Scf.iv v86 c1_i32_39 k0_t2
  let v116 : Index := Scalar.indexCast arg16
  let c0_56 : Index := 0#32
  let c0_57 : Index := 0#32
  ![0, v116.toNat, 0, 0]
def k0_mult4 (i : grid0.Coords) : BitVec 32 :=
  let arg1 : BitVec 32 := BitVec.ofNat 32 (i 1).val
  let c1024_i32_45 : BitVec 32 := 1024#32
  let v95 : BitVec 32 := Scalar.muli arg1 c1024_i32_45
  v95
def k0_cond2 (i : grid0.Coords) : BitVec 1 :=
  let arg0 : BitVec 32 := BitVec.ofNat 32 (i 0).val
  let c0_i32_46 : BitVec 32 := 0#32
  let v98 : BitVec 1 := Scalar.cmpi .eq arg0 c0_i32_46
  let v99 : BitVec 32 := Scalar.extui v98
  let c0_i32_47 : BitVec 32 := 0#32
  let v100 : BitVec 1 := Scalar.cmpi .ne v99 c0_i32_47
  v100

def k0_off7 (i : grid0.Coords) : Fin 2 → Nat :=
  let arg1 : BitVec 32 := BitVec.ofNat 32 (i 1).val
  let c1024_i32_45 : BitVec 32 := 1024#32
  let v95 : BitVec 32 := Scalar.muli arg1 c1024_i32_45
  let v96 : BitVec 32 := v95
  let v113 : Index := Scalar.indexCast v96
  let c0_53 : Index := 0#32
  ![v113.toNat, 0]
def k0_cond3 (i : grid0.Coords) : BitVec 1 :=
  let arg0 : BitVec 32 := BitVec.ofNat 32 (i 0).val
  let c0_i32_48 : BitVec 32 := 0#32
  let v101 : BitVec 1 := Scalar.cmpi .sgt arg0 c0_i32_48
  let v102 : BitVec 32 := Scalar.extui v101
  let c0_i32_49 : BitVec 32 := 0#32
  let v103 : BitVec 1 := Scalar.cmpi .ne v102 c0_i32_49
  v103

def k0_off8 (i : grid0.Coords) : Fin 2 → Nat :=
  let arg1 : BitVec 32 := BitVec.ofNat 32 (i 1).val
  let c1024_i32_45 : BitVec 32 := 1024#32
  let v95 : BitVec 32 := Scalar.muli arg1 c1024_i32_45
  let v96 : BitVec 32 := v95
  let v109 : Index := Scalar.indexCast v96
  let c0_51 : Index := 0#32
  ![v109.toNat, 0]
def k0_cond4 (i : grid0.Coords) : BitVec 1 :=
  let arg1 : BitVec 32 := BitVec.ofNat 32 (i 1).val
  let c7_i32 : BitVec 32 := 7#32
  let v104 : BitVec 1 := Scalar.cmpi .eq arg1 c7_i32
  let v105 : BitVec 32 := Scalar.extui v104
  let c0_i32_50 : BitVec 32 := 0#32
  let v106 : BitVec 1 := Scalar.cmpi .ne v105 c0_i32_50
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8192x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x2048 : Shape := ⟨2, ![8192, 2048]⟩
abbrev S8192x16 : Shape := ⟨2, ![8192, 16]⟩
abbrev S8192x16x128 : Shape := ⟨3, ![8192, 16, 128]⟩
abbrev S16x8192x128 : Shape := ⟨3, ![16, 8192, 128]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩
abbrev S8192x128 : Shape := ⟨2, ![8192, 128]⟩
abbrev S16x8x1x1024 : Shape := ⟨4, ![16, 8, 1, 1024]⟩

abbrev nBuf : Space → Nat
  | .hbm => 131
  | .vmem => 0
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S8192x16, .f32⟩
  | 4 => ⟨S8192x2048, .f32⟩
  | 5 => ⟨S8192x16x128, .f32⟩
  | 6 => ⟨S16x8192x128, .f32⟩
  | 7 => ⟨S8192x16x128, .f32⟩
  | 8 => ⟨S16x8192x128, .f32⟩
  | 9 => ⟨S8192x16x128, .f32⟩
  | 10 => ⟨S16x8192x128, .f32⟩
  | 11 => ⟨S16x8192, .f32⟩
  | 12 => ⟨S16x8192, .f32⟩
  | 13 => ⟨S16x8192x8192, .f32⟩
  | 14 => ⟨S_, .f32⟩
  | 15 => ⟨S16x8192x8192, .f32⟩
  | 16 => ⟨S16x8192x8192, .f32⟩
  | 17 => ⟨S16x8192x1, .f32⟩
  | 18 => ⟨S16x1x8192, .f32⟩
  | 19 => ⟨S16x8192x8192, .f32⟩
  | 20 => ⟨S16x8192x8192, .f32⟩
  | 21 => ⟨S16x8192x8192, .f32⟩
  | 22 => ⟨S16x8192x8192, .f32⟩
  | 23 => ⟨S8192, .i32⟩
  | 24 => ⟨S1x8192, .i32⟩
  | 25 => ⟨S8192x1, .i32⟩
  | 26 => ⟨S8192x8192, .i32⟩
  | 27 => ⟨S8192x8192, .i32⟩
  | 28 => ⟨S8192x8192, .i1⟩
  | 29 => ⟨S_, .f32⟩
  | 30 => ⟨S_, .f32⟩
  | 31 => ⟨S16x8192x8192, .i1⟩
  | 32 => ⟨S16x8192x8192, .f32⟩
  | 33 => ⟨S16x8192x8192, .f32⟩
  | 34 => ⟨S_, .f32⟩
  | 35 => ⟨S16x8192x8192, .f32⟩
  | 36 => ⟨S_, .f32⟩
  | 37 => ⟨S16x8192, .f32⟩
  | 38 => ⟨S16x8192x1, .f32⟩
  | 39 => ⟨S16x8192x8192, .f32⟩
  | 40 => ⟨S16x8192x8192, .i1⟩
  | 41 => ⟨S16x8192x8192, .f32⟩
  | 42 => ⟨S_, .f32⟩
  | 43 => ⟨S16x8192, .f32⟩
  | 44 => ⟨S_, .f32⟩
  | 45 => ⟨S16x8192, .f32⟩
  | 46 => ⟨S16x8192, .f32⟩
  | 47 => ⟨S_, .f32⟩
  | 48 => ⟨S16x8192, .f32⟩
  | 49 => ⟨S16x8192, .i1⟩
  | 50 => ⟨S_, .f32⟩
  | 51 => ⟨S16x8192, .f32⟩
  | 52 => ⟨S16x8192, .i1⟩
  | 53 => ⟨S_, .f32⟩
  | 54 => ⟨S16x8192, .f32⟩
  | 55 => ⟨S_, .f32⟩
  | 56 => ⟨S16x8192, .f32⟩
  | 57 => ⟨S_, .f32⟩
  | 58 => ⟨S16x8192, .f32⟩
  | 59 => ⟨S16x8192, .f32⟩
  | 60 => ⟨S16x8192, .f32⟩
  | 61 => ⟨S16x8192x1, .f32⟩
  | 62 => ⟨S16x8192x8192, .f32⟩
  | 63 => ⟨S16x8192x8192, .f32⟩
  | 64 => ⟨S16x8192x8192, .f32⟩
  | 65 => ⟨S_, .f32⟩
  | 66 => ⟨S16x8192, .f32⟩
  | 67 => ⟨S16x8192x1, .f32⟩
  | 68 => ⟨S16x8192x8192, .f32⟩
  | 69 => ⟨S16x8192x8192, .f32⟩
  | 70 => ⟨S16x8192x1, .f32⟩
  | 71 => ⟨S_, .f32⟩
  | 72 => ⟨S16x8192x1, .f32⟩
  | 73 => ⟨S16x8192x1, .f32⟩
  | 74 => ⟨S16x8192x128, .f32⟩
  | 75 => ⟨S8192x16x128, .f32⟩
  | 76 => ⟨S8192x2048, .f32⟩
  | 77 => ⟨S8192x16x128, .f32⟩
  | 78 => ⟨S16x8192x128, .f32⟩
  | 79 => ⟨S16x128x8192, .f32⟩
  | 80 => ⟨S16x8192x128, .f32⟩
  | 81 => ⟨S16x8192x8192, .f32⟩
  | 82 => ⟨S16x8192x8192, .f32⟩
  | 83 => ⟨S16x8192x8192, .f32⟩
  | 84 => ⟨S16x8192x8192, .f32⟩
  | 85 => ⟨S_, .f32⟩
  | 86 => ⟨S16x8192, .f32⟩
  | 87 => ⟨S16x8192x1, .f32⟩
  | 88 => ⟨S16x8192x1, .f32⟩
  | 89 => ⟨S16x8192x8192, .f32⟩
  | 90 => ⟨S16x8192x8192, .f32⟩
  | 91 => ⟨S_, .f32⟩
  | 92 => ⟨S16x8192, .f32⟩
  | 93 => ⟨S16x8192x8192, .f32⟩
  | 94 => ⟨S16x8192x8192, .f32⟩
  | 95 => ⟨S16x8192x8192, .f32⟩
  | 96 => ⟨S_, .f32⟩
  | 97 => ⟨S16x8192x8192, .f32⟩
  | 98 => ⟨S16x8192x8192, .f32⟩
  | 99 => ⟨S_, .f32⟩
  | 100 => ⟨S16x8192, .f32⟩
  | 101 => ⟨S16x8192x1, .f32⟩
  | 102 => ⟨S16x8192x8192, .f32⟩
  | 103 => ⟨S_, .f32⟩
  | 104 => ⟨S16x8192, .f32⟩
  | 105 => ⟨S16x1x8192, .f32⟩
  | 106 => ⟨S_, .f32⟩
  | 107 => ⟨S16x8192, .f32⟩
  | 108 => ⟨S_, .f32⟩
  | 109 => ⟨S16x8192, .f32⟩
  | 110 => ⟨S_, .f32⟩
  | 111 => ⟨S16x8192x8192, .f32⟩
  | 112 => ⟨S16x8192x8192, .f32⟩
  | 113 => ⟨S16x8192x128, .f32⟩
  | 114 => ⟨S16x8192x128, .f32⟩
  | 115 => ⟨S8192x16, .f32⟩
  | 116 => ⟨S8192x16, .f32⟩
  | 117 => ⟨S8192x16x128, .f32⟩
  | 118 => ⟨S8192x2048, .f32⟩
  | 119 => ⟨S8192x16x128, .f32⟩
  | 120 => ⟨S8192x2048, .f32⟩
  | 121 => ⟨S8192x16x128, .f32⟩
  | 122 => ⟨S8192x2048, .f32⟩
  | 123 => ⟨S8192x2048, .bf16⟩
  | 124 => ⟨S8192x2048, .bf16⟩
  | 125 => ⟨S8192x2048, .bf16⟩
  | 126 => ⟨S_, .i32⟩
  | 127 => ⟨S_, .f32⟩
  | _ => ⟨S8192x2048, .f32⟩

abbrev hbmTy0_1 (i : Nat) : BufTy := match i % 128 with
  | 0 => ⟨S8192x128, .f32⟩
  | 1 => ⟨S16x8192, .f32⟩
  | 2 => ⟨S16x8x1x1024, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c : Ref sig .tc := ⟨.hbm, 126, rfl⟩
abbrev main_call2_v0 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]
-- ==== Kernel2.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S8x1024x2048 : Shape := ⟨3, ![8, 1024, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x2048, .bf16⟩
  | .hbm, ⟨9, _⟩ => ⟨S8192x8192, .bf16⟩
  | .hbm, ⟨10, _⟩ => ⟨S8x1024x2048, .f32⟩
  | .hbm, ⟨11, _⟩ => ⟨S8x1024x2048, .bf16⟩
  | .hbm, ⟨12, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel3.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S2048x1024 : Shape := ⟨2, ![2048, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .bf16⟩
  | .hbm, ⟨10, _⟩ => ⟨S8192x2048, .bf16⟩
  | .hbm, ⟨11, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel4.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 25
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x2048, .bf16⟩
  | .hbm, ⟨23, _⟩ => ⟨S8192x8192, .bf16⟩
  | .hbm, ⟨24, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S2048x8x1024 : Shape := ⟨3, ![2048, 8, 1024]⟩
abbrev S8x2048x1024 : Shape := ⟨3, ![8, 2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x2048, .f32⟩
  | .hbm, ⟨23, _⟩ => ⟨S2048x8192, .f32⟩
  | .hbm, ⟨24, _⟩ => ⟨S2048x8x1024, .f32⟩
  | .hbm, ⟨25, _⟩ => ⟨S8x2048x1024, .f32⟩
  | .hbm, ⟨26, _⟩ => ⟨S8x2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel5.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 27
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .bf16⟩
  | .hbm, ⟨23, _⟩ => ⟨S2048x8x1024, .f32⟩
  | .hbm, ⟨24, _⟩ => ⟨S8x2048x1024, .f32⟩
  | .hbm, ⟨25, _⟩ => ⟨S8x2048x1024, .bf16⟩
  | .hbm, ⟨26, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel6.lean ====
abbrev S8192x2048 : Shape := ⟨2, ![8192, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S8192x8192, .bf16⟩
  | .hbm, ⟨7, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S_, .f32⟩
  | .hbm, ⟨4, _⟩ => ⟨S8192x8192, .f32⟩
  | .hbm, ⟨5, _⟩ => ⟨S8192x8192, .f32⟩
  | .hbm, ⟨6, _⟩ => ⟨S8192x8192, .bf16⟩
  | .hbm, ⟨7, _⟩ => ⟨S8192x8192, .f32⟩
  | .hbm, ⟨8, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S8x1024x2048 : Shape := ⟨3, ![8, 1024, 2048]⟩
abbrev S1024x2048 : Shape := ⟨2, ![1024, 2048]⟩
abbrev S2x1024x1024 : Shape := ⟨3, ![2, 1024, 1024]⟩
abbrev S1024x1024 : Shape := ⟨2, ![1024, 1024]⟩
abbrev S2048x1024 : Shape := ⟨2, ![2048, 1024]⟩

abbrev nBuf : Space → Nat
  | .hbm => 13
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .bf16⟩
  | .hbm, ⟨10, _⟩ => ⟨S8x1024x2048, .f32⟩
  | .hbm, ⟨11, _⟩ => ⟨S8x1024x2048, .bf16⟩
  | .hbm, ⟨12, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S8192x2048 : Shape := ⟨2, ![8192, 2048]⟩
abbrev S2048x4112 : Shape := ⟨2, ![2048, 4112]⟩
abbrev S8192x16 : Shape := ⟨2, ![8192, 16]⟩
abbrev S2048x4096 : Shape := ⟨2, ![2048, 4096]⟩
abbrev S2048x16 : Shape := ⟨2, ![2048, 16]⟩
abbrev S_ : Shape := ⟨0, ![]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩
abbrev S1024x1024 : Shape := ⟨2, ![1024, 1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x4112, .f32⟩
  | .hbm, ⟨2, _⟩ => ⟨S8192x2048, .f32⟩
  | .hbm, ⟨3, _⟩ => ⟨S8192x2048, .f32⟩
  | .hbm, ⟨4, _⟩ => ⟨S8192x16, .f32⟩
  | .hbm, ⟨5, _⟩ => ⟨S2048x4112, .bf16⟩
  | .hbm, ⟨6, _⟩ => ⟨S2048x4096, .bf16⟩
  | .hbm, ⟨7, _⟩ => ⟨S2048x16, .bf16⟩
  | .hbm, ⟨8, _⟩ => ⟨S_, .i32⟩
  | .hbm, ⟨9, _⟩ => ⟨S_, .bf16⟩
  | .hbm, ⟨10, _⟩ => ⟨S2048x128, .bf16⟩
  | .hbm, ⟨11, _⟩ => ⟨S_, .i32⟩
  | .hbm, ⟨12, _⟩ => ⟨S_, .f32⟩
  | .hbm, ⟨13, _⟩ => ⟨S8192x128, .f32⟩
  | .hbm, ⟨14, _⟩ => ⟨S8192x2048, .bf16⟩
  | .hbm, ⟨15, _⟩ => ⟨S8192x2048, .bf16⟩
  | .hbm, ⟨16, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x128, .f32⟩
  | .local _ .vmem, ⟨5, _⟩ => ⟨S1024x128, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .f32⟩
  | .local _ .vmem, ⟨13, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S8192x2048 : Shape := ⟨2, ![8192, 2048]⟩
abbrev S2048x4112 : Shape := ⟨2, ![2048, 4112]⟩
abbrev S8192x16 : Shape := ⟨2, ![8192, 16]⟩
abbrev S8192x4112 : Shape := ⟨2, ![8192, 4112]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4112, .f32⟩
  | .hbm, ⟨2, _⟩ => ⟨S8192x2048, .f32⟩
  | .hbm, ⟨3, _⟩ => ⟨S8192x2048, .f32⟩
  | .hbm, ⟨4, _⟩ => ⟨S8192x16, .f32⟩
  | .hbm, ⟨5, _⟩ => ⟨S8192x4112, .f32⟩
  | .hbm, ⟨6, _⟩ => ⟨S8192x4112, .f32⟩
  | .hbm, ⟨7, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S8192x128 : Shape := ⟨2, ![8192, 128]⟩
abbrev S1024x2048 : Shape := ⟨2, ![1024, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .bf16⟩
  | .hbm, ⟨6, _⟩ => ⟨S8192x2048, .bf16⟩
  | .hbm, ⟨7, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 1], ![false, false, false]⟩

def k0_cond1 (i : grid0.Coords) : BitVec 1 :=
  let arg1 : BitVec 32 := BitVec.ofNat 32 (i 1).val
  let c0_i32_23 : BitVec 32 := 0#32
  let v93 : BitVec 1 := Scalar.cmpi .eq arg1 c0_i32_23
  let v94 : BitVec 32 := Scalar.extui v93
  let c0_i32_24 : BitVec 32 := 0#32
  let v95 : BitVec 1 := Scalar.cmpi .ne v94 c0_i32_24
  v95

def k0_cond2 (i : grid0.Coords) : BitVec 1 :=
  let arg1 : BitVec 32 := BitVec.ofNat 32 (i 1).val
  let c0_i32_25 : BitVec 32 := 0#32
  let v96 : BitVec 1 := Scalar.cmpi .sgt arg1 c0_i32_25
  let v97 : BitVec 32 := Scalar.extui v96
  let c0_i32_26 : BitVec 32 := 0#32
  let v98 : BitVec 1 := Scalar.cmpi .ne v97 c0_i32_26
  v98

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== Reference11Ideal.lean ====
abbrev S8192x2048 : Shape := ⟨2, ![8192, 2048]⟩
abbrev S2048x2048 : Shape := ⟨2, ![2048, 2048]⟩
abbrev S8192x16x128 : Shape := ⟨3, ![8192, 16, 128]⟩
abbrev S_ : Shape := ⟨0, ![]⟩
abbrev S8192x16 : Shape := ⟨2, ![8192, 16]⟩
abbrev S8192x128 : Shape := ⟨2, ![8192, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x16x128, .f32⟩
  | .hbm, ⟨7, _⟩ => ⟨S_, .f32⟩
  | .hbm, ⟨8, _⟩ => ⟨S8192x16, .f32⟩
  | .hbm, ⟨9, _⟩ => ⟨S8192x2048, .bf16⟩
  | .hbm, ⟨10, _⟩ => ⟨S_, .i32⟩
  | .hbm, ⟨11, _⟩ => ⟨S_, .f32⟩
  | .hbm, ⟨12, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel12.lean ====
abbrev S8192x2048 : Shape := ⟨2, ![8192, 2048]⟩
abbrev S2048x4112 : Shape := ⟨2, ![2048, 4112]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4112, .f32⟩
  | .hbm, ⟨2, _⟩ => ⟨S8192x2048, .bf16⟩
  | .hbm, ⟨3, _⟩ => ⟨S2048x4112, .bf16⟩
  | .hbm, ⟨4, _⟩ => ⟨S2048x4096, .bf16⟩
  | .hbm, ⟨5, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x4112 : Shape := ⟨2, ![2048, 4112]⟩
abbrev S8192x4112 : Shape := ⟨2, ![8192, 4112]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4112, .f32⟩
  | .hbm, ⟨2, _⟩ => ⟨S8192x4112, .f32⟩
  | .hbm, ⟨3, _⟩ => ⟨S8192x4096, .f32⟩
  | .hbm, ⟨4, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S8192x2048 : Shape := ⟨2, ![8192, 2048]⟩
abbrev S8192x16 : Shape := ⟨2, ![8192, 16]⟩
abbrev S_ : Shape := ⟨0, ![]⟩
abbrev S8192x128 : Shape := ⟨2, ![8192, 128]⟩
abbrev S16x8192 : Shape := ⟨2, ![16, 8192]⟩
abbrev S16x8x1x1024 : Shape := ⟨4, ![16, 8, 1, 1024]⟩
abbrev S8192x4096 : Shape := ⟨2, ![8192, 4096]⟩
abbrev S1024x256 : Shape := ⟨2, ![1024, 256]⟩
abbrev S8192x256 : Shape := ⟨2, ![8192, 256]⟩
abbrev S2x8x1x1024 : Shape := ⟨4, ![2, 8, 1, 1024]⟩
abbrev S1024x128 : Shape := ⟨2, ![1024, 128]⟩
abbrev S1x1x1x1024 : Shape := ⟨4, ![1, 1, 1, 1024]⟩
abbrev S1x1024 : Shape := ⟨2, ![1, 1024]⟩
abbrev S1x1 : Shape := ⟨2, ![1, 1]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 25
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S8192x16, .f32⟩
  | .hbm, ⟨14, _⟩ => ⟨S16x8192, .f32⟩
  | .hbm, ⟨15, _⟩ => ⟨S16x8x1x1024, .f32⟩
  | .hbm, ⟨16, _⟩ => ⟨S_, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S8192x4096, .f32⟩
  | .hbm, ⟨22, _⟩ => ⟨S8192x4096, .bf16⟩
  | .hbm, ⟨23, _⟩ => ⟨S8192x2048, .bf16⟩
  | .hbm, ⟨24, _⟩ => ⟨S8192x128, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S2x8x1x1024, .f32⟩
  | .local _ .vmem, ⟨7, _⟩ => ⟨S2x8x1x1024, .f32⟩
  | .local _ .vmem, ⟨8, _⟩ => ⟨S1024x256, .bf16⟩
  | .local _ .vmem, ⟨9, _⟩ => ⟨S1024x256, .bf16⟩
  | .local _ .vmem, ⟨10, _⟩ => ⟨S1024x128, .f32⟩
  | .local _ .vmem, ⟨11, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_off1 (i : grid0.Coords) : Fin 4 → Nat :=
  let c0 : Index := 0#32
  let arg0 : BitVec 32 := BitVec.ofNat 32 (i 0).val
  let v0 : Index := Scalar.indexCast arg0
  let c0_0 : Index := 0#32
  let c0_1 : Index := 0#32
  ![0, v0.toNat, 0, 0]
def k0_off2 (i : grid0.Coords) : Fin 4 → Nat :=
  let c1 : Index := 1#32
  let arg0 : BitVec 32 := BitVec.ofNat 32 (i 0).val
  let v4 : Index := Scalar.indexCast arg0
  let c0_2 : Index := 0#32
  let c0_3 : Index := 0#32
  ![1, v4.toNat, 0, 0]
@[reducible] def k0_t1_loop (i : grid0.Coords) : Scf.Loop 32 :=
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_9 : BitVec 32 := 1#32
  ⟨c0_i32, v19, c1_i32_9⟩
def k0_mult1 (i : grid0.Coords) (k0_t1 : Fin (k0_t1_loop i).trips) : BitVec 32 :=
  let c0_i32 : BitVec 32 := 0#32
  let c1_i32_9 : BitVec 32 := 1#32
  let arg8 : BitVec 32 := Scf.iv c0_i32 c1_i32_9 k0_t1
  let c1024_i32_48 : BitVec 32 := 1024#32
  let v132 : BitVec 32 := Scalar.muli arg8 c1024_i32_48
  v132
def k0_off3 (i : grid0.Coords) (k0_t1 : Fin (k0_t1_loop i).trips) : Fin 2 → Nat :=
  let c0_i32 : BitVec 32 := 0#32
  let c1_i32_9 : BitVec 32 := 1#32
  let arg8 : BitVec 32 := Scf.iv c0_i32 c1_i32_9 k0_t1
  let c1024_i32_48 : BitVec 32 := 1024#32
  let v132 : BitVec 32 := Scalar.muli arg8 c1024_i32_48
  let v133 : BitVec 32 := v132
  let v134 : Index := Scalar.indexCast v133
  let c0_49 : Index := 0#32
  ![v134.toNat, 0]
def k0_off4 (i : grid0.Coords) (k0_t1 : Fin (k0_t1_loop i).trips) : Fin 4 → Nat :=
  let c0_51 : Index := 0#32
  let c0_i32 : BitVec 32 := 0#32
  let c1_i32_9 : BitVec 32 := 1#32
  let arg8 : BitVec 32 := Scf.iv c0_i32 c1_i32_9 k0_t1
  let v140 : Index := Scalar.indexCast arg8
  let c0_52 : Index := 0#32
  let c0_53 : Index := 0#32
  ![0, v140.toNat, 0, 0]
def k0_off5 (i : grid0.Coords) (k0_t1 : Fin (k0_t1_loop i).trips) : Fin 2 → Nat :=
  let c0_i32 : BitVec 32 := 0#32
  let c1_i32_9 : BitVec 32 := 1#32
  let arg8 : BitVec 32 := Scf.iv c0_i32 c1_i32_9 k0_t1
  let c1024_i32_48 : BitVec 32 := 1024#32
  let v132 : BitVec 32 := Scalar.muli arg8 c1024_i32_48
  let v133 : BitVec 32 := v132
  let v165 : Index := Scalar.indexCast v133
  let c128_58 : Index := 128#32
  ![v165.toNat, 128]
def k0_off6 (i : grid0.Coords) (k0_t1 : Fin (k0_t1_loop i).trips) : Fin 4 → Nat :=
  let c1_60 : Index := 1#32
  let c0_i32 : BitVec 32 := 0#32
  let c1_i32_9 : BitVec 32 := 1#32
  let arg8 : BitVec 32 := Scf.iv c0_i32 c1_i32_9 k0_t1
  let v171 : Index := Scalar.indexCast arg8
  let c0_61 : Index := 0#32
  let c0_62 : Index := 0#32
  ![1, v171.toNat, 0, 0]
@[reducible] def k0_t2_loop (i : grid0.Coords) : Scf.Loop 32 :=
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let v16 : BitVec 32 := Scalar.addi c0_i32 v15
  let c1_i32_10 : BitVec 32 := 1#32
  ⟨v19, v16, c1_i32_10⟩
def k0_mult2 (i : grid0.Coords) (k0_t2 : Fin (k0_t2_loop i).trips) : BitVec 32 :=
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_10 : BitVec 32 := 1#32
  let arg8 : BitVec 32 := Scf.iv v19 c1_i32_10 k0_t2
  let c1024_i32_48 : BitVec 32 := 1024#32
  let v132 : BitVec 32 := Scalar.muli arg8 c1024_i32_48
  v132
def k0_off7 (i : grid0.Coords) (k0_t2 : Fin (k0_t2_loop i).trips) : Fin 2 → Nat :=
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_10 : BitVec 32 := 1#32
  let arg8 : BitVec 32 := Scf.iv v19 c1_i32_10 k0_t2
  let c1024_i32_48 : BitVec 32 := 1024#32
  let v132 : BitVec 32 := Scalar.muli arg8 c1024_i32_48
  let v133 : BitVec 32 := v132
  let v134 : Index := Scalar.indexCast v133
  let c0_49 : Index := 0#32
  ![v134.toNat, 0]
def k0_off8 (i : grid0.Coords) (k0_t2 : Fin (k0_t2_loop i).trips) : Fin 4 → Nat :=
  let c0_51 : Index := 0#32
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_10 : BitVec 32 := 1#32
  let arg8 : BitVec 32 := Scf.iv v19 c1_i32_10 k0_t2
  let v140 : Index := Scalar.indexCast arg8
  let c0_52 : Index := 0#32
  let c0_53 : Index := 0#32
  ![0, v140.toNat, 0, 0]
def k0_off9 (i : grid0.Coords) (k0_t2 : Fin (k0_t2_loop i).trips) : Fin 2 → Nat :=
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_10 : BitVec 32 := 1#32
  let arg8 : BitVec 32 := Scf.iv v19 c1_i32_10 k0_t2
  let c1024_i32_48 : BitVec 32 := 1024#32
  let v132 : BitVec 32 := Scalar.muli arg8 c1024_i32_48
  let v133 : BitVec 32 := v132
  let v165 : Index := Scalar.indexCast v133
  let c128_58 : Index := 128#32
  ![v165.toNat, 128]
def k0_off10 (i : grid0.Coords) (k0_t2 : Fin (k0_t2_loop i).trips) : Fin 4 → Nat :=
  let c1_60 : Index := 1#32
  let c0_i32 : BitVec 32 := 0#32
  let arg0 : BitVec 32 := BitVec.ofNat 32 (i 0).val
  let v15 : BitVec 32 := Scalar.subi arg0 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_10 : BitVec 32 := 1#32
  let arg8 : BitVec 32 := Scf.iv v19 c1_i32_10 k0_t2
  let v171 : Index := Scalar.indexCast arg8
  let c0_61 : Index := 0#32
  let c0_62 : Index := 0#32
  ![1, v171.toNat, 0, 0]
def k0_mult3 (i : grid0.Coords) : BitVec 32 :=
  let arg0 : BitVec 32 := BitVec.ofNat 32 (i 0).val
  let c1024_i32 : BitVec 32 := 1024#32
  let v22 : BitVec 32 := Scalar.muli arg0 c1024_i32
  v22
def k0_off11 (i : grid0.Coords) : Fin 2 → Nat :=
  let arg0 : BitVec 32 := BitVec.ofNat 32 (i 0).val
  let c1024_i32 : BitVec 32 := 1024#32
  let v22 : BitVec 32 := Scalar.muli arg0 c1024_i32
  let v23 : BitVec 32 := v22
  let v24 : Index := Scalar.indexCast v23
  let c0_11 : Index := 0#32
  ![v24.toNat, 0]
def k0_off12 (i : grid0.Coords) : Fin 2 → Nat :=
  let arg0 : BitVec 32 := BitVec.ofNat 32 (i 0).val
  let c1024_i32 : BitVec 32 := 1024#32
  let v22 : BitVec 32 := Scalar.muli arg0 c1024_i32
  let v23 : BitVec 32 := v22
  let v60 : Index := Scalar.indexCast v23
  let c128_21 : Index := 128#32
  ![v60.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel14Ideal.lean ====
variable {F : FTy → Type} [FloatOps F] [Named F]
def κ : String → Option EReal := fun
  | "inv_ln2" => some (((Real.log 2)⁻¹ : ℝ) : EReal)
  | "mask" => some ⊥
  | _ => none
-- ==== Reference14Ideal.lean ====
abbrev S8192x2048 : Shape := ⟨2, ![8192, 2048]⟩
abbrev S8192x16 : Shape := ⟨2, ![8192, 16]⟩
abbrev S8192x16x128 : Shape := ⟨3, ![8192, 16, 128]⟩
abbrev S16x8192x128 : Shape := ⟨3, ![16, 8192, 128]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x16, .f32⟩
  | .hbm, ⟨4, _⟩ => ⟨S8192x16x128, .f32⟩
  | .hbm, ⟨5, _⟩ => ⟨S16x8192x128, .f32⟩
  | .hbm, ⟨6, _⟩ => ⟨S8192x16x128, .f32⟩
  | .hbm, ⟨7, _⟩ => ⟨S16x8192x128, .f32⟩
  | .hbm, ⟨8, _⟩ => ⟨S8192x16x128, .f32⟩
  | .hbm, ⟨9, _⟩ => ⟨S16x8192x128, .f32⟩
  | .hbm, ⟨10, _⟩ => ⟨S16x8192, .f32⟩
  | .hbm, ⟨11, _⟩ => ⟨S16x8192, .f32⟩
  | .hbm, ⟨12, _⟩ => ⟨S16x8192x8192, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S16x8192x1, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S16x8192x8192, .i1⟩
  | .hbm, ⟨31, _⟩ => ⟨S16x8192x8192, .f32⟩
  | .hbm, ⟨32, _⟩ => ⟨S16x8192x8192, .f32⟩
  | .hbm, ⟨33, _⟩ => ⟨S_, .f32⟩
  | .hbm, ⟨34, _⟩ => ⟨S16x8192, .f32⟩
  | .hbm, ⟨35, _⟩ => ⟨S_, .f32⟩
  | .hbm, ⟨36, _⟩ => ⟨S16x8192, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .f32⟩
  | .hbm, ⟨41, _⟩ => ⟨S16x8192x8192, .f32⟩
  | .hbm, ⟨42, _⟩ => ⟨S_, .f32⟩
  | .hbm, ⟨43, _⟩ => ⟨S16x8192, .f32⟩
  | .hbm, ⟨44, _⟩ => ⟨S16x8192x1, .f32⟩
  | .hbm, ⟨45, _⟩ => ⟨S16x8192x8192, .f32⟩
  | .hbm, ⟨46, _⟩ => ⟨S16x8192x8192, .f32⟩
  | .hbm, ⟨47, _⟩ => ⟨S16x8192x128, .f32⟩
  | .hbm, ⟨48, _⟩ => ⟨S8192x16x128, .f32⟩
  | .hbm, ⟨49, _⟩ => ⟨S8192x2048, .f32⟩
  | .hbm, ⟨50, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Proof.Step.lean ====
module

public import proofs.«01_k».proof.Proof.Gen.KernelIdeal.Skeleton
public import Idealize.ShloMosaic.Lib.VecWindow

@[expose] public section

set_option maxRecDepth 16384

/-!
# What one grid point of the attention backward computes

The grid runs over heads `h` and key blocks `j`. A point reads a block of 1024 keys and values, and goes over the
query blocks `b = j, j + 1, …, 7`. This module names what it leaves, as functions of what its blocks hold:
`loopStep` is one unmasked query block, `diagSt` the masked block on the diagonal, `endSt` all of them.
-/

noncomputable section

namespace Cert.KernelIdeal.Body

open Idealize.ShloMosaic Idealize.ShloMosaic.TcCoe Idealize.SL.Sem
open Cert.KernelIdeal Cert.KernelIdeal.Gen
open Idealize.ShloMosaic.VecWindow (window put)

variable {F : FTy → Type} [FloatOps F] [Named F]

/-! ## Row blocks -/

theorem rows_inb (b : Fin 8) : ∀ a, (![1024 * b.val, 0] : Fin 2 → ℕ) a + S1024x128.size a ≤ S8192x128.size a :=
  Fin.forall_fin_two.mpr ⟨show 1024 * b.val + 1024 ≤ 8192 by omega, show 0 + 128 ≤ 128 by omega⟩

theorem lrow_inb (b : Fin 8) : ∀ a, (![0, b.val, 0, 0] : Fin 4 → ℕ) a + S1x1x1x1024.size a ≤ S1x8x1x1024.size a := by
  intro a
  match a with
  | ⟨0, _⟩ => show 0 + 1 ≤ 1; omega
  | ⟨1, _⟩ => show b.val + 1 ≤ 8; omega
  | ⟨2, _⟩ => show 0 + 1 ≤ 1; omega
  | ⟨3, _⟩ => show 0 + 1024 ≤ 1024; omega

/-- Rows `1024 b … 1024 b + 1023`. -/
def rows {α : Type} (b : Fin 8) (X : S8192x128.Idx → α) : S1024x128.Idx → α := window X ![1024 * b.val, 0] S1024x128.size (rows_inb b)
/-- The same rows replaced by `w`. -/
def putRows {α : Type} (b : Fin 8) (X : S8192x128.Idx → α) (w : S1024x128.Idx → α) : S8192x128.Idx → α := put X ![1024 * b.val, 0] S1024x128.size w
/-- Row `b` of the eight rows of 1024 numbers. -/
def lrow {α : Type} (b : Fin 8) (X : S1x8x1x1024.Idx → α) : S1x1x1x1024.Idx → α := window X ![0, b.val, 0, 0] S1x1x1x1024.size (lrow_inb b)
/-- The same row replaced by `w`. -/
def putLrow {α : Type} (b : Fin 8) (X : S1x8x1x1024.Idx → α) (w : S1x1x1x1024.Idx → α) : S1x8x1x1024.Idx → α := put X ![0, b.val, 0, 0] S1x1x1x1024.size w

/-! ## What a point reads, and what it carries -/

variable (F) in
/-- The blocks a point reads: queries and output gradients of the head, the keys and values of the block, the gate's
    cumulative sums by key, and per query those sums at the start of its block, the log of the normaliser and `delta`. -/
structure Ins where
  q : S8192x128.Idx → Elt F .bf16
  d : S8192x128.Idx → Elt F .bf16
  k : S1024x128.Idx → Elt F .bf16
  v : S1024x128.Idx → Elt F .bf16
  ck : S1024x128.Idx → Elt F .f32
  cr : S1x8x1x1024.Idx → Elt F .f32
  l2 : S1x8x1x1024.Idx → Elt F .f32
  dl : S1x8x1x1024.Idx → Elt F .f32

variable (F) in
/-- What is carried from a query block to the next: the gradients of the keys, the values and the gate by key, then
    the gate's gradient by query and the queries' gradient of the head. -/
structure St where
  c : FVec F S1024x128 .f32 × FVec F S1024x128 .f32 × FVec F S1024x1 .f32
  dcq : S1x8x1x1024.Idx → Elt F .f32
  dq : S8192x128.Idx → Elt F .f32

/-- `ds` of a query block off the diagonal. -/
def dsAt (i : grid0.Coords) (X : Ins F) (b : Fin 8) : FVec F S1024x1024 .f32 :=
  k0_pay19 (k0_pay29 i X.ck) (k0_pay30 X.k) (k0_pay31 X.v) (rows b X.q) (rows b X.d) (lrow b X.cr) (lrow b X.l2) (lrow b X.dl)

/-- One query block off the diagonal. -/
def loopStep (i : grid0.Coords) (X : Ins F) (b : Fin 8) (s : St F) : St F where
  c := (k0_pay4 s.c.1 (k0_pay15 (rows b X.q)) (dsAt i X b),
        k0_pay18 (k0_pay29 i X.ck) (k0_pay30 X.k) s.c.2.1 (rows b X.q) (rows b X.d) (lrow b X.cr) (lrow b X.l2),
        k0_pay20 (k0_pay29 i X.ck) (k0_pay30 X.k) (k0_pay31 X.v) s.c.2.2 (rows b X.q) (rows b X.d) (lrow b X.cr) (lrow b X.l2) (lrow b X.dl))
  dcq := putLrow b s.dcq (k0_pay2 (dsAt i X b) (k0_pay21 (lrow b s.dcq)))
  dq := putRows b s.dq (k0_pay5 (k0_pay30 X.k) (dsAt i X b) (rows b s.dq))

/-- The query block on the diagonal: the carried gradients start at zero, and pairs with the query before the key are
    left out. -/
def diagSt (i : grid0.Coords) (X : Ins F) (dcq : S1x8x1x1024.Idx → Elt F .f32) (dq : S8192x128.Idx → Elt F .f32) (b : Fin 8) : St F where
  c := (k0_pay46 (k0_pay31 X.v) (k0_pay34 (F := F)) (k0_pay37 (rows b X.q)) (k0_pay38 (rows b X.d)) (k0_pay39 i X.ck X.k (rows b X.q) (lrow b X.cr)) (lrow b X.l2) (lrow b X.dl),
        k0_pay41 (k0_pay35 (F := F)) (k0_pay38 (rows b X.d)) (k0_pay39 i X.ck X.k (rows b X.q) (lrow b X.cr)) (lrow b X.l2),
        k0_pay43 (k0_pay31 X.v) (k0_pay36 (F := F)) (k0_pay38 (rows b X.d)) (k0_pay39 i X.ck X.k (rows b X.q) (lrow b X.cr)) (lrow b X.l2) (lrow b X.dl))
  dcq := putLrow b dcq (k0_pay44 (k0_pay31 X.v) (k0_pay38 (rows b X.d)) (k0_pay39 i X.ck X.k (rows b X.q) (lrow b X.cr)) (lrow b X.l2) (lrow b X.dl) (lrow b dcq))
  dq := putRows b dq (k0_pay1 (rows b dq) (k0_pay47 (k0_pay30 X.k) (k0_pay31 X.v) (k0_pay38 (rows b X.d)) (k0_pay39 i X.ck X.k (rows b X.q) (lrow b X.cr)) (lrow b X.l2) (lrow b X.dl)))

/-- The state before trip `n` of the loop over the query blocks `j + 1, j + 2, …`. -/
def loopSt (i : grid0.Coords) (X : Ins F) (j : ℕ) (s : St F) : ℕ → St F
  | 0 => s
  | n + 1 => if h : j + 1 + n < 8 then loopStep i X ⟨j + 1 + n, h⟩ (loopSt i X j s n) else loopSt i X j s n

/-- The key block of a point. -/
def jOf (i : grid0.Coords) : Fin 8 := ⟨(i 1).val, (i 1).isLt⟩

/-- The state after all query blocks of a point, from what the two accumulators held before it. -/
def endSt (i : grid0.Coords) (X : Ins F) (dcq : S1x8x1x1024.Idx → Elt F .f32) (dq : S8192x128.Idx → Elt F .f32) : St F :=
  loopSt i X (i 1).val
    (diagSt i X (if (i 1).val = 0 then k0_pay33 (F := F) else dcq) (if (i 1).val = 0 then k0_pay32 (F := F) else dq) (jOf i)) (7 - (i 1).val)

/-- What the point leaves of the gate's gradient by key: lane `h` of the block's rows. -/
def dckOf (i : grid0.Coords) (dc : FVec F S1024x1 .f32) (old : S8192x128.Idx → Elt F .f32) : S8192x128.Idx → Elt F .f32 :=
  if (i 0).val = 0 then putRows (jOf i) old (k0_pay12 dc)
  else putRows (jOf i) old (k0_pay13 (BitVec.ofNat 32 (i 0).val) dc (rows (jOf i) old))

/-! ## The program's offsets and conditions in closed form -/

theorem off1_eq (i : grid0.Coords) : k0_off1 i = ![1024 * (i 1).val, 0] := by
  have h : ∀ j : Fin 8, (![(Scalar.indexCast (Scalar.muli (BitVec.ofNat 32 j.val) 1024#32)).toNat, 0] : Fin 2 → ℕ) = ![1024 * j.val, 0] := by decide
  exact h (jOf i)
theorem off2_eq (i : grid0.Coords) : k0_off2 i = ![0, (i 1).val, 0, 0] := by
  have h : ∀ j : Fin 8, (![0, (Scalar.indexCast (BitVec.ofNat 32 j.val)).toNat, 0, 0] : Fin 4 → ℕ) = ![0, j.val, 0, 0] := by decide
  exact h (jOf i)
theorem off7_eq (i : grid0.Coords) : k0_off7 i = ![1024 * (i 1).val, 0] := off1_eq i
theorem off8_eq (i : grid0.Coords) : k0_off8 i = ![1024 * (i 1).val, 0] := off1_eq i

theorem trips1 (i : grid0.Coords) : (k0_t1_loop i).trips = 7 - (i 1).val := by
  have h : ∀ j : Fin 8, Scf.trips (Scalar.addi (BitVec.ofNat 32 j.val) 1#32)
      (Scalar.addi (Scalar.addi (BitVec.ofNat 32 j.val) 1#32) (Scalar.muli (Scalar.divsi (Scalar.subi 8#32 (Scalar.addi (BitVec.ofNat 32 j.val) 1#32)) 1#32) 1#32)) 1#32
      = 7 - j.val := by decide
  exact h (jOf i)
theorem trips2 (i : grid0.Coords) : (k0_t2_loop i).trips = 0 := by
  have h : ∀ j : Fin 8, Scf.trips (Scalar.addi (Scalar.addi (BitVec.ofNat 32 j.val) 1#32) (Scalar.muli (Scalar.divsi (Scalar.subi 8#32 (Scalar.addi (BitVec.ofNat 32 j.val) 1#32)) 1#32) 1#32))
      (Scalar.addi (Scalar.addi (BitVec.ofNat 32 j.val) 1#32) (Scalar.subi 8#32 (Scalar.addi (BitVec.ofNat 32 j.val) 1#32))) 1#32
      = 0 := by decide
  exact h (jOf i)

theorem trip_lt (i : grid0.Coords) (n : Fin (k0_t1_loop i).trips) : n.val < 7 - (i 1).val := lt_of_lt_of_eq n.isLt (trips1 i)

/-- The query block of trip `n`. -/
def bOf (i : grid0.Coords) (n : Fin (k0_t1_loop i).trips) : Fin 8 :=
  ⟨(i 1).val + 1 + n.val, by have := trip_lt i n; omega⟩

theorem off3_eq (i : grid0.Coords) (n : Fin (k0_t1_loop i).trips) : k0_off3 i n = ![1024 * (bOf i n).val, 0] := by
  have h : ∀ j n : Fin 8, j.val + 1 + n.val < 8 →
      (![(Scalar.indexCast (Scalar.muli (Scf.iv (Scalar.addi (BitVec.ofNat 32 j.val) 1#32) 1#32 n.val) 1024#32)).toNat, 0] : Fin 2 → ℕ) = ![1024 * (j.val + 1 + n.val), 0] := by decide
  have hb := (bOf i n).isLt
  exact h (jOf i) ⟨n.val, by have := trip_lt i n; omega⟩ hb
theorem off4_eq (i : grid0.Coords) (n : Fin (k0_t1_loop i).trips) : k0_off4 i n = ![0, (bOf i n).val, 0, 0] := by
  have h : ∀ j n : Fin 8, j.val + 1 + n.val < 8 →
      (![0, (Scalar.indexCast (Scf.iv (Scalar.addi (BitVec.ofNat 32 j.val) 1#32) 1#32 n.val)).toNat, 0, 0] : Fin 4 → ℕ) = ![0, j.val + 1 + n.val, 0, 0] := by decide
  have hb := (bOf i n).isLt
  exact h (jOf i) ⟨n.val, by have := trip_lt i n; omega⟩ hb

abbrev cond1 (i : grid0.Coords) : BitVec 1 := Scalar.cmpi .ne (Scalar.extui (Scalar.cmpi .eq (BitVec.ofNat 32 (i 1).val) 0#32)) 0#32

theorem cond1_iff (i : grid0.Coords) : cond1 i = 1#1 ↔ (i 1).val = 0 := by
  have h : ∀ j : Fin 8, Scalar.cmpi .ne (Scalar.extui (Scalar.cmpi .eq (BitVec.ofNat 32 j.val) 0#32) : BitVec 32) 0#32 = 1#1 ↔ j.val = 0 := by decide
  exact h (jOf i)
theorem cond2_iff (i : grid0.Coords) : k0_cond2 i = 1#1 ↔ (i 0).val = 0 := by
  have h : ∀ j : Fin 16, Scalar.cmpi .ne (Scalar.extui (Scalar.cmpi .eq (BitVec.ofNat 32 j.val) 0#32) : BitVec 32) 0#32 = 1#1 ↔ j.val = 0 := by decide
  exact h ⟨(i 0).val, (i 0).isLt⟩
theorem cond3_iff (i : grid0.Coords) : k0_cond3 i = 1#1 ↔ (i 0).val ≠ 0 := by
  have h : ∀ j : Fin 16, Scalar.cmpi .ne (Scalar.extui (Scalar.cmpi .sgt (BitVec.ofNat 32 j.val) 0#32) : BitVec 32) 0#32 = 1#1 ↔ j.val ≠ 0 := by decide
  exact h ⟨(i 0).val, (i 0).isLt⟩
theorem cond4_iff (i : grid0.Coords) : k0_cond4 i = 1#1 ↔ (i 1).val = 7 := by
  have h : ∀ j : Fin 8, Scalar.cmpi .ne (Scalar.extui (Scalar.cmpi .eq (BitVec.ofNat 32 j.val) 7#32) : BitVec 32) 0#32 = 1#1 ↔ j.val = 7 := by decide
  exact h (jOf i)

end Cert.KernelIdeal.Body

end
-- ==== Proof.Body.lean ====
module

public import proofs.«01_k».proof.Proof.Step
public import proofs.«01_k».proof.Proof.Gen.KernelIdeal.Frame

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F] [Named F]

local notation "𝕄" => MT nD τ sig Unit (Elt F) ℕ (UR sig nD τ) ℕ

section Reads

variable {sp : Space} {s : Shape} {e : EltTy}

/-- A load of rows `1024 b …` of a whole buffer. -/
theorem readRows {e : EltTy} {m : Memref sig .tc .vmem S8192x128 e} (h : m.IsWhole) (X : S8192x128.Idx → Elt F e) (b : Fin 8)
    {off : Fin 2 → ℕ} (inb : ∀ a, off a + S1024x128.size a ≤ S8192x128.size a) (hoff : off = ![1024 * b.val, 0]) :
    m.view.readAt (Elt F) (Rect.unit (s := S8192x128) off S1024x128.size inb).toLoadRect (h.unread X) = rows b X := by
  rw [View.readAt_unit _ _ _ hoff (rows_inb b), h.read_unread]; rfl

/-- A load of row `b` of the eight. -/
theorem readLrow {e : EltTy} {m : Memref sig .tc .vmem S1x8x1x1024 e} (h : m.IsWhole) (X : S1x8x1x1024.Idx → Elt F e) (b : Fin 8)
    {off : Fin 4 → ℕ} (inb : ∀ a, off a + S1x1x1x1024.size a ≤ S1x8x1x1024.size a) (hoff : off = ![0, b.val, 0, 0]) :
    m.view.readAt (Elt F) (Rect.unit (s := S1x8x1x1024) off S1x1x1x1024.size inb).toLoadRect (h.unread X) = lrow b X := by
  rw [View.readAt_unit _ _ _ hoff (lrow_inb b), h.read_unread]; rfl

/-- A load of a whole buffer. -/
theorem readWhole {s : Shape} {e : EltTy} {m : Memref sig .tc .vmem s e} (h : m.IsWhole) (X : s.Idx → Elt F e)
    {off : Fin s.rank → ℕ} (inb : ∀ a, off a + s.size a ≤ s.size a) :
    m.view.readAt (Elt F) (Rect.unit off s.size inb).toLoadRect (h.unread X) = X := by
  rw [View.readAt_full, h.read_unread]

/-- A store of rows `1024 b …` over a buffer. -/
theorem writeRows {e : EltTy} {m : Memref sig .tc .vmem S8192x128 e} (h : m.IsWhole) (X : S8192x128.Idx → Elt F e) (b : Fin 8)
    {off : Fin 2 → ℕ} (inb : ∀ a, off a + S1024x128.size a ≤ S8192x128.size a) (hoff : off = ![1024 * b.val, 0]) (w : S1024x128.Idx → Elt F e) :
    m.view.writes (Elt F) (h.unread X) [⟨Rect.unit (s := S8192x128) off S1024x128.size inb, w⟩] = h.unread (putRows b X w) :=
  h.eq_unread (by rw [View.read_writes_cons_put _ _ _ _ _ hoff, View.writes_nil, h.read_unread]; rfl)

/-- A store of row `b` of the eight. -/
theorem writeLrow {e : EltTy} {m : Memref sig .tc .vmem S1x8x1x1024 e} (h : m.IsWhole) (X : S1x8x1x1024.Idx → Elt F e) (b : Fin 8)
    {off : Fin 4 → ℕ} (inb : ∀ a, off a + S1x1x1x1024.size a ≤ S1x8x1x1024.size a) (hoff : off = ![0, b.val, 0, 0]) (w : S1x1x1x1024.Idx → Elt F e) :
    m.view.writes (Elt F) (h.unread X) [⟨Rect.unit (s := S1x8x1x1024) off S1x1x1x1024.size inb, w⟩] = h.unread (putLrow b X w) :=
  h.eq_unread (by rw [View.read_writes_cons_put _ _ _ _ _ hoff, View.writes_nil, h.read_unread]; rfl)

/-- A store of a whole buffer. -/
theorem writeWhole {s : Shape} {e : EltTy} {m : Memref sig .tc .vmem s e} (h : m.IsWhole) (f : m.view.ty.Contents (Elt F))
    {off : Fin s.rank → ℕ} (inb : ∀ a, off a + s.size a ≤ s.size a) (w : s.Idx → Elt F e) :
    m.view.writes (Elt F) f [⟨Rect.unit off s.size inb, w⟩] = h.unread w :=
  h.eq_unread (View.read_writes_full _ _ _ _ _)

end Reads

variable (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S1x8x1x1024 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S1x8x1x1024 .f32) (harg14 : arg14.IsWhole) (arg15 : Memref sig .tc .vmem S8192x128 .f32) (harg15 : arg15.IsWhole)

/-- What a query block touches: the blocks it reads and the two accumulators at the state `s`. -/
abbrev TripRes (X : Ins F) (s : St F) : sProp 𝕄 :=
  iprop((arg2.view.loc (c : Thread nD τ) ↦[arg2.view.set]{fullShare} harg2.unread X.q) ∗ (arg3.view.loc (c : Thread nD τ) ↦[arg3.view.set]{fullShare} harg3.unread X.d) ∗ (arg7.view.loc (c : Thread nD τ) ↦[arg7.view.set]{fullShare} harg7.unread X.cr) ∗ (arg8.view.loc (c : Thread nD τ) ↦[arg8.view.set]{fullShare} harg8.unread X.l2) ∗ (arg9.view.loc (c : Thread nD τ) ↦[arg9.view.set]{fullShare} harg9.unread X.dl) ∗ (arg14.view.loc (c : Thread nD τ) ↦[arg14.view.set]{fullShare} harg14.unread s.dcq) ∗ (arg15.view.loc (c : Thread nD τ) ↦[arg15.view.set]{fullShare} harg15.unread s.dq))

/-- One trip of the loop: from the state `s`, the state after the trip's query block. -/
theorem trip (𝒱₀ : Variants) (bd : Option 𝒱₀.V) (E : Set ℕ) (X : Ins F) (s : St F) (n : Fin (k0_t1_loop i).trips) (v81 : BitVec 32) :
    TripRes c arg2 harg2 arg3 harg3 arg7 harg7 arg8 harg8 arg9 harg9 arg14 harg14 arg15 harg15 X s
      ⊢ wp frame (wpE (defs₀ (F := F)) 𝒱₀ (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 (k0_pay29 i X.ck) (k0_pay30 X.k) (k0_pay31 X.v) v81 n s.c)
          (fun acc => iprop(⌜acc = (loopStep i X (bOf i n) s).c⌝ ∗ TripRes c arg2 harg2 arg3 harg3 arg7 harg7 arg8 harg8 arg9 harg9 arg14 harg14 arg15 harg15 X (loopStep i X (bOf i n) s))) := by
  unfold k0_t1_body
  iintro ⟨H2, H3, H7, H8, H9, H14, H15⟩
  sl_exec
  sl_step
  sl_unfold_run_names

  simp only [readRows harg2 X.q (bOf i n) _ (off3_eq i n), readRows harg3 X.d (bOf i n) _ (off3_eq i n), readRows harg15 s.dq (bOf i n) _ (off3_eq i n),
    readLrow harg7 X.cr (bOf i n) _ (off4_eq i n), readLrow harg8 X.l2 (bOf i n) _ (off4_eq i n), readLrow harg9 X.dl (bOf i n) _ (off4_eq i n),
    readLrow harg14 s.dcq (bOf i n) _ (off4_eq i n), writeRows harg15 s.dq (bOf i n) _ (off3_eq i n), writeLrow harg14 s.dcq (bOf i n) _ (off4_eq i n)]
  isplitr
  · ipureintro; rfl
  · isplitl [H2]; · iexact H2
    isplitl [H3]; · iexact H3
    isplitl [H7]; · iexact H7
    isplitl [H8]; · iexact H8
    isplitl [H9]; · iexact H9
    isplitl [H14]
    · iexact H14
    · iexact H15

end Cert.KernelIdeal.Body

end
-- ==== Proof.Point.lean ====
module

public import proofs.«01_k».proof.Proof.Body
public import proofs.«01_k».proof.Proof.Gen.KernelIdeal.Frame

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F] [Named F]

local notation "𝕄" => MT nD τ sig Unit (Elt F) ℕ (UR sig nD τ) ℕ

variable (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S1x8x1x1024 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S1x8x1x1024 .f32) (harg14 : arg14.IsWhole) (arg15 : Memref sig .tc .vmem S8192x128 .f32) (harg15 : arg15.IsWhole)

/-- Before trip `k` of the loop: the carried gradients and the two accumulators are those of the state. -/
def loopInv (X : Ins F) (s : St F) (k : ℕ) (acc : FVec F S1024x128 .f32 × FVec F S1024x128 .f32 × FVec F S1024x1 .f32) : sProp 𝕄 :=
  iprop(⌜acc = (loopSt i X (i 1).val s k).c⌝ ∗ TripRes c arg2 harg2 arg3 harg3 arg7 harg7 arg8 harg8 arg9 harg9 arg14 harg14 arg15 harg15 X (loopSt i X (i 1).val s k))

theorem loopSt_succ (X : Ins F) (s : St F) (n : Fin (k0_t1_loop i).trips) :
    loopSt i X (i 1).val s (n.val + 1) = loopStep i X (bOf i n) (loopSt i X (i 1).val s n.val) := by
  have h : (i 1).val + 1 + n.val < 8 := (bOf i n).isLt
  rw [loopSt, dif_pos h]; rfl

/-- A trip keeps the invariant. -/
theorem loopInv_step (𝒱₀ : Variants) (bd : Option 𝒱₀.V) (E : Set ℕ) (X : Ins F) (s : St F) (n : Fin (k0_t1_loop i).trips) (v81 : BitVec 32)
    (acc : FVec F S1024x128 .f32 × FVec F S1024x128 .f32 × FVec F S1024x1 .f32) :
    loopInv c i arg2 harg2 arg3 harg3 arg7 harg7 arg8 harg8 arg9 harg9 arg14 harg14 arg15 harg15 X s n.val acc
      ⊢ wp frame (wpE (defs₀ (F := F)) 𝒱₀ (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 (k0_pay29 i X.ck) (k0_pay30 X.k) (k0_pay31 X.v) v81 n acc)
          (loopInv c i arg2 harg2 arg3 harg3 arg7 harg7 arg8 harg8 arg9 harg9 arg14 harg14 arg15 harg15 X s (n.val + 1)) := by
  unfold loopInv
  iintro ⟨%hacc, H⟩
  subst hacc
  rw [loopSt_succ]
  iapply (trip c i arg2 harg2 arg3 harg3 arg4 harg4 arg5 harg5 arg6 harg6 arg7 harg7 arg8 harg8 arg9 harg9 arg10 harg10 arg11 harg11 arg12 harg12 arg13 harg13 arg14 harg14 arg15 harg15 𝒱₀ bd E X _ n v81)
  iexact H

/-- The head of a point: it reads its blocks, and clears the two accumulators at the first key block. -/
theorem head_wp (𝒱₀ : Variants) (bd : Option 𝒱₀.V) (E : Set ℕ) (X : Ins F) (dcq : S1x8x1x1024.Idx → Elt F .f32) (dq : S8192x128.Idx → Elt F .f32) :
    (iprop((arg2.view.loc (c : Thread nD τ) ↦[arg2.view.set]{fullShare} harg2.unread X.q) ∗ (arg3.view.loc (c : Thread nD τ) ↦[arg3.view.set]{fullShare} harg3.unread X.d) ∗ (arg4.view.loc (c : Thread nD τ) ↦[arg4.view.set]{fullShare} harg4.unread X.k) ∗ (arg5.view.loc (c : Thread nD τ) ↦[arg5.view.set]{fullShare} harg5.unread X.v) ∗ (arg6.view.loc (c : Thread nD τ) ↦[arg6.view.set]{fullShare} harg6.unread X.ck) ∗ (arg7.view.loc (c : Thread nD τ) ↦[arg7.view.set]{fullShare} harg7.unread X.cr) ∗ (arg14.view.loc (c : Thread nD τ) ↦[arg14.view.set]{fullShare} harg14.unread dcq) ∗ (arg15.view.loc (c : Thread nD τ) ↦[arg15.view.set]{fullShare} harg15.unread dq)) : sProp 𝕄)
      ⊢ wp frame (wpE (defs₀ (F := F)) 𝒱₀ (c : Thread nD τ) bd) E (k0_part3 (F := F) i arg2 harg2 arg3 harg3 arg4 harg4 arg5 harg5 arg6 harg6 arg7 harg7 arg8 harg8 arg9 harg9 arg10 harg10 arg11 harg11 arg12 harg12 arg13 harg13 arg14 harg14 arg15 harg15)
          (fun r => iprop(⌜r = ⟨BitVec.ofNat 32 (i 0).val, BitVec.ofNat 32 (i 1).val, k0_pay29 i X.ck, k0_pay30 X.k, k0_pay31 X.v, k0_pay34 (F := F), k0_pay35 (F := F), k0_pay36 (F := F),
              Scalar.muli (BitVec.ofNat 32 (i 1).val) 1024#32, k0_pay37 (rows (jOf i) X.q), k0_pay38 (rows (jOf i) X.d), k0_pay39 i X.ck X.k (rows (jOf i) X.q) (lrow (jOf i) X.cr)⟩⌝ ∗ (arg2.view.loc (c : Thread nD τ) ↦[arg2.view.set]{fullShare} harg2.unread X.q) ∗ (arg3.view.loc (c : Thread nD τ) ↦[arg3.view.set]{fullShare} harg3.unread X.d) ∗ (arg4.view.loc (c : Thread nD τ) ↦[arg4.view.set]{fullShare} harg4.unread X.k) ∗ (arg5.view.loc (c : Thread nD τ) ↦[arg5.view.set]{fullShare} harg5.unread X.v) ∗ (arg6.view.loc (c : Thread nD τ) ↦[arg6.view.set]{fullShare} harg6.unread X.ck) ∗ (arg7.view.loc (c : Thread nD τ) ↦[arg7.view.set]{fullShare} harg7.unread X.cr) ∗ (arg14.view.loc (c : Thread nD τ) ↦[arg14.view.set]{fullShare} harg14.unread (if (i 1).val = 0 then k0_pay33 (F := F) else dcq)) ∗ (arg15.view.loc (c : Thread nD τ) ↦[arg15.view.set]{fullShare} harg15.unread (if (i 1).val = 0 then k0_pay32 (F := F) else dq)))) := by
  iintro ⟨H2, H3, H4, H5, H6, H7, H14, H15⟩
  sl_unfold [k0_part3]
  rcases Classical.em (cond1 i = 1#1) with hc1 | hc1
  · sl_exec
    sl_step
    sl_unfold_run_names
    simp only [readRows harg2 X.q (jOf i) _ (off1_eq i), readRows harg3 X.d (jOf i) _ (off1_eq i), readLrow harg7 X.cr (jOf i) _ (off2_eq i),
      readWhole harg4 X.k, readWhole harg5 X.v, readWhole harg6 X.ck, if_pos ((cond1_iff i).mp hc1), writeWhole harg14, writeWhole harg15]
    isplitr
    · ipureintro; rfl
    · isplitl [H2]; · iexact H2
      isplitl [H3]; · iexact H3
      isplitl [H4]; · iexact H4
      isplitl [H5]; · iexact H5
      isplitl [H6]; · iexact H6
      isplitl [H7]; · iexact H7
      isplitl [H14]; · iexact H14
      iexact H15
  · sl_exec
    sl_step
    sl_unfold_run_names
    simp only [readRows harg2 X.q (jOf i) _ (off1_eq i), readRows harg3 X.d (jOf i) _ (off1_eq i), readLrow harg7 X.cr (jOf i) _ (off2_eq i),
      readWhole harg4 X.k, readWhole harg5 X.v, readWhole harg6 X.ck, if_neg (fun h => hc1 ((cond1_iff i).mpr h))]
    isplitr
    · ipureintro; rfl
    · isplitl [H2]; · iexact H2
      isplitl [H3]; · iexact H3
      isplitl [H4]; · iexact H4
      isplitl [H5]; · iexact H5
      isplitl [H6]; · iexact H6
      isplitl [H7]; · iexact H7
      isplitl [H14]; · iexact H14
      iexact H15

/-- The block on the diagonal, up to its last store. -/
theorem diag_wp (𝒱₀ : Variants) (bd : Option 𝒱₀.V) (E : Set ℕ) (X : Ins F) (dcq : S1x8x1x1024.Idx → Elt F .f32) (dq : S8192x128.Idx → Elt F .f32)
    (arg1 : BitVec 32) (v10 : FVec F S1024x128 .bf16) (v12 : FVec F S1024x128 .bf16) (v16 : FVec F S1024x128 .f32) (v17 : FVec F S1024x128 .f32) (v18 : FVec F S1024x1 .f32) (v20 : BitVec 32) (v23 : FVec F S1024x128 .bf16) (v26 : FVec F S1024x128 .bf16) (v35 : FVec F S1024x1024 .f32) :
    (iprop((arg8.view.loc (c : Thread nD τ) ↦[arg8.view.set]{fullShare} harg8.unread X.l2) ∗ (arg9.view.loc (c : Thread nD τ) ↦[arg9.view.set]{fullShare} harg9.unread X.dl) ∗ (arg14.view.loc (c : Thread nD τ) ↦[arg14.view.set]{fullShare} harg14.unread dcq) ∗ (arg15.view.loc (c : Thread nD τ) ↦[arg15.view.set]{fullShare} harg15.unread dq)) : sProp 𝕄)
      ⊢ wp frame (wpE (defs₀ (F := F)) 𝒱₀ (c : Thread nD τ) bd) E (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg1 v10 v12 v16 v17 v18 v20 v23 v26 v35)
          (fun r => iprop(⌜r = ⟨k0_pay41 v17 v26 v35 (lrow (jOf i) X.l2), k0_pay43 v12 v18 v26 v35 (lrow (jOf i) X.l2) (lrow (jOf i) X.dl), k0_pay46 v12 v16 v23 v26 v35 (lrow (jOf i) X.l2) (lrow (jOf i) X.dl),
              rows (jOf i) dq, k0_pay47 v10 v12 v26 v35 (lrow (jOf i) X.l2) (lrow (jOf i) X.dl)⟩⌝ ∗ (arg8.view.loc (c : Thread nD τ) ↦[arg8.view.set]{fullShare} harg8.unread X.l2) ∗ (arg9.view.loc (c : Thread nD τ) ↦[arg9.view.set]{fullShare} harg9.unread X.dl) ∗ (arg14.view.loc (c : Thread nD τ) ↦[arg14.view.set]{fullShare} harg14.unread (putLrow (jOf i) dcq (k0_pay44 v12 v26 v35 (lrow (jOf i) X.l2) (lrow (jOf i) X.dl) (lrow (jOf i) dcq)))) ∗ (arg15.view.loc (c : Thread nD τ) ↦[arg15.view.set]{fullShare} harg15.unread dq))) := by
  iintro ⟨H8, H9, H14, H15⟩
  sl_unfold [k0_part4]
  sl_exec
  sl_step
  sl_unfold_run_names
  simp only [readLrow harg8 X.l2 (jOf i) _ (off2_eq i), readLrow harg9 X.dl (jOf i) _ (off2_eq i), readLrow harg14 dcq (jOf i) _ (off2_eq i),
    readRows harg15 dq (jOf i) _ (off1_eq i), writeLrow harg14 dcq (jOf i) _ (off2_eq i)]
  isplitr
  · ipureintro; rfl
  · isplitl [H8]; · iexact H8
    isplitl [H9]; · iexact H9
    isplitl [H14]
    · iexact H14
    · iexact H15

set_option maxHeartbeats 4000000 in
/-- One grid point: from its blocks, the carried accumulators, and whatever the results' blocks hold. -/
theorem point (𝒱₀ : Variants) (bd : Option 𝒱₀.V) (X : Ins F) (o10 : S8192x128.Idx → Elt F .bf16) (o11 o12 : S1024x128.Idx → Elt F .bf16)
    (o13 : S8192x128.Idx → Elt F .f32) (dcq : S1x8x1x1024.Idx → Elt F .f32) (dq : S8192x128.Idx → Elt F .f32) :
    (iprop((arg2.view.loc (c : Thread nD τ) ↦[arg2.view.set]{fullShare} harg2.unread X.q) ∗ (arg3.view.loc (c : Thread nD τ) ↦[arg3.view.set]{fullShare} harg3.unread X.d) ∗ (arg4.view.loc (c : Thread nD τ) ↦[arg4.view.set]{fullShare} harg4.unread X.k) ∗ (arg5.view.loc (c : Thread nD τ) ↦[arg5.view.set]{fullShare} harg5.unread X.v) ∗ (arg6.view.loc (c : Thread nD τ) ↦[arg6.view.set]{fullShare} harg6.unread X.ck) ∗ (arg7.view.loc (c : Thread nD τ) ↦[arg7.view.set]{fullShare} harg7.unread X.cr) ∗ (arg8.view.loc (c : Thread nD τ) ↦[arg8.view.set]{fullShare} harg8.unread X.l2) ∗ (arg9.view.loc (c : Thread nD τ) ↦[arg9.view.set]{fullShare} harg9.unread X.dl) ∗ (arg10.view.loc (c : Thread nD τ) ↦[arg10.view.set]{fullShare} harg10.unread o10) ∗ (arg11.view.loc (c : Thread nD τ) ↦[arg11.view.set]{fullShare} harg11.unread o11) ∗ (arg12.view.loc (c : Thread nD τ) ↦[arg12.view.set]{fullShare} harg12.unread o12) ∗ (arg13.view.loc (c : Thread nD τ) ↦[arg13.view.set]{fullShare} harg13.unread o13) ∗ (arg14.view.loc (c : Thread nD τ) ↦[arg14.view.set]{fullShare} harg14.unread dcq) ∗ (arg15.view.loc (c : Thread nD τ) ↦[arg15.view.set]{fullShare} harg15.unread dq)) : sProp 𝕄)
      ⊢ wp frame (wpE (defs₀ (F := F)) 𝒱₀ (c : Thread nD τ) bd) (Set.univ : Set ℕ)
          (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop((arg2.view.loc (c : Thread nD τ) ↦[arg2.view.set]{fullShare} harg2.unread X.q) ∗ (arg3.view.loc (c : Thread nD τ) ↦[arg3.view.set]{fullShare} harg3.unread X.d) ∗ (arg4.view.loc (c : Thread nD τ) ↦[arg4.view.set]{fullShare} harg4.unread X.k) ∗ (arg5.view.loc (c : Thread nD τ) ↦[arg5.view.set]{fullShare} harg5.unread X.v) ∗ (arg6.view.loc (c : Thread nD τ) ↦[arg6.view.set]{fullShare} harg6.unread X.ck) ∗ (arg7.view.loc (c : Thread nD τ) ↦[arg7.view.set]{fullShare} harg7.unread X.cr) ∗ (arg8.view.loc (c : Thread nD τ) ↦[arg8.view.set]{fullShare} harg8.unread X.l2) ∗ (arg9.view.loc (c : Thread nD τ) ↦[arg9.view.set]{fullShare} harg9.unread X.dl) ∗ (arg10.view.loc (c : Thread nD τ) ↦[arg10.view.set]{fullShare} harg10.unread (if (i 1).val = 7 then k0_pay14 (endSt i X dcq dq).dq else o10)) ∗ (arg11.view.loc (c : Thread nD τ) ↦[arg11.view.set]{fullShare} harg11.unread (k0_pay10 (endSt i X dcq dq).c.1)) ∗ (arg12.view.loc (c : Thread nD τ) ↦[arg12.view.set]{fullShare} harg12.unread (k0_pay11 (endSt i X dcq dq).c.2.1)) ∗ (arg13.view.loc (c : Thread nD τ) ↦[arg13.view.set]{fullShare} harg13.unread (dckOf i (endSt i X dcq dq).c.2.2 o13)) ∗ (arg14.view.loc (c : Thread nD τ) ↦[arg14.view.set]{fullShare} harg14.unread (endSt i X dcq dq).dcq) ∗ (arg15.view.loc (c : Thread nD τ) ↦[arg15.view.set]{fullShare} harg15.unread (endSt i X dcq dq).dq))) := by
  iintro ⟨H2, H3, H4, H5, H6, H7, H8, H9, H10, H11, H12, H13, H14, H15⟩
  sl_unfold [cc0_fox_bwd]
  unfold cc0_fox_bwd_skel
  rw [wp_bind]
  iapply (wp_wand_r Idealize.ShloMosaic.frame (wpE (defs₀ (F := F)) 𝒱₀ (c : Thread nD τ) bd) Set.univ)
  isplitl [H2 H3 H4 H5 H6 H7 H14 H15]
  · iapply (head_wp c i arg2 harg2 arg3 harg3 arg4 harg4 arg5 harg5 arg6 harg6 arg7 harg7 arg8 harg8 arg9 harg9 arg10 harg10 arg11 harg11 arg12 harg12 arg13 harg13 arg14 harg14 arg15 harg15 𝒱₀ bd Set.univ X dcq dq)
    isplitl [H2]; · iexact H2
    isplitl [H3]; · iexact H3
    isplitl [H4]; · iexact H4
    isplitl [H5]; · iexact H5
    isplitl [H6]; · iexact H6
    isplitl [H7]; · iexact H7
    isplitl [H14]; · iexact H14
    iexact H15
  iintro %r ⟨%hr, H2, H3, H4, H5, H6, H7, H14, H15⟩
  subst hr
  dsimp only
  rw [wp_bind]
  iapply (wp_wand_r Idealize.ShloMosaic.frame (wpE (defs₀ (F := F)) 𝒱₀ (c : Thread nD τ) bd) Set.univ)
  isplitl [H8 H9 H14 H15]
  · iapply (diag_wp c i arg2 harg2 arg3 harg3 arg4 harg4 arg5 harg5 arg6 harg6 arg7 harg7 arg8 harg8 arg9 harg9 arg10 harg10 arg11 harg11 arg12 harg12 arg13 harg13 arg14 harg14 arg15 harg15 𝒱₀ bd Set.univ X (if (i 1).val = 0 then k0_pay33 (F := F) else dcq) (if (i 1).val = 0 then k0_pay32 (F := F) else dq))
    isplitl [H8]; · iexact H8
    isplitl [H9]; · iexact H9
    isplitl [H14]
    · iexact H14
    · iexact H15
  iintro %r ⟨%hr, H8, H9, H14, H15⟩
  subst hr
  dsimp only
  sl_exec
  simp only [writeRows harg15 (if (i 1).val = 0 then k0_pay32 (F := F) else dq) (jOf i) _ (off1_eq i)]
  sl_for (loopInv c i arg2 harg2 arg3 harg3 arg7 harg7 arg8 harg8 arg9 harg9 arg14 harg14 arg15 harg15 X (diagSt i X (if (i 1).val = 0 then k0_pay33 (F := F) else dcq) (if (i 1).val = 0 then k0_pay32 (F := F) else dq) (jOf i))) $$ [H2 H3 H7 H8 H9 H14 H15]
  case region =>
    intro k acc
    exact loopInv_step c i arg2 harg2 arg3 harg3 arg4 harg4 arg5 harg5 arg6 harg6 arg7 harg7 arg8 harg8 arg9 harg9 arg10 harg10 arg11 harg11 arg12 harg12 arg13 harg13 arg14 harg14 arg15 harg15 𝒱₀ bd Set.univ X _ k _ acc
  · unfold loopInv
    isplitr
    · ipureintro; rfl
    isplitl [H2]; · iexact H2
    isplitl [H3]; · iexact H3
    isplitl [H7]; · iexact H7
    isplitl [H8]; · iexact H8
    isplitl [H9]; · iexact H9
    isplitl [H14]; · iexact H14
    iexact H15
  iintro %acc H
  unfold loopInv
  icases H with ⟨%hacc, H2, H3, H7, H8, H9, H14, H15⟩
  have ht : Scf.trips (k0_t1_loop i).lb (k0_t1_loop i).ub (k0_t1_loop i).st = 7 - (i 1).val := trips1 i
  rw [ht] at hacc
  rw [ht]
  have he : loopSt i X (i 1).val (diagSt i X (if (i 1).val = 0 then k0_pay33 (F := F) else dcq) (if (i 1).val = 0 then k0_pay32 (F := F) else dq) (jOf i)) (7 - (i 1).val)
      = endSt i X dcq dq := rfl
  rw [he] at hacc
  rw [he]
  subst hacc
  generalize hS : endSt i X dcq dq = S
  sl_exec
  sl_for (fun _ a => (iprop(⌜a = S.c⌝) : sProp 𝕄)) $$ []
  case region =>
    intro k acc
    exact absurd (lt_of_lt_of_eq k.isLt (trips2 i)) (Nat.not_lt_zero _)
  · ipureintro; rfl
  iintro %acc %hacc
  subst hacc
  sl_exec
  sl_step
  sl_unfold_run_names
  have h4 : (i 1).val = 7 → k0_cond4 i = 1#1 := (cond4_iff i).mpr
  have h4' : ¬ (i 1).val = 7 → ¬ k0_cond4 i = 1#1 := fun h h' => h ((cond4_iff i).mp h')
  rcases Classical.em ((i 0).val = 0) with hh | hh
  · have h2 : k0_cond2 i = 1#1 := (cond2_iff i).mpr hh
    have h3 : ¬ k0_cond3 i = 1#1 := fun h => (cond3_iff i).mp h hh
    rcases Classical.em ((i 1).val = 7) with hj | hj
    · simp only [dif_pos h2, dif_neg h3, dif_pos (h4 hj), if_pos hj, if_pos hh, dckOf, writeWhole harg11, writeWhole harg12, writeWhole harg10, readWhole harg15,
        writeRows harg13 o13 (jOf i) _ (off7_eq i)]
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · simp only [dif_pos h2, dif_neg h3, dif_neg (h4' hj), if_neg hj, if_pos hh, dckOf, writeWhole harg11, writeWhole harg12,
        writeRows harg13 o13 (jOf i) _ (off7_eq i)]
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
  · have h2 : ¬ k0_cond2 i = 1#1 := fun h => hh ((cond2_iff i).mp h)
    have h3 : k0_cond3 i = 1#1 := (cond3_iff i).mpr hh
    rcases Classical.em ((i 1).val = 7) with hj | hj
    · simp only [dif_neg h2, dif_pos h3, dif_pos (h4 hj), if_pos hj, if_neg hh, dckOf, writeWhole harg11, writeWhole harg12, writeWhole harg10, readWhole harg15,
        readRows harg13 o13 (jOf i) _ (off8_eq i), writeRows harg13 o13 (jOf i) _ (off8_eq i)]
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    · simp only [dif_neg h2, dif_pos h3, dif_neg (h4' hj), if_neg hj, if_neg hh, dckOf, writeWhole harg11, writeWhole harg12,
        readRows harg13 o13 (jOf i) _ (off8_eq i), writeRows harg13 o13 (jOf i) _ (off8_eq i)]
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

end Cert.KernelIdeal.Body

end
-- ==== Proof.Run.lean ====
module

public import proofs.«01_k».proof.Proof.Point
public import proofs.«01_k».proof.Proof.Gen.KernelIdeal.Frame

@[expose] public section

set_option maxRecDepth 16384

/-!
# The run of the attention backward

The relational proof data of the kernel's pipeline (what each point leaves in each window's buffer, given what it
found there), the body's obligation, and the run: every fair execution of the program ends, with each result array
made of what the points left.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat RDat Cfg Window)
open Idealize.ShloMosaic.VecWindow (window put)

variable {F : FTy → Type} [FloatOps F] [Named F]

local notation "𝕄" => MT nD τ sig Unit (Elt F) ℕ (UR sig nD τ) ℕ

/-- Holding a whole buffer at what it reads is holding it at the contents that read so. -/
theorem owns_unread (c : Thread nD τ) {s : Shape} {e : EltTy} {m : Memref sig c.2.kind .vmem s e} (h : m.IsWhole) (X : s.Idx → Elt F e) :
    (owns c m fullShare X : sProp 𝕄) = (m.view.loc c ↦[m.view.set]{fullShare} h.unread X) := by
  have h₁ : (owns c m fullShare X : sProp 𝕄) ⊢ (m.view.loc c ↦[m.view.set]{fullShare} h.unread X) := by
    unfold owns
    iintro ⟨%f, %hf, H⟩
    rw [← h.eq_unread hf]
    iexact H
  have h₂ : (m.view.loc c ↦[m.view.set]{fullShare} h.unread X : sProp 𝕄) ⊢ owns c m fullShare X := by
    unfold owns
    iintro H
    iexists h.unread X
    isplitr
    · ipureintro; exact h.read_unread X
    · iexact H
  exact BI.equiv_iff.mp ⟨h₁, h₂⟩

/-- One grid point, its buffers held at what they read. -/
theorem point_owns (c : Dev nD) (i : grid0.Coords) (arg2 : Memref sig .tc .vmem S8192x128 .bf16) (harg2 : arg2.IsWhole) (arg3 : Memref sig .tc .vmem S8192x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1x8x1x1024 .f32) (harg7 : arg7.IsWhole) (arg8 : Memref sig .tc .vmem S1x8x1x1024 .f32) (harg8 : arg8.IsWhole) (arg9 : Memref sig .tc .vmem S1x8x1x1024 .f32) (harg9 : arg9.IsWhole) (arg10 : Memref sig .tc .vmem S8192x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S8192x128 .f32) (harg13 : arg13.IsWhole) (arg14 : Memref sig .tc .vmem S1x8x1x1024 .f32) (harg14 : arg14.IsWhole) (arg15 : Memref sig .tc .vmem S8192x128 .f32) (harg15 : arg15.IsWhole)
    (𝒱₀ : Variants) (bd : Option 𝒱₀.V) (X : Ins F) (o10 : S8192x128.Idx → Elt F .bf16) (o11 o12 : S1024x128.Idx → Elt F .bf16)
    (o13 : S8192x128.Idx → Elt F .f32) (dcq : S1x8x1x1024.Idx → Elt F .f32) (dq : S8192x128.Idx → Elt F .f32) :
    (iprop(owns (c : Thread nD τ) arg2 fullShare X.q ∗ owns (c : Thread nD τ) arg3 fullShare X.d ∗ owns (c : Thread nD τ) arg4 fullShare X.k ∗ owns (c : Thread nD τ) arg5 fullShare X.v ∗ owns (c : Thread nD τ) arg6 fullShare X.ck ∗ owns (c : Thread nD τ) arg7 fullShare X.cr ∗ owns (c : Thread nD τ) arg8 fullShare X.l2 ∗ owns (c : Thread nD τ) arg9 fullShare X.dl ∗ owns (c : Thread nD τ) arg10 fullShare o10 ∗ owns (c : Thread nD τ) arg11 fullShare o11 ∗ owns (c : Thread nD τ) arg12 fullShare o12 ∗ owns (c : Thread nD τ) arg13 fullShare o13 ∗ owns (c : Thread nD τ) arg14 fullShare dcq ∗ owns (c : Thread nD τ) arg15 fullShare dq) : sProp 𝕄)
      ⊢ wp frame (wpE (defs₀ (F := F)) 𝒱₀ (c : Thread nD τ) bd) (Set.univ : Set ℕ)
          (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15)
          (fun _ => iprop(owns (c : Thread nD τ) arg2 fullShare X.q ∗ owns (c : Thread nD τ) arg3 fullShare X.d ∗ owns (c : Thread nD τ) arg4 fullShare X.k ∗ owns (c : Thread nD τ) arg5 fullShare X.v ∗ owns (c : Thread nD τ) arg6 fullShare X.ck ∗ owns (c : Thread nD τ) arg7 fullShare X.cr ∗ owns (c : Thread nD τ) arg8 fullShare X.l2 ∗ owns (c : Thread nD τ) arg9 fullShare X.dl ∗ owns (c : Thread nD τ) arg10 fullShare (if (i 1).val = 7 then k0_pay14 (endSt i X dcq dq).dq else o10) ∗ owns (c : Thread nD τ) arg11 fullShare (k0_pay10 (endSt i X dcq dq).c.1) ∗ owns (c : Thread nD τ) arg12 fullShare (k0_pay11 (endSt i X dcq dq).c.2.1) ∗ owns (c : Thread nD τ) arg13 fullShare (dckOf i (endSt i X dcq dq).c.2.2 o13) ∗ owns (c : Thread nD τ) arg14 fullShare (endSt i X dcq dq).dcq ∗ owns (c : Thread nD τ) arg15 fullShare (endSt i X dcq dq).dq)) := by
  simp only [owns_unread (c : Thread nD τ) harg2, owns_unread (c : Thread nD τ) harg3, owns_unread (c : Thread nD τ) harg4, owns_unread (c : Thread nD τ) harg5,
    owns_unread (c : Thread nD τ) harg6, owns_unread (c : Thread nD τ) harg7, owns_unread (c : Thread nD τ) harg8, owns_unread (c : Thread nD τ) harg9,
    owns_unread (c : Thread nD τ) harg10, owns_unread (c : Thread nD τ) harg11, owns_unread (c : Thread nD τ) harg12, owns_unread (c : Thread nD τ) harg13,
    owns_unread (c : Thread nD τ) harg14, owns_unread (c : Thread nD τ) harg15]
  exact point c i arg2 harg2 arg3 harg3 arg4 harg4 arg5 harg5 arg6 harg6 arg7 harg7 arg8 harg8 arg9 harg9 arg10 harg10 arg11 harg11 arg12 harg12 arg13 harg13 arg14 harg14 arg15 harg15 𝒱₀ bd X o10 o11 o12 o13 dcq dq

/-! ## The grid -/

theorem coords0 : ∀ t : Fin cfg0.N, (grid0.coords t 0).val = t.val / 8 := by decide +kernel
theorem coords1 : ∀ t : Fin cfg0.N, (grid0.coords t 1).val = t.val % 8 := by decide +kernel

variable (m : (ℓ : Loc nD τ sig) → Buf (Elt F) ℓ) (ρ : Dev nD → PrngReg)

/-- The blocks point `t` reads. -/
def insAt (c : Dev nD) (t : Fin cfg0.N) : Ins F where
  q := iblk m c 0 t
  d := iblk m c 1 t
  k := iblk m c 2 t
  v := iblk m c 3 t
  ck := iblk m c 4 t
  cr := iblk m c 5 t
  l2 := iblk m c 6 t
  dl := iblk m c 7 t

/-- The state at the end of point `n`. -/
def stAt (c : Dev nD) : (n : ℕ) → n < cfg0.N → St F
  | 0, h => endSt (grid0.coords ⟨0, h⟩) (insAt m c ⟨0, h⟩) (k0_pay33 (F := F)) (k0_pay32 (F := F))
  | n + 1, h => endSt (grid0.coords ⟨n + 1, h⟩) (insAt m c ⟨n + 1, h⟩) (stAt c n (Nat.lt_of_succ_lt h)).dcq (stAt c n (Nat.lt_of_succ_lt h)).dq

theorem pred_lt (t : Fin cfg0.N) : t.val - 1 < cfg0.N := Nat.lt_of_le_of_lt (Nat.sub_le _ _) t.isLt

/-- At the first key block of a head the accumulators' contents do not matter. -/
theorem endSt_first (i : grid0.Coords) (h : (i 1).val = 0) (X : Ins F) (dcq dcq' : S1x8x1x1024.Idx → Elt F .f32) (dq dq' : S8192x128.Idx → Elt F .f32) :
    endSt i X dcq dq = endSt i X dcq' dq' := by
  unfold endSt; rw [if_pos h, if_pos h, if_pos h, if_pos h]

/-- The state of a point from the accumulators the point before left, which matter from the second key block on. -/
theorem stAt_of_carry (c : Dev nD) (t : Fin cfg0.N) (dcq : S1x8x1x1024.Idx → Elt F .f32) (dq : S8192x128.Idx → Elt F .f32)
    (hdcq : t.val % 8 ≠ 0 → dcq = (stAt m c (t.val - 1) (pred_lt t)).dcq) (hdq : t.val % 8 ≠ 0 → dq = (stAt m c (t.val - 1) (pred_lt t)).dq) :
    endSt (grid0.coords t) (insAt m c t) dcq dq = stAt m c t.val t.isLt := by
  obtain ⟨n, hn⟩ := t
  cases n with
  | zero => exact endSt_first _ (coords1 ⟨0, hn⟩) _ _ _ _ _
  | succ n =>
    by_cases h : (n + 1) % 8 = 0
    · exact endSt_first _ ((coords1 ⟨n + 1, hn⟩).trans h) _ _ _ _ _
    · rw [hdcq h, hdq h]; rfl

/-! ## The proof data -/

/-- What point `t` leaves in each window's buffer, given what it found there (`Y`). -/
def rel (c : Dev nD) : (w : Fin cfg0.W) → Fin cfg0.N → (Y X : (cfg0.win w).block.Idx → Elt F (cfg0.win w).elt) → Prop
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun t Y X => X = if (grid0.coords t 1).val = 7 then k0_pay14 (stAt m c t.val t.isLt).dq else Y
  | 9 => fun t _ X => X = k0_pay10 (stAt m c t.val t.isLt).c.1
  | 10 => fun t _ X => X = k0_pay11 (stAt m c t.val t.isLt).c.2.1
  | 11 => fun t Y X => X = dckOf (grid0.coords t) (stAt m c t.val t.isLt).c.2.2 Y
  | 12 => fun t _ X => X = (stAt m c t.val t.isLt).dcq
  | ⟨_ + 13, h⟩ => absurd h (Nat.not_lt.2 (Nat.le_add_left _ _))

/-- Before point `n` the scratch holds the queries' gradient as the point before left it. -/
def Φn (c : Dev nD) (n : ℕ) (h : n ≤ cfg0.N) : sProp 𝕄 :=
  iprop((∃ X, ⌜∀ h0 : 0 < n, X = (stAt m c (n - 1) (Nat.lt_of_lt_of_le (Nat.sub_lt h0 Nat.one_pos) h)).dq⌝
      ∗ owns (c : Thread nD τ) (Memref.whole cc0_scratch0) fullShare X) ∗ ∃ r, prngReg c r)

/-- The proof data of the pipeline. -/
def rdat (c : Dev nD) : RDat τ (Elt F) Unit ℕ (UR sig nD τ) ℕ cfg0 c where
  A w := V m c (Pipeline.arrRef spec0 w)
  after := rel m c
  Φ n := Φn m c n.val (Nat.le_of_lt_succ n.isLt)
  q w := Pipeline.shareOf spec0 w
  owed _ := 0

theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]; unfold RDat.fetched RDat.blockOf iblk; rfl
theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]; unfold RDat.fetched RDat.blockOf iblk; rfl
theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]; unfold RDat.fetched RDat.blockOf iblk; rfl
theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  rw [hd]; unfold RDat.fetched RDat.blockOf iblk; rfl
theorem finds_4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  rw [hd]; unfold RDat.fetched RDat.blockOf iblk; rfl
theorem finds_5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  rw [hd]; unfold RDat.fetched RDat.blockOf iblk; rfl
theorem finds_6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  rw [hd]; unfold RDat.fetched RDat.blockOf iblk; rfl
theorem finds_7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  rw [hd]; unfold RDat.fetched RDat.blockOf iblk; rfl

/-- The gate's gradient by query is found as the point before left it. -/
theorem finds_12 (c : Dev nD) (t : Fin cfg0.N) (Y) (h : (rdat m c).Finds 12 t Y) (ht : t.val % 8 ≠ 0) :
    Y = (stAt m c (t.val - 1) (pred_lt t)).dcq := by
  have h0 : t.val ≠ 0 := fun e => ht (by rw [e])
  rcases ((rdat m c).finds_of_pos ((cfg0.win 12).fetch_out rfl t) h0 Y).mp h with hf | ⟨Y', -, hY⟩
  · have := (flush0_12 _).mp hf
    dsimp only at this
    omega
  · exact hY

theorem defs₀_row (t : Fin cfg0.N) : defs₀ (F := F) .tc cfg0.body (cfg0.bodyArgs t (cfg0.slots t)) = bodyAt0 t := by
  unfold defs₀; rw [Defs.onTc_tc]

set_option maxHeartbeats 2000000 in
/-- The body's obligation at every point. -/
theorem hbody (𝒱₀ : Variants) (c : Dev nD) : (rdat m c).BodyObligation (defs₀ (F := F)) 𝒱₀ () (Set.univ : Set ℕ) := by
  intro t Y hY
  have h0 := finds_0 m c t _ (hY 0)
  have h1 := finds_1 m c t _ (hY 1)
  have h2 := finds_2 m c t _ (hY 2)
  have h3 := finds_3 m c t _ (hY 3)
  have h4 := finds_4 m c t _ (hY 4)
  have h5 := finds_5 m c t _ (hY 5)
  have h6 := finds_6 m c t _ (hY 6)
  have h7 := finds_7 m c t _ (hY 7)
  have h12 := finds_12 m c t _ (hY 12)
  rw [bigSep_W0, bigSep_W0, defs₀_row]
  rw [show (rdat m c).Φ t.castSucc = Φn m c t.val (Nat.le_of_lt t.isLt) from rfl, show (rdat m c).Φ t.succ = Φn m c (t.val + 1) t.isLt from rfl]
  unfold Φn
  iintro ⟨⟨⟨%S, %hS, HS⟩, Hr⟩, HO, H0, H1, H2, H3, H4, H5, H6, H7, H8, H9, H10, H11, H12⟩
  have hst : endSt (grid0.coords t) (insAt m c t) (Y 12) S = stAt m c t.val t.isLt :=
    stAt_of_carry m c t _ _ h12 (fun h => hS (Nat.pos_of_ne_zero fun e => h (by rw [e])))
  iapply (wp_wand_r Idealize.ShloMosaic.frame (wpE (defs₀ (F := F)) 𝒱₀ (c : Thread nD τ) none) Set.univ)
  isplitl [HS H0 H1 H2 H3 H4 H5 H6 H7 H8 H9 H10 H11 H12]
  · iapply (point_owns c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) 𝒱₀ none (insAt m c t) (Y 8) (Y 9) (Y 10) (Y 11) (Y 12) S)
    rw [h0, h1, h2, h3, h4, h5, h6, h7]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  rw [hst]
  iintro %_ ⟨H0, H1, H2, H3, H4, H5, H6, H7, H8, H9, H10, H11, H12, HS⟩
  isplitl [HS Hr]
  · isplitl [HS]
    · iexists (stAt m c t.val t.isLt).dq
      isplitr
      · ipureintro; intro _; rfl
      · iexact HS
    · iexact Hr
  isplitl [HO]; · iexact HO
  isplitl [H0]
  · iexists _
    isplitr
    · ipureintro; exact h0.symm
    · iexact H0
  isplitl [H1]
  · iexists _
    isplitr
    · ipureintro; exact h1.symm
    · iexact H1
  isplitl [H2]
  · iexists _
    isplitr
    · ipureintro; exact h2.symm
    · iexact H2
  isplitl [H3]
  · iexists _
    isplitr
    · ipureintro; exact h3.symm
    · iexact H3
  isplitl [H4]
  · iexists _
    isplitr
    · ipureintro; exact h4.symm
    · iexact H4
  isplitl [H5]
  · iexists _
    isplitr
    · ipureintro; exact h5.symm
    · iexact H5
  isplitl [H6]
  · iexists _
    isplitr
    · ipureintro; exact h6.symm
    · iexact H6
  isplitl [H7]
  · iexists _
    isplitr
    · ipureintro; exact h7.symm
    · iexact H7
  isplitl [H8]
  · iexists _
    isplitr
    · ipureintro; exact rfl
    · iexact H8
  isplitl [H9]
  · iexists _
    isplitr
    · ipureintro; exact rfl
    · iexact H9
  isplitl [H10]
  · iexists _
    isplitr
    · ipureintro; exact rfl
    · iexact H10
  isplitl [H11]
  · iexists _
    isplitr
    · ipureintro; exact rfl
    · iexact H11
  iexists _
  isplitr
  · ipureintro; exact rfl
  · iexact H12

/-- The scratch and the generator before the first point, and after the last. -/
theorem hin (c : Dev nD) : Pipeline.ΦA (Val := Elt F) (U := UR sig nD τ) spec0 c ⊢ Φn m c 0 (Nat.zero_le _) := by
  unfold Pipeline.ΦA Φn
  rw [scopedRest0_eq]
  iintro ⟨⟨%f, H⟩, Hr⟩
  isplitl [H]
  · iexists f
    isplitr
    · ipureintro; intro h; exact absurd h (Nat.lt_irrefl _)
    · rw [owns_whole]; iexact H
  · iexact Hr

theorem hout (c : Dev nD) : Φn m c cfg0.N (Nat.le_refl _) ⊢ Pipeline.ΦA (Val := Elt F) (U := UR sig nD τ) spec0 c := by
  unfold Pipeline.ΦA Φn
  rw [scopedRest0_eq]
  simp only [owns_whole]
  iintro ⟨⟨%f, %_, H⟩, Hr⟩
  isplitl [H]
  · iexists f
    iexact H
  · iexact Hr

/-- The run: every fair execution of the program ends, every counter at zero, each array at what the proof data say. -/
theorem run_main :
    θ_run defs (onTc (τ := τ) (main (F := F))) ⟨m, fun _ => 0, ρ⟩ (fun r => RDat.FramePost cfg0 (rdat m) (V m) r ∧ r.2.sem = fun _ => 0) :=
  Pipeline.RDat.θ_run_frame_track_shared cfgs 0 launch₀0 defs₀ Variants.none (rdat m) m ρ main (hbody m Variants.none) (fun _ _ _ => rfl) (fun _ _ => rfl)
    (V m) (hmain m Variants.none) (fun _ _ => rfl) (hin m) (hout m) _ (fun _ h => h)

end Cert.KernelIdeal.Body

end
-- ==== Proof.Args.lean ====
module

public import proofs.«01_k».proof.Proof.Run

@[expose] public section

set_option maxRecDepth 16384

/-!
# The frame of the attention backward

Every run leaves the five argument arrays as they were, and every semaphore counter at zero.
-/

noncomputable section

namespace Cert.KernelIdeal.Body

open Idealize.ShloMosaic Idealize.ShloMosaic.TcCoe Idealize.SL.Sem
open Cert.KernelIdeal Cert.KernelIdeal.Gen
open Idealize.ShloMosaic.Pipeline (RDat)

variable {F : FTy → Type} [FloatOps F] [Named F]
variable (m : (ℓ : Loc nD τ sig) → Buf (Elt F) ℓ) (ρ : Dev nD → PrngReg)

/-- Every fair execution ends with the arguments unchanged and every counter at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c)⟩, h.2⟩)
    (run_main m ρ)

end Cert.KernelIdeal.Body

end
-- ==== Proof.Mlp.Ref.lean ====
module

public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference7Ideal.Run
public import Idealize.ShloMosaic.Lib.Pipeline.ValueKit

@[expose] public section

/-!
# The MLP's references, element by element

The parts the references share get names: the pre-activation, the activation, the gradient of the pre-activation.
-/

noncomputable section

namespace Cert.Mlp

open Idealize.ShloMosaic Idealize.ShloMosaic.TcCoe
open Cert.Reference2Ideal Cert.Reference2Ideal.Gen

section
variable {F : FTy → Type} [FloatOps F]

/-- The pre-activation `hn @ w_up`. -/
def pre (hn : FVec F S8192x2048 .f32) (wu : FVec F S2048x8192 .f32) : FVec F S8192x8192 .f32 :=
  Host.dotGeneral dot_S8192x2048_S2048x8192_S8192x8192_1_0_0_1_n_n none hn wu

/-- An array of zeros. -/
def zeros : FVec F S8192x8192 .f32 := broadcastInDim S8192x8192 ![] bcast_S_S8192x8192 (constant S_ .f32 0x00000000#32)

/-- The activation, before it is squared. -/
def act (p : FVec F S8192x8192 .f32) : FVec F S8192x8192 .f32 := maximumf p zeros

/-- The gradient of the squared activation, `dy @ w_downᵀ`. -/
def dAct (wd dy : FVec F S8192x2048 .f32) : FVec F S8192x8192 .f32 :=
  Host.dotGeneral dot_S8192x2048_S8192x2048_S8192x8192_1_1_0_0_n_n none dy wd

/-- The gradient of the pre-activation. -/
def gradPre (p d : FVec F S8192x8192 .f32) : FVec F S8192x8192 .f32 :=
  select (cmpf .ogt p zeros) (addf (mulf (act p) d) (mulf d (act p))) zeros

/-- The gradient of `w_down`. -/
def gradDown (p : FVec F S8192x8192 .f32) (dy : FVec F S8192x2048 .f32) : FVec F S8192x2048 .bf16 :=
  truncf .bf16 (transpose S8192x2048 [1, 0]
    (Host.dotGeneral Reference3Ideal.dot_S8192x2048_S8192x8192_S2048x8192_0_0_1_1_n_n none dy (mulf (act p) (act p)))
    Reference3Ideal.Facts₀.transposes_S2048x8192_S8192x2048_1_0) bitsLt_bf16_f32

/-- The gradient of `w_up`, its columns in blocks. -/
def gradUp (g : FVec F S8192x8192 .f32) (hn : FVec F S8192x2048 .f32) : FVec F Reference4Ideal.S8x2048x1024 .bf16 :=
  truncf .bf16 (transpose Reference4Ideal.S8x2048x1024 [1, 0, 2] (shapeCast _ (transpose S2048x8192 [1, 0]
    (Host.dotGeneral Reference4Ideal.dot_S8192x8192_S8192x2048_S8192x2048_0_0_1_1_n_n none g hn)
    Reference4Ideal.Facts₀.transposes_S8192x2048_S2048x8192_1_0) Reference4Ideal.Facts₀.shapeCasts_S2048x8192_S2048x8x1024)
    Reference4Ideal.Facts₀.transposes_S2048x8x1024_S8x2048x1024_1_0_2) bitsLt_bf16_f32

/-- The gradient of the MLP's input. -/
def gradIn (g : FVec F S8192x8192 .f32) (wu : FVec F S2048x8192 .f32) : FVec F S8192x2048 .f32 :=
  Host.dotGeneral Reference5Ideal.dot_S8192x8192_S2048x8192_S8192x2048_1_1_0_0_n_n none g wu

/-- The residual stream and the MLP's output. -/
def out (p : FVec F S8192x8192 .f32) (wd r : FVec F S8192x2048 .f32) : FVec F S8192x2048 .f32 :=
  addf r (Host.dotGeneral Reference7Ideal.dot_S8192x8192_S8192x2048_S8192x2048_1_0_0_1_n_n none (mulf (act p) (act p)) wd)

end

/-! ## Element by element, over the extended reals -/

theorem act_apply (p : FVec Ideal S8192x8192 .f32) (j) : act p j = max (p j) 0 := by
  pointwise [act, zeros]

theorem dAct_apply (wd dy : FVec Ideal S8192x2048 .f32) (j) :
    dAct wd dy j = ∑ k : Fin 2048, dy (ix2 (j 0) k) * wd (ix2 (j 1) k) := by
  pointwise [dAct]

/-- `d` times twice the activation, which is what the two terms of the product rule add to. -/
theorem two_act (p d : EReal) : (if 0 < p then max p 0 * d + d * max p 0 else 0) = d * (2 * max p 0) := by
  split
  · next h =>
    have h0 : (0 : EReal) ≤ max p 0 := le_max_right _ _
    have e : (2 : EReal) * max p 0 = max p 0 + max p 0 := by
      rw [← one_add_one_eq_two, EReal.right_distrib_of_nonneg zero_le_one zero_le_one, one_mul]
    rw [e, EReal.left_distrib_of_nonneg h0 h0, mul_comm]
  · next h => rw [max_eq_right (not_lt.mp h), mul_zero, mul_zero]

theorem gradPre_apply (p d : FVec Ideal S8192x8192 .f32) (j) : gradPre p d j = d j * (2 * act p j) := by
  rw [act_apply, ← two_act]
  pointwise [gradPre, act, zeros]

theorem gradDown_apply (p : FVec Ideal S8192x8192 .f32) (dy : FVec Ideal S8192x2048 .f32) (j) :
    gradDown p dy j = ∑ k : Fin 8192, dy (ix2 k (j 1)) * (act p (ix2 k (j 0)) * act p (ix2 k (j 0))) := by
  unfold gradDown
  generalize act p = u
  pointwise

theorem gradUp_apply (g : FVec Ideal S8192x8192 .f32) (hn : FVec Ideal S8192x2048 .f32) (j : Reference4Ideal.S8x2048x1024.Idx)
    (b : Fin 8192) (hb : b.val = (j 0).val * 1024 + (j 2).val) :
    gradUp g hn j = ∑ k : Fin 8192, g (ix2 k b) * hn (ix2 k (j 1)) := by
  pointwise [gradUp]
  blk_point []

theorem gradIn_apply (g : FVec Ideal S8192x8192 .f32) (wu : FVec Ideal S2048x8192 .f32) (j) :
    gradIn g wu j = ∑ k : Fin 8192, g (ix2 (j 0) k) * wu (ix2 (j 1) k) := by
  pointwise [gradIn]

theorem pre_apply (hn : FVec Ideal S8192x2048 .f32) (wu : FVec Ideal S2048x8192 .f32) (j) :
    pre hn wu j = ∑ k : Fin 2048, hn (ix2 (j 0) k) * wu (ix2 k (j 1)) := by
  pointwise [pre]

theorem out_apply (p : FVec Ideal S8192x8192 .f32) (wd r : FVec Ideal S8192x2048 .f32) (j) :
    out p wd r j = r j + ∑ k : Fin 8192, act p (ix2 (j 0) k) * act p (ix2 (j 0) k) * wd (ix2 k (j 1)) := by
  unfold out
  generalize act p = u
  pointwise

end Cert.Mlp

end
-- ==== Proof.Mlp.Dpre.lean ====
module

public import proofs.«01_k».proof.Proof.Gen.Kernel2Ideal.Frame
public import Idealize.ShloMosaic.Lib.Pipeline.ValueKit
public import Idealize.ShloMosaic.Lib.Pipeline.ReadBack
public import Idealize.ShloMosaic.Lib.Claim

@[expose] public section

/-!
# The gradient of the MLP's pre-activation: the array the call leaves

Each block of the result is computed at once: the product with a block of `w_down` and, times it, twice the activation.
-/

noncomputable section

namespace Cert.Kernel2Ideal.Value

open Idealize.ShloMosaic Idealize.ShloMosaic.TcCoe Idealize.SL.Sem
open Cert.Kernel2Ideal Cert.Kernel2Ideal.Gen

variable (m : (ℓ : Loc nD τ sig) → Buf (Elt Ideal) ℓ)

/-- Which device's block a column lies in. -/
def blkOf (k : Fin 8192) : Fin 8 := ⟨k.val / 1024, by omega⟩
/-- Which column of that block it is. -/
def inBlk (k : Fin 8192) : Fin 1024 := ⟨k.val % 1024, by omega⟩

/-- `(∑ k, Y i k * W (j / 1024) (j % 1024) k) * (2 * U i j)`. -/
def dPre (Y : FVec Ideal S8192x2048 .bf16) (W : FVec Ideal S8x1024x2048 .bf16) (U : FVec Ideal S8192x8192 .bf16) :
    FVec Ideal S8192x8192 .bf16 :=
  fun j => (∑ k : Fin 2048, Y (ix2 (j 0) k) * W (ix3 (blkOf (j 1)) (inBlk (j 1)) k)) * (2 * U j)

/-- The word of the constant two. -/
theorem two : Ideal.ofBits .f32 1073741824#32 = (2 : EReal) := by
  have h : Ideal.ofBits .f32 1073741824#32 = ((2 : ℝ) : EReal) := by
    simp [Ideal.ofBits, Ideal.ieee, -EReal.coe_mul]; norm_num
  rw [h]; rfl

/-- A point's block. -/
theorem hpay (w : FVec Ideal S1x1024x2048 .bf16) (y : FVec Ideal S1024x2048 .bf16) (u : FVec Ideal S1024x1024 .bf16) (j) :
    k0_pay1 (F := Ideal) w y u j = (∑ k : Fin 2048, y (ix2 (j 0) k) * w (ix3 0 (j 1) k)) * (2 * u j) := by
  pointwise [k0_pay1]
  rw [two]

/-- The blocks the windows are on. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] := (by decide +kernel : ∀ t : Fin grid0.N, _)

/-- The result, of the three arrays the region finds. -/
theorem final (c : Dev nD) : (dats m 0 c).arrAt 3 (cfgs 0).N
    = dPre (V m c main_v2) (V m c main_v5) (V m c main_v3) := by
  refine (dats m 0 c).arrAt_eq_of_covers 3 _ (by decide +kernel) fun t hf y => ?_
  blk_simp
  rw [after0_3]
  unfold outsAt0
  frame_out
  rw [hpay]
  unfold dPre
  blk_point [iblk, blkOf, inBlk, idx t]

end Cert.Kernel2Ideal.Value

end
-- ==== Proof.Mlp.DwDown.lean ====
module

public import proofs.«01_k».proof.Proof.Gen.Kernel3Ideal.Frame
public import Idealize.ShloMosaic.Lib.Pipeline.ValueKit
public import Idealize.ShloMosaic.Lib.Pipeline.ReadBack
public import Idealize.ShloMosaic.Lib.Claim

@[expose] public section

/-!
# The gradient of the MLP's `w_down`: the array the call leaves

The call walks the tokens in four parts for each block of the result; the running sum lives in a scratch block that is
carried from part to part and is written out at the last.
-/

noncomputable section

namespace Cert.Kernel3Ideal.Value

open Idealize.ShloMosaic Idealize.ShloMosaic.TcCoe Idealize.SL.Sem
open Cert.Kernel3Ideal Cert.Kernel3Ideal.Gen

variable (m : (ℓ : Loc nD τ sig) → Buf (Elt Ideal) ℓ)

/-- The product over the tokens: `∑ k, X k i * Y k j`. -/
def tokens (X : FVec Ideal S8192x8192 .bf16) (Y : FVec Ideal S8192x2048 .bf16) : FVec Ideal S8192x2048 .bf16 :=
  fun j => ∑ k : Fin 8192, X (ix2 k (j 0)) * Y (ix2 k (j 1))

/-- The first part of a run: one product. -/
theorem hpay1 (y x : FVec Ideal S2048x1024 .bf16) (j) :
    k0_pay1 (F := Ideal) y x j = ∑ k : Fin 2048, x (ix2 k (j 0)) * y (ix2 k (j 1)) := by
  pointwise [k0_pay1]

/-- A later part: the running sum and one product. -/
theorem hpay2 (acc : FVec Ideal S1024x1024 .f32) (y x : FVec Ideal S2048x1024 .bf16) (j) :
    k0_pay2 (F := Ideal) acc y x j = acc j + ∑ k : Fin 2048, x (ix2 k (j 0)) * y (ix2 k (j 1)) := by
  pointwise [k0_pay2]

/-- What is written out is the running sum. -/
theorem hpay3 (acc : FVec Ideal S1024x1024 .f32) (j) : k0_pay3 (F := Ideal) acc j = acc j := by
  pointwise [k0_pay3]

/-- The blocks the windows are on. -/
theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

/-- The part of the product a point adds. -/
def part (c : Dev nD) (t : Fin cfg0.N) (j : S1024x1024.Idx) : EReal :=
  ∑ k : Fin 2048, (show FVec Ideal S2048x1024 .bf16 from iblk m c 0 t) (ix2 k (j 0))
    * (show FVec Ideal S2048x1024 .bf16 from iblk m c 1 t) (ix2 k (j 1))

/-- The scratch after a run's first part. -/
theorem reset (c : Dev nD) (t : Fin cfg0.N) (h : t.val % 4 = 0) (j : S1024x1024.Idx) :
    (outsAt0 m c t.val t.isLt).2 j = (fun _ => 0 : S1024x1024.Idx → EReal) j + part m c t j := by
  rw [outsAt0_A m c t h (by omega) (by omega)]
  frame_out
  rw [hpay1, part, zero_add]

/-- The scratch after a later part. -/
theorem step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]
    frame_out
    rw [hpay2, part, read_unread_whole]
  · rw [outsAt0_B m c t h (by omega) h3]
    frame_out
    rw [hpay2, part, read_unread_whole]

/-- At a run's last part the block written out is the scratch. -/
theorem last (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  frame_out
  rw [hpay3]

/-- The result: the product over the tokens of the two arrays the region finds. -/
theorem final (c : Dev nD) : (dats m 0 c).arrAt 2 (cfgs 0).N
    = tokens (V m c main_v3) (V m c main_v4) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => 0) (part m c)
      (reset m c) (step m c) t ((flush0_2 t).mp hf) _, zero_add]
  unfold part tokens
  refine Fin.sum_mul_add_congr fun s k hl => ?_
  blk_point [iblk, idx t, idx ⟨_, Pipeline.run_point_lt_of_flush t ((flush0_2 t).mp hf) s⟩]

end Cert.Kernel3Ideal.Value

end
-- ==== Proof.Mlp.DwUp.lean ====
module

public import proofs.«01_k».proof.Proof.Gen.Kernel4Ideal.Frame
public import Idealize.ShloMosaic.Lib.Pipeline.ValueKit
public import Idealize.ShloMosaic.Lib.Pipeline.ReadBack
public import Idealize.ShloMosaic.Lib.Claim

@[expose] public section

/-!
# The gradient of the MLP's `w_up`: the array the call leaves

The call walks the tokens in four parts for each block of the result; the running sum lives in a scratch block that is
carried from part to part and is written out at the last.
-/

noncomputable section

namespace Cert.Kernel4Ideal.Value

open Idealize.ShloMosaic Idealize.ShloMosaic.TcCoe Idealize.SL.Sem
open Cert.Kernel4Ideal Cert.Kernel4Ideal.Gen

variable (m : (ℓ : Loc nD τ sig) → Buf (Elt Ideal) ℓ)

/-- The column of the whole array that is column `j` of device `b`'s block. -/
def colAt (b : Fin 8) (j : Fin 1024) : Fin 8192 := ⟨b.val * 1024 + j.val, by omega⟩

/-- The product over the tokens, the columns in blocks: `∑ k, X k i * Y k (1024 b + j)`. -/
def tokens (X : FVec Ideal S8192x2048 .bf16) (Y : FVec Ideal S8192x8192 .bf16) : FVec Ideal S8x2048x1024 .bf16 :=
  fun j => ∑ k : Fin 8192, X (ix2 k (j 1)) * Y (ix2 k (colAt (j 0) (j 2)))

/-- The first part of a run: one product. -/
theorem hpay1 (y x : FVec Ideal S2048x1024 .bf16) (j) :
    k0_pay1 (F := Ideal) y x j = ∑ k : Fin 2048, x (ix2 k (j 0)) * y (ix2 k (j 1)) := by
  pointwise [k0_pay1]

/-- A later part: the running sum and one product. -/
theorem hpay2 (acc : FVec Ideal S1024x1024 .f32) (y x : FVec Ideal S2048x1024 .bf16) (j) :
    k0_pay2 (F := Ideal) acc y x j = acc j + ∑ k : Fin 2048, x (ix2 k (j 0)) * y (ix2 k (j 1)) := by
  pointwise [k0_pay2]

/-- What is written out is the running sum. -/
theorem hpay3 (acc : FVec Ideal S1024x1024 .f32) (j) : k0_pay3 (F := Ideal) acc j = acc (ix2 (j 1) (j 2)) := by
  pointwise [k0_pay3]

/-- The blocks the windows are on. -/
theorem idx : ∀ t : Fin cfg0.N, win0_0.index t = ![t.val % 4, t.val / 32] ∧ win0_1.index t = ![t.val % 4, t.val / 4 % 8]
    ∧ win0_2.index t = ![t.val / 4 % 8, t.val / 32, 0] := (by decide +kernel : ∀ t : Fin grid0.N, _)

/-- The part of the product a point adds. -/
def part (c : Dev nD) (t : Fin cfg0.N) (j : S1024x1024.Idx) : EReal :=
  ∑ k : Fin 2048, (show FVec Ideal S2048x1024 .bf16 from iblk m c 0 t) (ix2 k (j 0))
    * (show FVec Ideal S2048x1024 .bf16 from iblk m c 1 t) (ix2 k (j 1))

/-- The scratch after a run's first part. -/
theorem reset (c : Dev nD) (t : Fin cfg0.N) (h : t.val % 4 = 0) (j : S1024x1024.Idx) :
    (outsAt0 m c t.val t.isLt).2 j = (fun _ => 0 : S1024x1024.Idx → EReal) j + part m c t j := by
  rw [outsAt0_A m c t h (by omega) (by omega)]
  frame_out
  rw [hpay1, part, zero_add]

/-- The scratch after a later part. -/
theorem step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]
    frame_out
    rw [hpay2, part, read_unread_whole]
  · rw [outsAt0_B m c t h (by omega) h3]
    frame_out
    rw [hpay2, part, read_unread_whole]

/-- At a run's last part the block written out is the scratch. -/
theorem last (c : Dev nD) (t : Fin cfg0.N) (h : t.val % 4 = 3) (j : S1x1024x1024.Idx) :
    (outsAt0 m c t.val t.isLt).1 j = (outsAt0 m c t.val t.isLt).2 (ix2 (j 1) (j 2)) := by
  rw [outsAt0_C m c t (by omega) (by omega) h]
  frame_out
  rw [hpay3]

/-- The result: the product over the tokens of the two arrays the region finds. -/
theorem final (c : Dev nD) : (dats m 0 c).arrAt 2 (cfgs 0).N
    = tokens (V m c main_v13) (V m c main_v14) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => 0) (part m c)
      (reset m c) (step m c) t ((flush0_2 t).mp hf) _, zero_add]
  unfold part tokens
  refine Fin.sum_mul_add_congr fun s k hl => ?_
  blk_point [iblk, colAt, idx t, idx ⟨_, Pipeline.run_point_lt_of_flush t ((flush0_2 t).mp hf) s⟩]

end Cert.Kernel4Ideal.Value

end
-- ==== Proof.Mlp.Dhn.lean ====
module

public import proofs.«01_k».proof.Proof.Gen.Kernel5Ideal.Frame
public import Idealize.ShloMosaic.Lib.Pipeline.ValueKit
public import Idealize.ShloMosaic.Lib.Pipeline.ReadBack
public import Idealize.ShloMosaic.Lib.Claim

@[expose] public section

/-!
# The gradient of the MLP's input: the array the call leaves

The call walks the inner columns in four parts for each block of the result; the running sum lives in a scratch block that is
carried from part to part and is written out at the last.
-/

noncomputable section

namespace Cert.Kernel5Ideal.Value

open Idealize.ShloMosaic Idealize.ShloMosaic.TcCoe Idealize.SL.Sem
open Cert.Kernel5Ideal Cert.Kernel5Ideal.Gen

variable (m : (ℓ : Loc nD τ sig) → Buf (Elt Ideal) ℓ)

/-- Which device's block a column lies in. -/
def blkOf (k : Fin 8192) : Fin 8 := ⟨k.val / 1024, by omega⟩
/-- Which column of that block it is. -/
def inBlk (k : Fin 8192) : Fin 1024 := ⟨k.val % 1024, by omega⟩

/-- The product over the inner columns, the second factor in blocks: `∑ k, X i k * W (k / 1024) j (k % 1024)`. -/
def columns (X : FVec Ideal S8192x8192 .bf16) (W : FVec Ideal S8x2048x1024 .bf16) : FVec Ideal S8192x2048 .f32 :=
  fun j => ∑ k : Fin 8192, X (ix2 (j 0) k) * W (ix3 (blkOf k) (j 1) (inBlk k))

/-- Which of two blocks a column lies in. -/
def blkOf2 (k : Fin 2048) : Fin 2 := ⟨k.val / 1024, by omega⟩
/-- Which column of that block it is. -/
def inBlk2 (k : Fin 2048) : Fin 1024 := ⟨k.val % 1024, by omega⟩

/-- A sum over the columns of two blocks is the two blocks' sums. -/
theorem sum_two (f : Fin 2048 → EReal) :
    (∑ k : Fin 1024, f ⟨k.val, by omega⟩) + ∑ k : Fin 1024, f ⟨1024 + k.val, by omega⟩ = ∑ k : Fin 2048, f k :=
  (Fin.sum_univ_add (a := 1024) (b := 1024) f).symm

/-- The first part of a run: one product. -/
theorem hpay1 (w : FVec Ideal S2x1024x1024 .bf16) (x : FVec Ideal S1024x2048 .bf16) (j) :
    k0_pay1 (F := Ideal) w x j = ∑ k : Fin 2048, x (ix2 (j 0) k) * w (ix3 (blkOf2 k) (j 1) (inBlk2 k)) := by
  pointwise [k0_pay1]
  rw [← sum_two]
  blk_point [blkOf2, inBlk2]

/-- A later part: the running sum and one product. -/
theorem hpay2 (acc : FVec Ideal S1024x1024 .f32) (w : FVec Ideal S2x1024x1024 .bf16) (x : FVec Ideal S1024x2048 .bf16) (j) :
    k0_pay2 (F := Ideal) acc w x j = acc j + ∑ k : Fin 2048, x (ix2 (j 0) k) * w (ix3 (blkOf2 k) (j 1) (inBlk2 k)) := by
  pointwise [k0_pay2]
  rw [← sum_two]
  blk_point [blkOf2, inBlk2]

/-- The blocks the windows are on. -/
theorem idx : ∀ t : Fin cfg0.N, win0_0.index t = ![t.val / 8, t.val % 4] ∧ win0_1.index t = ![t.val % 4, t.val / 4 % 2, 0]
    ∧ win0_2.index t = ![t.val / 8, t.val / 4 % 2] := (by decide +kernel : ∀ t : Fin grid0.N, _)

/-- The part of the product a point adds. -/
def part (c : Dev nD) (t : Fin cfg0.N) (j : S1024x1024.Idx) : EReal :=
  ∑ k : Fin 2048, (show FVec Ideal S1024x2048 .bf16 from iblk m c 0 t) (ix2 (j 0) k)
    * (show FVec Ideal S2x1024x1024 .bf16 from iblk m c 1 t) (ix3 (blkOf2 k) (j 1) (inBlk2 k))

/-- The scratch after a run's first part. -/
theorem reset (c : Dev nD) (t : Fin cfg0.N) (h : t.val % 4 = 0) (j : S1024x1024.Idx) :
    (outsAt0 m c t.val t.isLt).2 j = (fun _ => 0 : S1024x1024.Idx → EReal) j + part m c t j := by
  rw [outsAt0_A m c t h (by omega) (by omega)]
  frame_out
  rw [hpay1, part, zero_add]

/-- The scratch after a later part. -/
theorem step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]
    frame_out
    rw [hpay2, part, read_unread_whole]
  · rw [outsAt0_B m c t h (by omega) h3]
    frame_out
    rw [hpay2, part, read_unread_whole]

/-- At a run's last part the block written out is the scratch. -/
theorem last (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  frame_out

/-- The result: the product over the inner columns of the two arrays the region finds. -/
theorem final (c : Dev nD) : (dats m 0 c).arrAt 2 (cfgs 0).N
    = columns (V m c main_v13) (V m c main_v16) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => 0) (part m c)
      (reset m c) (step m c) t ((flush0_2 t).mp hf) _, zero_add]
  unfold part columns
  refine Fin.sum_mul_add_congr fun s k hl => ?_
  blk_point [iblk, blkOf, inBlk, blkOf2, inBlk2, idx t, idx ⟨_, Pipeline.run_point_lt_of_flush t ((flush0_2 t).mp hf) s⟩]

end Cert.Kernel5Ideal.Value

end
-- ==== Proof.Mlp.Values.lean ====
module

public import proofs.«01_k».proof.Proof.Mlp.Ref
public import proofs.«01_k».proof.Proof.Mlp.Dpre
public import proofs.«01_k».proof.Proof.Mlp.DwDown
public import proofs.«01_k».proof.Proof.Mlp.DwUp
public import proofs.«01_k».proof.Proof.Mlp.Dhn

@[expose] public section

/-!
# The MLP's gradients: the arrays the calls leave are the references' results

For each call, what its operands hold as functions of the program's arguments, and its result in the reference's terms.
-/

noncomputable section

open Idealize.ShloMosaic Idealize.ShloMosaic.TcCoe Idealize.SL.Sem

namespace Cert.Kernel2Ideal.Value

open Cert.Kernel2Ideal Cert.Kernel2Ideal.Gen
open Cert.Mlp (pre act dAct gradPre gradDown gradUp gradIn)

variable (m : (ℓ : Loc nD τ sig) → Buf (Elt Ideal) ℓ) (c : Dev nD)

/-- The arguments. -/
def hn : FVec Ideal S8192x2048 .f32 := m ((c.tc : Thread nD τ).loc main_arg0)
def wu : FVec Ideal S2048x8192 .f32 := m ((c.tc : Thread nD τ).loc main_arg1)
def wd : FVec Ideal S8192x2048 .f32 := m ((c.tc : Thread nD τ).loc main_arg2)
def dy : FVec Ideal S8192x2048 .f32 := m ((c.tc : Thread nD τ).loc main_arg3)

/-- The operands. -/
theorem V2 : V m c main_v2 = (truncf .bf16 (dy m c) bitsLt_bf16_f32 : FVec Ideal S8192x2048 .bf16) := by
  entry_read; rfl
theorem V3 : V m c main_v3 = (truncf .bf16 (act (pre (hn m c) (wu m c))) bitsLt_bf16_f32 : FVec Ideal S8192x8192 .bf16) := by
  entry_read; rfl
theorem V5 : V m c main_v5 = (truncf .bf16 (shapeCast S8x1024x2048 (wd m c) shapeCasts_S8192x2048_S8x1024x2048) bitsLt_bf16_f32
    : FVec Ideal S8x1024x2048 .bf16) := by
  entry_read; rfl

/-- A row of `w_down` in its block. -/
theorem wd_block (w : FVec Ideal S8192x2048 .f32) (j : Fin 8192) (k : Fin 2048) :
    (truncf .bf16 (shapeCast S8x1024x2048 w shapeCasts_S8192x2048_S8x1024x2048) bitsLt_bf16_f32 : FVec Ideal S8x1024x2048 .bf16)
      (ix3 (blkOf j) (inBlk j) k) = w (ix2 j k) := by
  pointwise
  blk_ext [blkOf, inBlk]

/-- The result is the gradient of the pre-activation. -/
theorem value : (dats m 0 c).arrAt 3 (cfgs 0).N
    = (truncf .bf16 (gradPre (pre (hn m c) (wu m c)) (dAct (wd m c) (dy m c))) bitsLt_bf16_f32 : FVec Ideal S8192x8192 .bf16) := by
  rw [final, V2, V3, V5]
  funext j
  refine Eq.trans ?_ (Cert.Mlp.gradPre_apply _ _ j).symm
  rw [Cert.Mlp.dAct_apply]
  refine congrArg (· * (2 * act (pre (hn m c) (wu m c)) j)) (Finset.sum_congr rfl fun k _ => ?_)
  exact congrArg (dy m c (ix2 (j 0) k) * ·) (wd_block _ _ _)

end Cert.Kernel2Ideal.Value

namespace Cert.Kernel3Ideal.Value

open Cert.Kernel3Ideal Cert.Kernel3Ideal.Gen
open Cert.Mlp (pre act dAct gradPre gradDown gradUp gradIn)

variable (m : (ℓ : Loc nD τ sig) → Buf (Elt Ideal) ℓ) (c : Dev nD)

/-- The arguments. -/
def hn : FVec Ideal S8192x2048 .f32 := m ((c.tc : Thread nD τ).loc main_arg0)
def wu : FVec Ideal S2048x8192 .f32 := m ((c.tc : Thread nD τ).loc main_arg1)
def wd : FVec Ideal S8192x2048 .f32 := m ((c.tc : Thread nD τ).loc main_arg2)
def dy : FVec Ideal S8192x2048 .f32 := m ((c.tc : Thread nD τ).loc main_arg3)

/-- The operands. -/
theorem V3 : V m c main_v3 = (truncf .bf16 (mulf (act (pre (hn m c) (wu m c))) (act (pre (hn m c) (wu m c)))) bitsLt_bf16_f32
    : FVec Ideal S8192x8192 .bf16) := by
  entry_read; rfl
theorem V4 : V m c main_v4 = (truncf .bf16 (dy m c) bitsLt_bf16_f32 : FVec Ideal S8192x2048 .bf16) := by
  entry_read; rfl

/-- The result is the gradient of `w_down`. -/
theorem value : (dats m 0 c).arrAt 2 (cfgs 0).N = (gradDown (pre (hn m c) (wu m c)) (dy m c) : FVec Ideal S8192x2048 .bf16) := by
  rw [final, V3, V4]
  funext j
  refine Eq.trans ?_ (Cert.Mlp.gradDown_apply _ _ j).symm
  exact Finset.sum_congr rfl fun k _ => mul_comm _ _

end Cert.Kernel3Ideal.Value

namespace Cert.Kernel4Ideal.Value

open Cert.Kernel4Ideal Cert.Kernel4Ideal.Gen
open Cert.Mlp (pre act dAct gradPre gradDown gradUp gradIn)

variable (m : (ℓ : Loc nD τ sig) → Buf (Elt Ideal) ℓ) (c : Dev nD)

/-- The arguments. -/
def hn : FVec Ideal S8192x2048 .f32 := m ((c.tc : Thread nD τ).loc main_arg0)
def wu : FVec Ideal S2048x8192 .f32 := m ((c.tc : Thread nD τ).loc main_arg1)
def wd : FVec Ideal S8192x2048 .f32 := m ((c.tc : Thread nD τ).loc main_arg2)
def dy : FVec Ideal S8192x2048 .f32 := m ((c.tc : Thread nD τ).loc main_arg3)

/-- The operands. -/
theorem V13 : V m c main_v13 = (truncf .bf16 (hn m c) bitsLt_bf16_f32 : FVec Ideal S8192x2048 .bf16) := by
  entry_read; rfl
theorem V14 : V m c main_v14 = (truncf .bf16 (gradPre (pre (hn m c) (wu m c)) (dAct (wd m c) (dy m c))) bitsLt_bf16_f32
    : FVec Ideal S8192x8192 .bf16) := by
  entry_read; rfl

/-- The result is the gradient of `w_up`. -/
theorem value : (dats m 0 c).arrAt 2 (cfgs 0).N
    = (gradUp (gradPre (pre (hn m c) (wu m c)) (dAct (wd m c) (dy m c))) (hn m c) : FVec Ideal S8x2048x1024 .bf16) := by
  rw [final, V13, V14]
  funext j
  refine Eq.trans ?_ (Cert.Mlp.gradUp_apply _ _ j (colAt (j 0) (j 2)) rfl).symm
  exact Finset.sum_congr rfl fun k _ => mul_comm _ _

end Cert.Kernel4Ideal.Value

namespace Cert.Kernel5Ideal.Value

open Cert.Kernel5Ideal Cert.Kernel5Ideal.Gen
open Cert.Mlp (pre act dAct gradPre gradDown gradUp gradIn)

variable (m : (ℓ : Loc nD τ sig) → Buf (Elt Ideal) ℓ) (c : Dev nD)

/-- The arguments. -/
def hn : FVec Ideal S8192x2048 .f32 := m ((c.tc : Thread nD τ).loc main_arg0)
def wu : FVec Ideal S2048x8192 .f32 := m ((c.tc : Thread nD τ).loc main_arg1)
def wd : FVec Ideal S8192x2048 .f32 := m ((c.tc : Thread nD τ).loc main_arg2)
def dy : FVec Ideal S8192x2048 .f32 := m ((c.tc : Thread nD τ).loc main_arg3)

/-- The operands. -/
theorem V13 : V m c main_v13 = (truncf .bf16 (gradPre (pre (hn m c) (wu m c)) (dAct (wd m c) (dy m c))) bitsLt_bf16_f32
    : FVec Ideal S8192x8192 .bf16) := by
  entry_read; rfl
theorem V16 : V m c main_v16 = (truncf .bf16 (transpose S8x2048x1024 [1, 0, 2]
      (shapeCast S2048x8x1024 (wu m c) shapeCasts_S2048x8192_S2048x8x1024) transposes_S2048x8x1024_S8x2048x1024_1_0_2) bitsLt_bf16_f32
    : FVec Ideal S8x2048x1024 .bf16) := by
  entry_read; rfl

/-- A column of `w_up` in its block. -/
theorem wu_block (w : FVec Ideal S2048x8192 .f32) (i : Fin 2048) (k : Fin 8192) :
    (truncf .bf16 (transpose S8x2048x1024 [1, 0, 2]
      (shapeCast S2048x8x1024 w shapeCasts_S2048x8192_S2048x8x1024) transposes_S2048x8x1024_S8x2048x1024_1_0_2) bitsLt_bf16_f32
      : FVec Ideal S8x2048x1024 .bf16) (ix3 (blkOf k) i (inBlk k)) = w (ix2 i k) := by
  pointwise
  blk_ext [blkOf, inBlk]

/-- The result is the gradient of the MLP's input. -/
theorem value : (dats m 0 c).arrAt 2 (cfgs 0).N
    = (gradIn (gradPre (pre (hn m c) (wu m c)) (dAct (wd m c) (dy m c))) (wu m c) : FVec Ideal S8192x2048 .f32) := by
  rw [final, V13, V16]
  funext j
  refine Eq.trans ?_ (Cert.Mlp.gradIn_apply _ _ j).symm
  refine Finset.sum_congr rfl fun k _ => ?_
  exact congrArg (gradPre (pre (hn m c) (wu m c)) (dAct (wd m c) (dy m c)) (ix2 (j 0) k) * ·) (wu_block _ _ _)

end Cert.Kernel5Ideal.Value

end
-- ==== Proof.Mlp.Claims.lean ====
module

public import proofs.«01_k».proof.Defs
public import proofs.«01_k».proof.Proof.Mlp.Values
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import Idealize.ShloMosaic.Adequacy
public import Idealize.ShloMosaic.Init

@[expose] public section

/-!
# The claims on the MLP's gradients

For each of the four calls: the frames, and that the idealized kernel and the reference end with equal results.
-/

noncomputable section

namespace Cert.Proof

open Idealize.ShloMosaic Idealize.ShloMosaic.TcCoe Idealize.SL.Sem

/-- The reference's frame: it declares no semaphore. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The idealized kernel and the reference end with equal results. -/
theorem algebraic2 : Cert.algebraic_Kernel2Ideal_Reference2Ideal := by
  intro m g m' g' hpre hargs
  refine ⟨fun c => (Cert.Kernel2Ideal.Gen.dats m 0 c).arrAt 3 (Cert.Kernel2Ideal.cfgs 0).N, ?_, ?_⟩
  · run_from Cert.Kernel2Ideal.Gen.run_main m g
    exacts [Cert.Kernel2Ideal.Gen.V_main_arg0 m c, Cert.Kernel2Ideal.Gen.V_main_arg1 m c, Cert.Kernel2Ideal.Gen.V_main_arg2 m c, Cert.Kernel2Ideal.Gen.V_main_arg3 m c]
  · refine (θ_run Cert.Reference2Ideal.defs _ _).mono (fun r h c => ?_) (Cert.Reference2Ideal.Value.run m' g')
    obtain ⟨h0, h1, h2, h3⟩ := hargs c
    obtain ⟨r0, rest⟩ := h c
    refine ⟨r0.trans (Eq.trans ?_ (Cert.Kernel2Ideal.Value.value m c).symm), rest⟩
    rw [h0, h1, h2, h3]
    rfl

/-- The reference's frame: it declares no semaphore. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The idealized kernel and the reference end with equal results. -/
theorem algebraic3 : Cert.algebraic_Kernel3Ideal_Reference3Ideal := by
  intro m g m' g' hpre hargs
  refine ⟨fun c => (Cert.Kernel3Ideal.Gen.dats m 0 c).arrAt 2 (Cert.Kernel3Ideal.cfgs 0).N, ?_, ?_⟩
  · run_from Cert.Kernel3Ideal.Gen.run_main m g
    exacts [Cert.Kernel3Ideal.Gen.V_main_arg0 m c, Cert.Kernel3Ideal.Gen.V_main_arg1 m c, Cert.Kernel3Ideal.Gen.V_main_arg2 m c, Cert.Kernel3Ideal.Gen.V_main_arg3 m c]
  · refine (θ_run Cert.Reference3Ideal.defs _ _).mono (fun r h c => ?_) (Cert.Reference3Ideal.Value.run m' g')
    obtain ⟨h0, h1, h2, h3⟩ := hargs c
    obtain ⟨r0, rest⟩ := h c
    refine ⟨r0.trans (Eq.trans ?_ (Cert.Kernel3Ideal.Value.value m c).symm), rest⟩
    rw [h0, h1, h3]
    rfl

/-- The reference's frame: it declares no semaphore. -/
theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The idealized kernel and the reference end with equal results. -/
theorem algebraic4 : Cert.algebraic_Kernel4Ideal_Reference4Ideal := by
  intro m g m' g' hpre hargs
  refine ⟨fun c => (Cert.Kernel4Ideal.Gen.dats m 0 c).arrAt 2 (Cert.Kernel4Ideal.cfgs 0).N, ?_, ?_⟩
  · run_from Cert.Kernel4Ideal.Gen.run_main m g
    exacts [Cert.Kernel4Ideal.Gen.V_main_arg0 m c, Cert.Kernel4Ideal.Gen.V_main_arg1 m c, Cert.Kernel4Ideal.Gen.V_main_arg2 m c, Cert.Kernel4Ideal.Gen.V_main_arg3 m c]
  · refine (θ_run Cert.Reference4Ideal.defs _ _).mono (fun r h c => ?_) (Cert.Reference4Ideal.Value.run m' g')
    obtain ⟨h0, h1, h2, h3⟩ := hargs c
    obtain ⟨r0, rest⟩ := h c
    refine ⟨r0.trans (Eq.trans ?_ (Cert.Kernel4Ideal.Value.value m c).symm), rest⟩
    rw [h0, h1, h2, h3]
    rfl

/-- The reference's frame: it declares no semaphore. -/
theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- The idealized kernel and the reference end with equal results. -/
theorem algebraic5 : Cert.algebraic_Kernel5Ideal_Reference5Ideal := by
  intro m g m' g' hpre hargs
  refine ⟨fun c => (Cert.Kernel5Ideal.Gen.dats m 0 c).arrAt 2 (Cert.Kernel5Ideal.cfgs 0).N, ?_, ?_⟩
  · run_from Cert.Kernel5Ideal.Gen.run_main m g
    exacts [Cert.Kernel5Ideal.Gen.V_main_arg0 m c, Cert.Kernel5Ideal.Gen.V_main_arg1 m c, Cert.Kernel5Ideal.Gen.V_main_arg2 m c, Cert.Kernel5Ideal.Gen.V_main_arg3 m c]
  · refine (θ_run Cert.Reference5Ideal.defs _ _).mono (fun r h c => ?_) (Cert.Reference5Ideal.Value.run m' g')
    obtain ⟨h0, h1, h2, h3⟩ := hargs c
    obtain ⟨r0, rest⟩ := h c
    refine ⟨r0.trans (Eq.trans ?_ (Cert.Kernel5Ideal.Value.value m c).symm), rest⟩
    rw [h0, h1, h2, h3]
    rfl

end Cert.Proof

end
-- ==== Proof.Mlp.Up.lean ====
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Mlp.Ref
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

/-!
# The MLP's activation

Each block of the two results is computed at once: the product with a block of `w_up`, cut off at zero, and its square.
-/

noncomputable section

namespace Cert.Kernel6Ideal.Value

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

/-- Which device's block a column lies in. -/
def blkOf (k : Fin 8192) : Fin 8 := ⟨k.val / 1024, by omega⟩
/-- Which column of that block it is. -/
def inBlk (k : Fin 8192) : Fin 1024 := ⟨k.val % 1024, by omega⟩

/-- `max (∑ k, X i k * W (j / 1024) k (j % 1024)) 0`. -/
def relu (X : FVec Ideal S8192x2048 .bf16) (W : FVec Ideal S8x2048x1024 .bf16) (j : S8192x8192.Idx) : EReal :=
  max (∑ k : Fin 2048, X (ix2 (j 0) k) * W (ix3 (blkOf (j 1)) k (inBlk (j 1)))) 0

/-- A point's block of the activation, before it is stored. -/
theorem hpay1 (w : FVec Ideal S1x2048x1024 .bf16) (x : FVec Ideal S1024x2048 .bf16) (j) :
    k0_pay1 (F := Ideal) w x j = max (∑ k : Fin 2048, x (ix2 (j 0) k) * w (ix3 0 k (j 1))) 0 := by
  pointwise [k0_pay1]

/-- A point's block of the activation. -/
theorem hpay2 (w : FVec Ideal S1x2048x1024 .bf16) (x : FVec Ideal S1024x2048 .bf16) (j) :
    k0_pay2 (F := Ideal) w x j = max (∑ k : Fin 2048, x (ix2 (j 0) k) * w (ix3 0 k (j 1))) 0 :=
  hpay1 w x j

/-- A point's block of the square. -/
theorem hpay3 (w : FVec Ideal S1x2048x1024 .bf16) (x : FVec Ideal S1024x2048 .bf16) (j) :
    k0_pay3 (F := Ideal) w x j = max (∑ k : Fin 2048, x (ix2 (j 0) k) * w (ix3 0 k (j 1))) 0
      * max (∑ k : Fin 2048, x (ix2 (j 0) k) * w (ix3 0 k (j 1))) 0 := by
  rw [← hpay1]
  rfl

/-- The blocks the windows are on. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] := (by decide +kernel : ∀ t : Fin grid0.N, _)

/-- The activation, of the two arrays the region finds. -/
theorem final : (dats m 0 c).arrAt 2 (cfgs 0).N
    = (fun j => relu (V m c main_v0) (V m c main_v3) j : FVec Ideal S8192x8192 .bf16) := by
  refine (dats m 0 c).arrAt_eq_of_covers 2 _ (by decide +kernel) fun t hf y => ?_
  blk_simp
  rw [after0_2]
  unfold outsAt0
  frame_out
  rw [hpay2]
  unfold relu
  blk_point [iblk, blkOf, inBlk, idx t]

/-- Its square. -/
theorem final' : (dats m 0 c).arrAt 3 (cfgs 0).N
    = (fun j => relu (V m c main_v0) (V m c main_v3) j * relu (V m c main_v0) (V m c main_v3) j : FVec Ideal S8192x8192 .bf16) := by
  refine (dats m 0 c).arrAt_eq_of_covers 3 _ (by decide +kernel) fun t hf y => ?_
  blk_simp
  rw [after0_3]
  unfold outsAt0
  frame_out
  rw [hpay3]
  unfold relu
  blk_point [iblk, blkOf, inBlk, idx t]

/-- The arguments. -/
def hn : FVec Ideal S8192x2048 .f32 := m ((c.tc : Thread nD τ).loc main_arg0)
def wu : FVec Ideal S2048x8192 .f32 := m ((c.tc : Thread nD τ).loc main_arg1)

/-- The operands. -/
theorem V0 : V m c main_v0 = (truncf .bf16 (hn m c) bitsLt_bf16_f32 : FVec Ideal S8192x2048 .bf16) := by
  entry_read; rfl
theorem V3 : V m c main_v3 = (truncf .bf16 (transpose S8x2048x1024 [1, 0, 2]
      (shapeCast S2048x8x1024 (wu m c) shapeCasts_S2048x8192_S2048x8x1024) transposes_S2048x8x1024_S8x2048x1024_1_0_2) bitsLt_bf16_f32
    : FVec Ideal S8x2048x1024 .bf16) := by
  entry_read; rfl

/-- A column of `w_up` in its block. -/
theorem wu_block (w : FVec Ideal S2048x8192 .f32) (i : Fin 2048) (k : Fin 8192) :
    (truncf .bf16 (transpose S8x2048x1024 [1, 0, 2]
      (shapeCast S2048x8x1024 w shapeCasts_S2048x8192_S2048x8x1024) transposes_S2048x8x1024_S8x2048x1024_1_0_2) bitsLt_bf16_f32
      : FVec Ideal S8x2048x1024 .bf16) (ix3 (blkOf k) i (inBlk k)) = w (ix2 i k) := by
  pointwise
  blk_ext [blkOf, inBlk]

/-- The blocks' activation is the reference's. -/
theorem relu_eq (hn : FVec Ideal S8192x2048 .f32) (w : FVec Ideal S2048x8192 .f32) (j) :
    relu (truncf .bf16 hn bitsLt_bf16_f32) (truncf .bf16 (transpose S8x2048x1024 [1, 0, 2]
      (shapeCast S2048x8x1024 w shapeCasts_S2048x8192_S2048x8x1024) transposes_S2048x8x1024_S8x2048x1024_1_0_2) bitsLt_bf16_f32) j
      = Cert.Mlp.act (Cert.Mlp.pre hn w) j := by
  rw [Cert.Mlp.act_apply, Cert.Mlp.pre_apply]
  unfold relu
  refine congrArg (max · 0) (Finset.sum_congr rfl fun k _ => ?_)
  exact congrArg (hn (ix2 (j 0) k) * ·) (wu_block _ _ _)

/-- The first result is the activation. -/
theorem value : (dats m 0 c).arrAt 2 (cfgs 0).N
    = (truncf .bf16 (Cert.Mlp.act (Cert.Mlp.pre (hn m c) (wu m c))) bitsLt_bf16_f32 : FVec Ideal S8192x8192 .bf16) := by
  rw [final, V0, V3]
  funext j
  exact relu_eq _ _ j

/-- The second result is its square. -/
theorem value' : (dats m 0 c).arrAt 3 (cfgs 0).N
    = (truncf .bf16 (mulf (Cert.Mlp.act (Cert.Mlp.pre (hn m c) (wu m c))) (Cert.Mlp.act (Cert.Mlp.pre (hn m c) (wu m c)))) bitsLt_bf16_f32
      : FVec Ideal S8192x8192 .bf16) := by
  rw [final', V0, V3]
  funext j
  exact congrArg₂ (· * ·) (relu_eq _ _ j) (relu_eq _ _ j)

end Cert.Kernel6Ideal.Value

namespace Cert.Proof

open Idealize.ShloMosaic Idealize.ShloMosaic.TcCoe Idealize.SL.Sem

/-- The reference's frame: it declares no semaphore. -/
theorem frame_reference6 : Cert.quiescent_Reference6Ideal := fun m g _ =>
  (θ_run Cert.Reference6Ideal.defs _ _).mono (fun r h => ⟨fun c => (h c).2.2, sem_eq_zero_of_no_sems (by decide) r.2⟩)
    (Cert.Reference6Ideal.Value.run m g)

/-- The idealized kernel and the reference end with equal results. -/
theorem algebraic6 : Cert.algebraic_Kernel6Ideal_Reference6Ideal := by
  intro m g m' g' hpre hargs
  refine ⟨fun c => (Cert.Kernel6Ideal.Gen.dats m 0 c).arrAt 2 (Cert.Kernel6Ideal.cfgs 0).N, fun c => (Cert.Kernel6Ideal.Gen.dats m 0 c).arrAt 3 (Cert.Kernel6Ideal.cfgs 0).N, ?_, ?_⟩
  · run_from Cert.Kernel6Ideal.Gen.run_main m g
  · refine (θ_run Cert.Reference6Ideal.defs _ _).mono (fun r h c => ?_) (Cert.Reference6Ideal.Value.run m' g')
    obtain ⟨h0, h1⟩ := hargs c
    obtain ⟨r0, r1, rest⟩ := h c
    refine ⟨r0.trans (Eq.trans ?_ (Cert.Kernel6Ideal.Value.value m c).symm), r1.trans (Eq.trans ?_ (Cert.Kernel6Ideal.Value.value' m c).symm), rest⟩
    · rw [h0, h1]
      rfl
    · rw [h0, h1]
      rfl

end Cert.Proof

end
-- ==== Proof.Mlp.Down.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Mlp.Ref
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

/-!
# The MLP's output

The call walks the inner columns in four parts for each block of the result; the running sum lives in a scratch block that is
carried from part to part, and at the last the residual stream is added to it.
-/

noncomputable section

namespace Cert.Kernel7Ideal.Value

open Idealize.ShloMosaic Idealize.ShloMosaic.TcCoe Idealize.SL.Sem
open Cert.Kernel7Ideal Cert.Kernel7Ideal.Gen

variable (m : (ℓ : Loc nD τ sig) → Buf (Elt Ideal) ℓ) (c : Dev nD)

/-- Which device's block a row of `w_down` lies in. -/
def blkOf (k : Fin 8192) : Fin 8 := ⟨k.val / 1024, by omega⟩
/-- Which row of that block it is. -/
def inBlk (k : Fin 8192) : Fin 1024 := ⟨k.val % 1024, by omega⟩

/-- Which of two blocks a row lies in. -/
def blkOf2 (k : Fin 2048) : Fin 2 := ⟨k.val / 1024, by omega⟩
/-- Which row of that block it is. -/
def inBlk2 (k : Fin 2048) : Fin 1024 := ⟨k.val % 1024, by omega⟩

/-- The product over the inner columns and the residual: `(∑ k, X i k * W (k / 1024) (k % 1024) j) + R i j`. -/
def down (X : FVec Ideal S8192x8192 .bf16) (W : FVec Ideal S8x1024x2048 .bf16) (R : FVec Ideal S8192x2048 .f32) :
    FVec Ideal S8192x2048 .f32 :=
  fun j => (∑ k : Fin 8192, X (ix2 (j 0) k) * W (ix3 (blkOf k) (inBlk k) (j 1))) + R j

/-- The first part of a run: one product. -/
theorem hpay1 (w : FVec Ideal S2x1024x1024 .bf16) (x : FVec Ideal S1024x2048 .bf16) (j) :
    k0_pay1 (F := Ideal) w x j = ∑ k : Fin 2048, x (ix2 (j 0) k) * w (ix3 (blkOf2 k) (inBlk2 k) (j 1)) := by
  pointwise [k0_pay1]
  blk_point [blkOf2, inBlk2]

/-- A later part: the running sum and one product. -/
theorem hpay2 (acc : FVec Ideal S1024x1024 .f32) (w : FVec Ideal S2x1024x1024 .bf16) (x : FVec Ideal S1024x2048 .bf16) (j) :
    k0_pay2 (F := Ideal) acc w x j = acc j + ∑ k : Fin 2048, x (ix2 (j 0) k) * w (ix3 (blkOf2 k) (inBlk2 k) (j 1)) := by
  pointwise [k0_pay2]
  blk_point [blkOf2, inBlk2]

/-- What is written out is the running sum and the residual. -/
theorem hpay3 (acc r : FVec Ideal S1024x1024 .f32) (j) : k0_pay3 (F := Ideal) acc r j = acc j + r j := by
  pointwise [k0_pay3]

/-- The blocks the windows are on. -/
theorem idx : ∀ t : Fin cfg0.N, win0_0.index t = ![t.val / 8, t.val % 4] ∧ win0_1.index t = ![t.val % 4, 0, t.val / 4 % 2]
    ∧ win0_2.index t = ![t.val / 8, t.val / 4 % 2] ∧ win0_3.index t = ![t.val / 8, t.val / 4 % 2] := (by decide +kernel : ∀ t : Fin grid0.N, _)

/-- The part of the product a point adds. -/
def part (c : Dev nD) (t : Fin cfg0.N) (j : S1024x1024.Idx) : EReal :=
  ∑ k : Fin 2048, (show FVec Ideal S1024x2048 .bf16 from iblk m c 0 t) (ix2 (j 0) k)
    * (show FVec Ideal S2x1024x1024 .bf16 from iblk m c 1 t) (ix3 (blkOf2 k) (inBlk2 k) (j 1))

/-- The scratch after a run's first part. -/
theorem reset (c : Dev nD) (t : Fin cfg0.N) (h : t.val % 4 = 0) (j : S1024x1024.Idx) :
    (outsAt0 m c t.val t.isLt).2 j = (fun _ => 0 : S1024x1024.Idx → EReal) j + part m c t j := by
  rw [outsAt0_A m c t h (by omega) (by omega)]
  frame_out
  rw [hpay1, part, zero_add]

/-- The scratch after a later part. -/
theorem step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]
    frame_out
    rw [hpay2, part, read_unread_whole]
  · rw [outsAt0_B m c t h (by omega) h3]
    frame_out
    rw [hpay2, part, read_unread_whole]

/-- At a run's last part the block written out is the scratch and the residual. -/
theorem last (c : Dev nD) (t : Fin cfg0.N) (h : t.val % 4 = 3) (j : S1024x1024.Idx) :
    (outsAt0 m c t.val t.isLt).1 j = (outsAt0 m c t.val t.isLt).2 j + (show FVec Ideal S1024x1024 .f32 from iblk m c 2 t) j := by
  rw [outsAt0_C m c t (by omega) (by omega) h]
  frame_out
  rw [hpay3]

/-- The result, of the three arrays the region finds. -/
theorem final (c : Dev nD) : (dats m 0 c).arrAt 3 (cfgs 0).N
    = down (V m c main_v3) (V m c main_v5) (V m c main_arg3) := by
  refine (dats m 0 c).arrAt_eq_of_covers 3 _ (by decide +kernel) fun t hf y => ?_
  blk_simp
  rw [after0_3, last m c t ((flush0_3 t).mp hf),
    Pipeline.eq_sum_fin_of_reset_step_apply_of_flush (fun n h => (outsAt0 m c n h).2) 4 (fun _ => 0) (part m c)
      (reset m c) (step m c) t ((flush0_3 t).mp hf) _, zero_add]
  unfold part down
  refine congrArg₂ (· + ·) (Fin.sum_mul_add_congr fun s k hl => ?_) ?_
  · blk_point [iblk, blkOf, inBlk, blkOf2, inBlk2, idx t, idx ⟨_, Pipeline.run_point_lt_of_flush t ((flush0_3 t).mp hf) s⟩]
  · blk_point [iblk, idx t]

/-- The arguments. -/
def hn : FVec Ideal S8192x2048 .f32 := m ((c.tc : Thread nD τ).loc main_arg0)
def wu : FVec Ideal S2048x8192 .f32 := m ((c.tc : Thread nD τ).loc main_arg1)
def wd : FVec Ideal S8192x2048 .f32 := m ((c.tc : Thread nD τ).loc main_arg2)
def res : FVec Ideal S8192x2048 .f32 := m ((c.tc : Thread nD τ).loc main_arg3)

/-- The operands. -/
theorem V3 : V m c main_v3 = (truncf .bf16 (mulf (Cert.Mlp.act (Cert.Mlp.pre (hn m c) (wu m c))) (Cert.Mlp.act (Cert.Mlp.pre (hn m c) (wu m c))))
    bitsLt_bf16_f32 : FVec Ideal S8192x8192 .bf16) := by
  entry_read; rfl
theorem V5 : V m c main_v5 = (truncf .bf16 (shapeCast S8x1024x2048 (wd m c) shapeCasts_S8192x2048_S8x1024x2048) bitsLt_bf16_f32
    : FVec Ideal S8x1024x2048 .bf16) := by
  entry_read; rfl
theorem VR : V m c main_arg3 = res m c := V_main_arg3 m c

/-- A row of `w_down` in its block. -/
theorem wd_block (w : FVec Ideal S8192x2048 .f32) (k : Fin 8192) (j : Fin 2048) :
    (truncf .bf16 (shapeCast S8x1024x2048 w shapeCasts_S8192x2048_S8x1024x2048) bitsLt_bf16_f32 : FVec Ideal S8x1024x2048 .bf16)
      (ix3 (blkOf k) (inBlk k) j) = w (ix2 k j) := by
  pointwise
  blk_ext [blkOf, inBlk]

/-- The result is the MLP's output and the residual stream. -/
theorem value : (dats m 0 c).arrAt 3 (cfgs 0).N
    = (Cert.Mlp.out (Cert.Mlp.pre (hn m c) (wu m c)) (wd m c) (res m c) : FVec Ideal S8192x2048 .f32) := by
  rw [final, V3, V5, VR]
  funext j
  refine Eq.trans ?_ (Cert.Mlp.out_apply _ _ _ j).symm
  unfold down
  rw [add_comm]
  refine congrArg (res m c j + ·) (Finset.sum_congr rfl fun k _ => ?_)
  exact congrArg (Cert.Mlp.act (Cert.Mlp.pre (hn m c) (wu m c)) (ix2 (j 0) k) * Cert.Mlp.act (Cert.Mlp.pre (hn m c) (wu m c)) (ix2 (j 0) k) * ·)
    (wd_block _ _ _)

end Cert.Kernel7Ideal.Value

namespace Cert.Proof

open Idealize.ShloMosaic Idealize.ShloMosaic.TcCoe Idealize.SL.Sem

/-- The reference's frame: it declares no semaphore. -/
theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- The idealized kernel and the reference end with equal results. -/
theorem algebraic7 : Cert.algebraic_Kernel7Ideal_Reference7Ideal := by
  intro m g m' g' hpre hargs
  refine ⟨fun c => (Cert.Kernel7Ideal.Gen.dats m 0 c).arrAt 3 (Cert.Kernel7Ideal.cfgs 0).N, ?_, ?_⟩
  · run_from Cert.Kernel7Ideal.Gen.run_main m g
    exacts [Cert.Kernel7Ideal.Gen.V_main_arg0 m c, Cert.Kernel7Ideal.Gen.V_main_arg1 m c, Cert.Kernel7Ideal.Gen.V_main_arg2 m c]
  · refine (θ_run Cert.Reference7Ideal.defs _ _).mono (fun r h c => ?_) (Cert.Reference7Ideal.Value.run m' g')
    obtain ⟨h0, h1, h2, h3⟩ := hargs c
    obtain ⟨r0, rest⟩ := h c
    refine ⟨r0.trans (Eq.trans ?_ (Cert.Kernel7Ideal.Value.value m c).symm), rest⟩
    rw [h0, h1, h2, h3]
    rfl

end Cert.Proof

end
-- ==== Proof.Proj.Dw.lean ====
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

/-!
# The gradient of a projection's weight

The call walks the tokens in four parts for each block of the result; the running sum lives in a scratch block that is
carried from part to part and is written out at the last.
-/

noncomputable section

namespace Cert.Kernel8Ideal.Value

open Idealize.ShloMosaic Idealize.ShloMosaic.TcCoe Idealize.SL.Sem
open Cert.Kernel8Ideal Cert.Kernel8Ideal.Gen

variable (m : (ℓ : Loc nD τ sig) → Buf (Elt Ideal) ℓ) (c : Dev nD)

/-- The product over the tokens: `∑ k, X k i * Y k j`. -/
def tokens (X Y : FVec Ideal S8192x2048 .bf16) : FVec Ideal S2048x2048 .bf16 :=
  fun j => ∑ k : Fin 8192, X (ix2 k (j 0)) * Y (ix2 k (j 1))

/-- The first part of a run: one product. -/
theorem hpay1 (y x : FVec Ideal S2048x1024 .bf16) (j) :
    k0_pay1 (F := Ideal) y x j = ∑ k : Fin 2048, x (ix2 k (j 0)) * y (ix2 k (j 1)) := by
  pointwise [k0_pay1]

/-- A later part: the running sum and one product. -/
theorem hpay2 (acc : FVec Ideal S1024x1024 .f32) (y x : FVec Ideal S2048x1024 .bf16) (j) :
    k0_pay2 (F := Ideal) acc y x j = acc j + ∑ k : Fin 2048, x (ix2 k (j 0)) * y (ix2 k (j 1)) := by
  pointwise [k0_pay2]

/-- What is written out is the running sum. -/
theorem hpay3 (acc : FVec Ideal S1024x1024 .f32) (j) : k0_pay3 (F := Ideal) acc j = acc j := by
  pointwise [k0_pay3]

/-- The blocks the windows are on. -/
theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

/-- The part of the product a point adds. -/
def part (c : Dev nD) (t : Fin cfg0.N) (j : S1024x1024.Idx) : EReal :=
  ∑ k : Fin 2048, (show FVec Ideal S2048x1024 .bf16 from iblk m c 0 t) (ix2 k (j 0))
    * (show FVec Ideal S2048x1024 .bf16 from iblk m c 1 t) (ix2 k (j 1))

/-- The scratch after a run's first part. -/
theorem reset (c : Dev nD) (t : Fin cfg0.N) (h : t.val % 4 = 0) (j : S1024x1024.Idx) :
    (outsAt0 m c t.val t.isLt).2 j = (fun _ => 0 : S1024x1024.Idx → EReal) j + part m c t j := by
  rw [outsAt0_A m c t h (by omega) (by omega)]
  frame_out
  rw [hpay1, part, zero_add]

/-- The scratch after a later part. -/
theorem step (c : Dev nD) (t : Fin cfg0.N) (h : ¬t.val % 4 = 0) (j : S1024x1024.Idx) :
    (outsAt0 m c t.val t.isLt).2 j
      = (outsAt0 m c (t.val - 1) (Nat.lt_of_le_of_lt (Nat.sub_le _ _) t.isLt)).2 j + part m c t j := by
  by_cases h3 : t.val % 4 = 3
  · rw [outsAt0_C m c t h (by omega) h3]
    frame_out
    rw [hpay2, part, read_unread_whole]
  · rw [outsAt0_B m c t h (by omega) h3]
    frame_out
    rw [hpay2, part, read_unread_whole]

/-- At a run's last part the block written out is the scratch. -/
theorem last (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  frame_out
  rw [hpay3]

/-- The result: the product over the tokens of the two arrays the region finds. -/
theorem final (c : Dev nD) : (dats m 0 c).arrAt 2 (cfgs 0).N
    = tokens (V m c main_v0) (V m c main_v1) := by
  refine (dats m 0 c).arrAt_eq_of_covers 2 _ (by decide +kernel) fun t hf y => ?_
  blk_simp
  rw [after0_2, last m c t ((flush0_2 t).mp hf),
    Pipeline.eq_sum_fin_of_reset_step_apply_of_flush (fun n h => (outsAt0 m c n h).2) 4 (fun _ => 0) (part m c)
      (reset m c) (step m c) t ((flush0_2 t).mp hf) _, zero_add]
  unfold part tokens
  refine Fin.sum_mul_add_congr fun s k hl => ?_
  blk_point [iblk, idx t, idx ⟨_, Pipeline.run_point_lt_of_flush t ((flush0_2 t).mp hf) s⟩]

/-- The arguments. -/
def h : FVec Ideal S8192x2048 .f32 := m ((c.tc : Thread nD τ).loc main_arg0)
def w : FVec Ideal S2048x2048 .f32 := m ((c.tc : Thread nD τ).loc main_arg1)
def d : FVec Ideal S8192x2048 .f32 := m ((c.tc : Thread nD τ).loc main_arg2)

/-- The operands. -/
theorem V0 : V m c main_v0 = (truncf .bf16 (h m c) bitsLt_bf16_f32 : FVec Ideal S8192x2048 .bf16) := by
  entry_read; rfl
theorem V1 : V m c main_v1 = (truncf .bf16 (d m c) bitsLt_bf16_f32 : FVec Ideal S8192x2048 .bf16) := by
  entry_read; rfl

/-- The reference's result: the gradient of the weight, `(dᵀ h)ᵀ`. -/
def gradW {F : FTy → Type} [FloatOps F] (h d : FVec F S8192x2048 .f32) : FVec F S2048x2048 .bf16 :=
  truncf .bf16 (transpose S2048x2048 [1, 0]
    (Host.dotGeneral Reference8Ideal.dot_S8192x2048_S8192x2048_S2048x2048_0_0_1_1_n_n none d h)
    Reference8Ideal.Facts₀.transposes_S2048x2048_S2048x2048_1_0) bitsLt_bf16_f32

theorem gradW_apply (h d : FVec Ideal S8192x2048 .f32) (j) :
    gradW h d j = ∑ k : Fin 8192, d (ix2 k (j 1)) * h (ix2 k (j 0)) := by
  pointwise [gradW]

/-- The result is the gradient of the weight. -/
theorem value : (dats m 0 c).arrAt 2 (cfgs 0).N = (gradW (h m c) (d m c) : FVec Ideal S2048x2048 .bf16) := by
  rw [final, V0, V1]
  funext j
  refine Eq.trans ?_ (gradW_apply _ _ j).symm
  exact Finset.sum_congr rfl fun k _ => mul_comm _ _

end Cert.Kernel8Ideal.Value

namespace Cert.Proof

open Idealize.ShloMosaic Idealize.ShloMosaic.TcCoe Idealize.SL.Sem

/-- The reference's frame: it declares no semaphore. -/
theorem frame_reference8 : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- The idealized kernel and the reference end with equal results. -/
theorem algebraic8 : Cert.algebraic_Kernel8Ideal_Reference8Ideal := by
  intro m g m' g' hpre hargs
  refine ⟨fun c => (Cert.Kernel8Ideal.Gen.dats m 0 c).arrAt 2 (Cert.Kernel8Ideal.cfgs 0).N, ?_, ?_⟩
  · run_from Cert.Kernel8Ideal.Gen.run_main m g
  · refine (θ_run Cert.Reference8Ideal.defs _ _).mono (fun r h c => ?_) (Cert.Reference8Ideal.Value.run m' g')
    obtain ⟨h0, h1, h2⟩ := hargs c
    obtain ⟨r0, rest⟩ := h c
    refine ⟨r0.trans (Eq.trans ?_ (Cert.Kernel8Ideal.Value.value m c).symm), rest⟩
    rw [h0, h2]
    rfl

end Cert.Proof

end
-- ==== Proof.Proj.Dx.lean ====
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

/-!
# The gradient of the query projection's input

Each block of the result is computed at once: one product with a block of the weight's rows.
-/

noncomputable section

namespace Cert.Kernel9Ideal.Value

open Idealize.ShloMosaic Idealize.ShloMosaic.TcCoe Idealize.SL.Sem
open Cert.Kernel9Ideal Cert.Kernel9Ideal.Gen

variable (m : (ℓ : Loc nD τ sig) → Buf (Elt Ideal) ℓ) (c : Dev nD)

/-- The product with the transposed weight: `∑ k, X i k * W j k`. -/
def rows (X : FVec Ideal S8192x2048 .bf16) (W : FVec Ideal S2048x2048 .bf16) : FVec Ideal S8192x2048 .f32 :=
  fun j => ∑ k : Fin 2048, X (ix2 (j 0) k) * W (ix2 (j 1) k)

/-- A point's block. -/
theorem hpay1 (w x : FVec Ideal S1024x2048 .bf16) (j) :
    k0_pay1 (F := Ideal) w x j = ∑ k : Fin 2048, x (ix2 (j 0) k) * w (ix2 (j 1) k) := by
  pointwise [k0_pay1]

/-- The blocks the windows are on. -/
theorem idx : ∀ t : Fin cfg0.N, win0_0.index t = ![t.val / 2, 0] ∧ win0_1.index t = ![t.val % 2, 0]
    ∧ win0_2.index t = ![t.val / 2, t.val % 2] := (by decide +kernel : ∀ t : Fin grid0.N, _)

/-- The result, of the two arrays the region finds. -/
theorem final : (dats m 0 c).arrAt 2 (cfgs 0).N = rows (V m c main_v0) (V m c main_v1) := by
  refine (dats m 0 c).arrAt_eq_of_covers 2 _ (by decide +kernel) fun t hf y => ?_
  blk_simp
  rw [after0_2]
  unfold outsAt0
  frame_out
  rw [hpay1]
  unfold rows
  blk_point [iblk, idx t]

/-- The arguments. -/
def h : FVec Ideal S8192x2048 .f32 := m ((c.tc : Thread nD τ).loc main_arg0)
def w : FVec Ideal S2048x2048 .f32 := m ((c.tc : Thread nD τ).loc main_arg1)
def d : FVec Ideal S8192x2048 .f32 := m ((c.tc : Thread nD τ).loc main_arg2)

/-- The operands. -/
theorem V0 : V m c main_v0 = (truncf .bf16 (d m c) bitsLt_bf16_f32 : FVec Ideal S8192x2048 .bf16) := by
  entry_read; rfl
theorem V1 : V m c main_v1 = (truncf .bf16 (w m c) bitsLt_bf16_f32 : FVec Ideal S2048x2048 .bf16) := by
  entry_read; rfl

/-- The reference's result: the gradient of the input, `d wᵀ`. -/
def gradX {F : FTy → Type} [FloatOps F] (w : FVec F S2048x2048 .f32) (d : FVec F S8192x2048 .f32) : FVec F S8192x2048 .f32 :=
  Host.dotGeneral Reference9Ideal.dot_S8192x2048_S2048x2048_S8192x2048_1_1_0_0_n_n none d w

theorem gradX_apply (w : FVec Ideal S2048x2048 .f32) (d : FVec Ideal S8192x2048 .f32) (j) :
    gradX w d j = ∑ k : Fin 2048, d (ix2 (j 0) k) * w (ix2 (j 1) k) := by
  pointwise [gradX]

/-- The result is the gradient of the input. -/
theorem value : (dats m 0 c).arrAt 2 (cfgs 0).N = (gradX (w m c) (d m c) : FVec Ideal S8192x2048 .f32) := by
  rw [final, V0, V1]
  funext j
  exact (gradX_apply _ _ j).symm

end Cert.Kernel9Ideal.Value

namespace Cert.Proof

open Idealize.ShloMosaic Idealize.ShloMosaic.TcCoe Idealize.SL.Sem

/-- The reference's frame: it declares no semaphore. -/
theorem frame_reference9 : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

/-- The idealized kernel and the reference end with equal results. -/
theorem algebraic9 : Cert.algebraic_Kernel9Ideal_Reference9Ideal := by
  intro m g m' g' hpre hargs
  refine ⟨fun c => (Cert.Kernel9Ideal.Gen.dats m 0 c).arrAt 2 (Cert.Kernel9Ideal.cfgs 0).N, ?_, ?_⟩
  · run_from Cert.Kernel9Ideal.Gen.run_main m g
  · refine (θ_run Cert.Reference9Ideal.defs _ _).mono (fun r h c => ?_) (Cert.Reference9Ideal.Value.run m' g')
    obtain ⟨h0, h1, h2⟩ := hargs c
    obtain ⟨r0, rest⟩ := h c
    refine ⟨r0.trans (Eq.trans ?_ (Cert.Kernel9Ideal.Value.value m c).symm), rest⟩
    rw [h1, h2]
    rfl

end Cert.Proof

end
-- ==== Proof.Proj.KvfDx.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

/-!
# The gradient of the shared key, value and gate projection's input

Each block of the result is computed at once: the gradient of the keys with a block of the weight's rows, the gradient of
the values with another, and the gradient of the gates, padded to the lanes, with the gates' columns.
-/

noncomputable section

namespace Cert.Kernel10Ideal.Value

open Idealize.ShloMosaic Idealize.ShloMosaic.TcCoe Idealize.SL.Sem
open Cert.Kernel10Ideal Cert.Kernel10Ideal.Gen

variable (m : (ℓ : Loc nD τ sig) → Buf (Elt Ideal) ℓ) (c : Dev nD)

/-- `∑ k, A i k * W j k + ∑ k, B i k * W j (2048 + k) + ∑ x, D i x * G j x`. -/
def rows (A B : FVec Ideal S8192x2048 .bf16) (D : FVec Ideal S8192x128 .f32) (W : FVec Ideal S2048x4096 .bf16) (G : FVec Ideal S2048x128 .bf16) :
    FVec Ideal S8192x2048 .f32 :=
  fun j => (∑ k : Fin 2048, A (ix2 (j 0) k) * W (ix2 (j 1) (⟨k.val, by omega⟩ : Fin 4096)))
    + (∑ k : Fin 2048, B (ix2 (j 0) k) * W (ix2 (j 1) (⟨2048 + k.val, by omega⟩ : Fin 4096))) + ∑ x : Fin 128, D (ix2 (j 0) x) * G (ix2 (j 1) x)

/-- A point's block. -/
theorem hpay1 (a u b v : FVec Ideal S1024x2048 .bf16) (e : FVec Ideal S1024x128 .f32) (f : FVec Ideal S1024x128 .bf16) (j) :
    k0_pay1 (F := Ideal) a u b v e f j = (∑ k : Fin 2048, a (ix2 (j 0) k) * u (ix2 (j 1) k)) + (∑ k : Fin 2048, b (ix2 (j 0) k) * v (ix2 (j 1) k))
      + ∑ x : Fin 128, e (ix2 (j 0) x) * f (ix2 (j 1) x) := by
  pointwise [k0_pay1]

/-- The blocks the windows are on. -/
theorem idx : ∀ t : Fin cfg0.N, win0_0.index t = ![t.val / 2, 0] ∧ win0_1.index t = ![t.val / 2, 0] ∧ win0_2.index t = ![t.val / 2, 0]
    ∧ win0_3.index t = ![t.val % 2, 0] ∧ win0_4.index t = ![t.val % 2, 1] ∧ win0_5.index t = ![t.val % 2, 0]
    ∧ win0_6.index t = ![t.val / 2, t.val % 2] := (by decide +kernel : ∀ t : Fin grid0.N, _)

/-- The result, of the arrays the region finds. -/
theorem final : (dats m 0 c).arrAt 6 (cfgs 0).N
    = rows (V m c main_v5) (V m c main_v6) (V m c main_v4) (V m c main_v1) (V m c main_v3) := by
  refine (dats m 0 c).arrAt_eq_of_covers 6 _ (by decide +kernel) fun t hf y => ?_
  blk_simp
  rw [after0_6]
  frame_out
  rw [hpay1]
  unfold rows
  refine congrArg₂ (· + ·) (congrArg₂ (· + ·) ?_ ?_) ?_
  · blk_point [iblk, idx t]
  · blk_point [iblk, idx t]
  · blk_point [iblk, idx t]

/-- The arguments. -/
def h : FVec Ideal S8192x2048 .f32 := m ((c.tc : Thread nD τ).loc main_arg0)
def w : FVec Ideal S2048x4112 .f32 := m ((c.tc : Thread nD τ).loc main_arg1)
def dk : FVec Ideal S8192x2048 .f32 := m ((c.tc : Thread nD τ).loc main_arg2)
def dv : FVec Ideal S8192x2048 .f32 := m ((c.tc : Thread nD τ).loc main_arg3)
def df : FVec Ideal S8192x16 .f32 := m ((c.tc : Thread nD τ).loc main_arg4)

/-- The operands. -/
theorem V5 : V m c main_v5 = (truncf .bf16 (dk m c) bitsLt_bf16_f32 : FVec Ideal S8192x2048 .bf16) := by
  entry_read; rfl
theorem V6 : V m c main_v6 = (truncf .bf16 (dv m c) bitsLt_bf16_f32 : FVec Ideal S8192x2048 .bf16) := by
  entry_read; rfl
theorem V4 : V m c main_v4 = (pad S8192x128 ![0, 0] ![0, 112] ![0, 0] (df m c) (sitofp .f32 (constantI S_ 32 0#32))
    pads_S8192x16_S8192x128_000_01120 h_S_ : FVec Ideal S8192x128 .f32) := by
  entry_read; rfl
theorem V1 : V m c main_v1 = (extractStridedSlice S2048x4096 ![0, 0] (truncf .bf16 (w m c) bitsLt_bf16_f32 : FVec Ideal S2048x4112 .bf16)
    slices_S2048x4112_S2048x4096_0_0 : FVec Ideal S2048x4096 .bf16) := by
  entry_read; rfl
theorem V3 : V m c main_v3 = (pad S2048x128 ![0, 0] ![0, 112] ![0, 0]
    (extractStridedSlice S2048x16 ![0, 4096] (truncf .bf16 (w m c) bitsLt_bf16_f32 : FVec Ideal S2048x4112 .bf16) slices_S2048x4112_S2048x16_0_4096)
    (sitofp .bf16 (constantI S_ 32 0#32)) pads_S2048x16_S2048x128_000_01120 h_S_ : FVec Ideal S2048x128 .bf16) := by
  entry_read; rfl

/-- The reference's result: the gradient of the input, `[dk, dv, df] w_kvfᵀ`. -/
def gradX {F : FTy → Type} [FloatOps F] (w : FVec F S2048x4112 .f32) (dk dv : FVec F S8192x2048 .f32) (df : FVec F S8192x16 .f32) :
    FVec F S8192x2048 .f32 :=
  Host.dotGeneral Reference10Ideal.dot_S8192x4112_S2048x4112_S8192x2048_1_1_0_0_n_n none
    (concatenate Reference10Ideal.S8192x4112 1 [⟨S8192x2048, dk⟩, ⟨S8192x2048, dv⟩, ⟨S8192x16, df⟩]
      Reference10Ideal.Gen.concatenates_S8192x2048_S8192x2048_S8192x16_S8192x4112_d1) w

/-- A sum over the weight's columns: the keys', the values' and the gates'. -/
theorem sum_three (f : Fin 4112 → EReal) : ∑ x, f x = (∑ k : Fin 2048, f (⟨k.val, by omega⟩ : Fin 4112))
    + (∑ k : Fin 2048, f (⟨2048 + k.val, by omega⟩ : Fin 4112)) + ∑ k : Fin 16, f (⟨4096 + k.val, by omega⟩ : Fin 4112) :=
  (Fin.sum_univ_add (a := 2048 + 2048) (b := 16) f).trans (congrArg (· + _) (Fin.sum_univ_add (a := 2048) (b := 2048) _))

/-- The blocks' sums are the reference's. -/
theorem rows_apply (w : FVec Ideal S2048x4112 .f32) (dk dv : FVec Ideal S8192x2048 .f32) (df : FVec Ideal S8192x16 .f32) (j) :
    rows (truncf .bf16 dk bitsLt_bf16_f32) (truncf .bf16 dv bitsLt_bf16_f32)
      (pad S8192x128 ![0, 0] ![0, 112] ![0, 0] df (sitofp .f32 (constantI S_ 32 0#32)) pads_S8192x16_S8192x128_000_01120 h_S_)
      (extractStridedSlice S2048x4096 ![0, 0] (truncf .bf16 w bitsLt_bf16_f32 : FVec Ideal S2048x4112 .bf16) slices_S2048x4112_S2048x4096_0_0)
      (pad S2048x128 ![0, 0] ![0, 112] ![0, 0]
        (extractStridedSlice S2048x16 ![0, 4096] (truncf .bf16 w bitsLt_bf16_f32 : FVec Ideal S2048x4112 .bf16) slices_S2048x4112_S2048x16_0_4096)
        (sitofp .bf16 (constantI S_ 32 0#32)) pads_S2048x16_S2048x128_000_01120 h_S_) j
      = gradX w dk dv df j := by
  pointwise [rows, gradX]
  refine Eq.trans ?_ (sum_three _).symm
  refine congrArg₂ (· + ·) (congrArg₂ (· + ·) (Finset.sum_congr rfl fun k _ => ?_) (Finset.sum_congr rfl fun k _ => ?_)) ?_
  · have e : k.val < 2048 := k.isLt
    simp only [e, dite_true]
  · have e : ¬ (2048 + k.val < 2048) := by omega
    have e' : 2048 + k.val - 2048 = k.val := by omega
    simp only [e, e', k.isLt, dite_true, dite_false]
  · refine (congrArg₂ (· + ·) (Finset.sum_congr rfl fun k _ => ?_) ?_).trans (add_zero _)
    · have e : ¬ (4096 + k.val < 2048) := by omega
      have e' : ¬ (4096 + k.val - 2048 < 2048) := by omega
      have e'' : 4096 + k.val - 2048 - 2048 = k.val := by omega
      simp only [e, e', e'', dite_false]
    · simp [FloatOps.sitofp]

/-- The result is the gradient of the input. -/
theorem value : (dats m 0 c).arrAt 6 (cfgs 0).N = (gradX (w m c) (dk m c) (dv m c) (df m c) : FVec Ideal S8192x2048 .f32) := by
  rw [final, V5, V6, V4, V1, V3]
  funext j
  exact rows_apply _ _ _ _ j

end Cert.Kernel10Ideal.Value

namespace Cert.Proof

open Idealize.ShloMosaic Idealize.ShloMosaic.TcCoe Idealize.SL.Sem

/-- The reference's frame: it declares no semaphore. -/
theorem frame_reference10 : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- The idealized kernel and the reference end with equal results. -/
theorem algebraic10 : Cert.algebraic_Kernel10Ideal_Reference10Ideal := by
  intro m g m' g' hpre hargs
  refine ⟨fun c => (Cert.Kernel10Ideal.Gen.dats m 0 c).arrAt 6 (Cert.Kernel10Ideal.cfgs 0).N, ?_, ?_⟩
  · run_from Cert.Kernel10Ideal.Gen.run_main m g
    exacts [Cert.Kernel10Ideal.Gen.V_main_arg0 m c, Cert.Kernel10Ideal.Gen.V_main_arg1 m c, Cert.Kernel10Ideal.Gen.V_main_arg2 m c, Cert.Kernel10Ideal.Gen.V_main_arg3 m c, Cert.Kernel10Ideal.Gen.V_main_arg4 m c]
  · refine (θ_run Cert.Reference10Ideal.defs _ _).mono (fun r h c => ?_) (Cert.Reference10Ideal.Value.run m' g')
    obtain ⟨h0, h1, h2, h3, h4⟩ := hargs c
    obtain ⟨r0, rest⟩ := h c
    refine ⟨r0.trans (Eq.trans ?_ (Cert.Kernel10Ideal.Value.value m c).symm), rest⟩
    rw [h1, h2, h3, h4]
    rfl

end Cert.Proof

end
-- ==== Proof.Proj.OutDx.lean ====
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

/-!
# The gradient of the output projection's input

Each block of the first result is computed at once: one product with a block of the weight's rows. The second result has a
lane for each head: that head's part of the product times the input, summed. A point fills the lanes of the eight heads its
block holds and puts zeros in the others; the two points of a block of rows add up.
-/

noncomputable section

namespace Cert.Kernel11Ideal.Value

open Idealize.ShloMosaic Idealize.ShloMosaic.TcCoe Idealize.SL.Sem
open Cert.Kernel11Ideal Cert.Kernel11Ideal.Gen

variable (m : (ℓ : Loc nD τ sig) → Buf (Elt Ideal) ℓ) (c : Dev nD)

/-- The product with the transposed weight: `∑ k, X i k * W j k`. -/
def rows (X : FVec Ideal S8192x2048 .bf16) (W : FVec Ideal S2048x2048 .bf16) : FVec Ideal S8192x2048 .bf16 :=
  fun j => ∑ k : Fin 2048, X (ix2 (j 0) k) * W (ix2 (j 1) k)

/-- Its product with the input, by head. -/
def delta (X : FVec Ideal S8192x2048 .bf16) (W : FVec Ideal S2048x2048 .bf16) (O : FVec Ideal S8192x2048 .bf16) : FVec Ideal S8192x128 .f32 :=
  fun j => if h : (j 1).val < 16 then ∑ x : Fin 128, rows X W (ix2 (j 0) (⟨(j 1).val * 128 + x.val, by omega⟩ : Fin 2048))
    * O (ix2 (j 0) (⟨(j 1).val * 128 + x.val, by omega⟩ : Fin 2048)) else 0

/-- A point's product. -/
theorem hpay4 (w x : FVec Ideal S1024x2048 .bf16) (j) :
    k0_pay4 (F := Ideal) w x j = ∑ k : Fin 2048, x (ix2 (j 0) k) * w (ix2 (j 1) k) := by
  pointwise [k0_pay4]

/-- It, times the input. -/
theorem hpay5 (w x : FVec Ideal S1024x2048 .bf16) (o : FVec Ideal S1024x1024 .bf16) (j) :
    k0_pay5 (F := Ideal) w x o j = (∑ k : Fin 2048, x (ix2 (j 0) k) * w (ix2 (j 1) k)) * o j := by
  rw [← hpay4]
  pointwise [k0_pay5]

/-- What is written out is the product. -/
theorem hpay2 (p : FVec Ideal S1024x1024 .f32) (j) : k0_pay2 (F := Ideal) p j = p j := by
  pointwise [k0_pay2]

/-- The lanes of a point's heads: head `8 b + n` sums the columns from `128 n`. -/
def heads (b : ℕ) (p : FVec Ideal S1024x1024 .f32) (j : S1024x128.Idx) : EReal :=
  if h : 8 * b ≤ (j 1).val ∧ (j 1).val < 8 * b + 8 then
    ∑ x : Fin 128, p (ix2 (j 0) (⟨((j 1).val - 8 * b) * 128 + x.val, by omega⟩ : Fin 1024)) else 0

theorem lane_fin : ∀ (n : Fin 8) (b : Fin 2) (l : Fin 128),
    IntOp.cmpi .eq (BitVec.ofNat 32 l.val) (Scalar.addi (Scalar.muli (BitVec.ofNat 32 b.val) 8#32) (BitVec.ofNat 32 n.val))
      = if l.val = 8 * b.val + n.val then 1#1 else 0#1 := by
  decide +kernel

/-- Whether a lane is head `8 b + n`'s. -/
theorem lane (n : ℕ) (hn : n < 8) (b : Fin 2) (l : ℕ) (hl : l < 128) :
    IntOp.cmpi .eq (BitVec.ofNat 32 l) (Scalar.addi (Scalar.muli (BitVec.ofNat 32 b.val) 8#32) (BitVec.ofNat 32 n))
      = if l = 8 * b.val + n then 1#1 else 0#1 :=
  lane_fin ⟨n, hn⟩ b ⟨l, hl⟩

theorem select_ite (P : Prop) [Decidable P] (x y : EReal) : Scalar.select (if P then 1#1 else 0#1) x y = if P then x else y := by
  split <;> rfl

/-- The lanes a point fills. -/
theorem lanes (i : grid0.Coords) (b : Fin 2) (hb : (i 1).val = b.val) (w x : FVec Ideal S1024x2048 .bf16) (o : FVec Ideal S1024x1024 .bf16) (j) :
    k0_pay1 (F := Ideal) (iota Kind.tc S1024x128 32 [1] iota_S1024x128_d1_w32)
      (k0_pay9 (BitVec.ofNat 32 (i 1).val) (iota Kind.tc S1024x128 32 [1] iota_S1024x128_d1_w32) (k0_pay5 w x o) (k0_pay6 i w x o) (k0_pay7 i)
        (k0_pay8 w x o)) (k0_pay10 (k0_pay5 w x o)) (Scalar.muli (BitVec.ofNat 32 (i 1).val) 8#32) 7#32 j
      = heads b.val (k0_pay5 (F := Ideal) w x o) j := by
  pointwise [k0_pay1, k0_pay9, k0_pay6, k0_pay7, k0_pay8, k0_pay10]
  generalize k0_pay5 (F := Ideal) w x o = p
  have hl : (j 1).val < 128 := (j 1).isLt
  rw [hb, lane 7 (by omega) b _ hl, lane 6 (by omega) b _ hl, lane 5 (by omega) b _ hl, lane 4 (by omega) b _ hl, lane 3 (by omega) b _ hl,
    lane 2 (by omega) b _ hl, lane 1 (by omega) b _ hl, lane 0 (by omega) b _ hl]
  simp only [select_ite]
  unfold heads
  split_ifs <;> first
    | (exfalso; omega)
    | rfl
    | exact Finset.sum_congr rfl fun x _ => congrArg (fun q => p (ix2 (j 0) q)) (Fin.ext (by dsimp only; omega))

/-- A later point adds its lanes. -/
theorem hpay3 {a q r s n prev} (j) : k0_pay3 (F := Ideal) a q r s n prev j = prev j + k0_pay1 (F := Ideal) a q r s n j := by
  pointwise [k0_pay3, k0_pay1]

/-- The blocks the windows are on. -/
theorem idx : ∀ t : Fin cfg0.N, win0_0.index t = ![t.val / 2, 0] ∧ win0_1.index t = ![t.val % 2, 0]
    ∧ win0_2.index t = ![t.val / 2, t.val % 2] ∧ win0_3.index t = ![t.val / 2, t.val % 2] ∧ win0_4.index t = ![t.val / 2, 0] :=
  (by decide +kernel : ∀ t : Fin grid0.N, _)

/-- The second grid coordinate. -/
theorem coord : ∀ t : Fin cfg0.N, (grid0.coords t 1).val = t.val % 2 := (by decide +kernel : ∀ t : Fin grid0.N, _)

/-- A point's product times the input. -/
def prod (c : Dev nD) (t : Fin cfg0.N) : FVec Ideal S1024x1024 .f32 :=
  k0_pay5 (F := Ideal) (iblk m c 1 t) (iblk m c 0 t) (iblk m c 2 t)

/-- The lanes after a row's first point. -/
theorem first (c : Dev nD) (t : Fin cfg0.N) (h : t.val % 2 = 0) (j : S1024x128.Idx) :
    (outsAt0 m c t.val t.isLt).2 j = heads 0 (prod m c t) j := by
  rw [outsAt0_A m c t h (by omega)]
  frame_out
  exact lanes _ 0 ((coord t).trans h) _ _ _ _

/-- The lanes after its second. -/
theorem second (c : Dev nD) (t : Fin cfg0.N) (h : t.val % 2 = 1) (j : S1024x128.Idx) :
    (outsAt0 m c t.val t.isLt).2 j
      = (outsAt0 m c (t.val - 1) (Nat.lt_of_le_of_lt (Nat.sub_le _ _) t.isLt)).2 j + heads 1 (prod m c t) j := by
  rw [outsAt0_B m c t (by omega) h]
  frame_out
  rw [hpay3]
  exact congrArg (_ + ·) (lanes _ 1 ((coord t).trans h) _ _ _ _)

/-- The block of the first result, at either point. -/
theorem block (c : Dev nD) (t : Fin cfg0.N) (j : S1024x1024.Idx) :
    (outsAt0 m c t.val t.isLt).1 j = k0_pay4 (F := Ideal) (iblk m c 1 t) (iblk m c 0 t) j := by
  by_cases h : t.val % 2 = 0
  · rw [outsAt0_A m c t h (by omega)]
    frame_out
    rw [hpay2]
  · rw [outsAt0_B m c t h (by omega)]
    frame_out
    rw [hpay2]

/-- The first result, of the two arrays the region finds. -/
theorem final : (dats m 0 c).arrAt 3 (cfgs 0).N = rows (V m c main_v0) (V m c main_v1) := by
  refine (dats m 0 c).arrAt_eq_of_covers 3 _ (by decide +kernel) fun t hf y => ?_
  blk_simp
  rw [after0_3, block, hpay4]
  unfold rows
  blk_point [iblk, idx t]

/-- A point's product times the input, in the arrays the region finds. -/
theorem prod_apply (c : Dev nD) (t : Fin cfg0.N) (i : Fin 1024) (q : Fin 1024) (r : Fin 8192) (s : Fin 2048)
    (hr : r.val = t.val / 2 * 1024 + i.val) (hs : s.val = t.val % 2 * 1024 + q.val) :
    prod m c t (ix2 i q) = rows (V m c main_v0) (V m c main_v1) (ix2 r s) * (show FVec Ideal S8192x2048 .bf16 from V m c main_v2) (ix2 r s) := by
  unfold prod rows
  rw [hpay5]
  refine congrArg₂ (· * ·) ?_ ?_
  · blk_point [iblk, idx t, hr, hs]
  · blk_point [iblk, idx t, hr, hs]

/-- The second result's entries. -/
theorem delta_at (X : FVec Ideal S8192x2048 .bf16) (W : FVec Ideal S2048x2048 .bf16) (O : FVec Ideal S8192x2048 .bf16) (r : Fin 8192) (l : Fin 128) :
    delta X W O (ix2 r l) = if h : l.val < 16 then ∑ x : Fin 128, rows X W (ix2 r (⟨l.val * 128 + x.val, by omega⟩ : Fin 2048))
      * O (ix2 r (⟨l.val * 128 + x.val, by omega⟩ : Fin 2048)) else 0 := rfl

/-- The lanes of the two points of a block of rows. -/
theorem both (c : Dev nD) (t : Fin cfg0.N) (ht : t.val % 2 = 1) (i : Fin 1024) (l : Fin 128) (r : Fin 8192) (hr : r.val = t.val / 2 * 1024 + i.val) :
    heads 0 (prod m c ⟨t.val - 1, Nat.lt_of_le_of_lt (Nat.sub_le _ _) t.isLt⟩) (ix2 i l) + heads 1 (prod m c t) (ix2 i l)
      = delta (V m c main_v0) (V m c main_v1) (V m c main_v2) (ix2 r l) := by
  rw [delta_at]
  unfold heads
  have e : (ix2 i l : S1024x128.Idx) 1 = l := rfl
  have e' : (ix2 i l : S1024x128.Idx) 0 = i := rfl
  simp only [e, e']
  by_cases h8 : l.val < 8
  · rw [dif_pos (by omega : 8 * 0 ≤ l.val ∧ l.val < 8 * 0 + 8), dif_neg (by omega : ¬ (8 * 1 ≤ l.val ∧ l.val < 8 * 1 + 8)), add_zero,
      dif_pos (by omega : l.val < 16)]
    refine Finset.sum_congr rfl fun x _ => ?_
    exact prod_apply m c ⟨t.val - 1, Nat.lt_of_le_of_lt (Nat.sub_le _ _) t.isLt⟩ _ _ _ _ (by dsimp only; omega) (by dsimp only; omega)
  · by_cases h16 : l.val < 16
    · rw [dif_neg (by omega : ¬ (8 * 0 ≤ l.val ∧ l.val < 8 * 0 + 8)), dif_pos (by omega : 8 * 1 ≤ l.val ∧ l.val < 8 * 1 + 8), zero_add,
        dif_pos h16]
      refine Finset.sum_congr rfl fun x _ => ?_
      exact prod_apply m c t _ _ _ _ hr (by dsimp only; omega)
    · rw [dif_neg (by omega : ¬ (8 * 0 ≤ l.val ∧ l.val < 8 * 0 + 8)), dif_neg (by omega : ¬ (8 * 1 ≤ l.val ∧ l.val < 8 * 1 + 8)), add_zero,
        dif_neg h16]

/-- The second result, of the three arrays the region finds. -/
theorem final' : (dats m 0 c).arrAt 4 (cfgs 0).N = delta (V m c main_v0) (V m c main_v1) (V m c main_v2) := by
  refine (dats m 0 c).arrAt_eq_of_covers 4 _ (by decide +kernel) fun t hf (y : S1024x128.Idx) => ?_
  have ht := (flush0_4 t).mp hf
  have hN : t.val < 16 := t.isLt
  have h0 : (y 0).val < 1024 := (y 0).isLt
  have e : (win0_4.blk t).view.emb y = ix2 (⟨t.val / 2 * 1024 + (y 0).val, by omega⟩ : Fin 8192) (y 1) := by
    blk_ext [idx t]
  blk_simp
  rw [after0_4, second m c t ht, first m c ⟨t.val - 1, by omega⟩ (by show (t.val - 1) % 2 = 0; omega), e]
  have hy : y = ix2 (y 0) (y 1) := by
    blk_ext []
  exact (congrArg₂ (· + ·) (congrArg (heads 0 _) hy) (congrArg (heads 1 _) hy)).trans (both m c t ht _ _ _ rfl)

/-- The arguments. -/
def o : FVec Ideal S8192x2048 .f32 := m ((c.tc : Thread nD τ).loc main_arg0)
def w : FVec Ideal S2048x2048 .f32 := m ((c.tc : Thread nD τ).loc main_arg1)
def d : FVec Ideal S8192x2048 .f32 := m ((c.tc : Thread nD τ).loc main_arg2)

/-- The operands. -/
theorem V0 : V m c main_v0 = (truncf .bf16 (d m c) bitsLt_bf16_f32 : FVec Ideal S8192x2048 .bf16) := by
  entry_read; rfl
theorem V1 : V m c main_v1 = (truncf .bf16 (w m c) bitsLt_bf16_f32 : FVec Ideal S2048x2048 .bf16) := by
  entry_read; rfl
theorem V2 : V m c main_v2 = (truncf .bf16 (o m c) bitsLt_bf16_f32 : FVec Ideal S8192x2048 .bf16) := by
  entry_read; rfl

/-- The reference's gradient of the input, `d wᵀ`. -/
def gradX {F : FTy → Type} [FloatOps F] (w : FVec F S2048x2048 .f32) (d : FVec F S8192x2048 .f32) : FVec F S8192x2048 .f32 :=
  Host.dotGeneral Reference11Ideal.dot_S8192x2048_S2048x2048_S8192x2048_1_1_0_0_n_n none d w

/-- A gradient times the input, summed by head, in the lanes of the heads. -/
def byHead {F : FTy → Type} [FloatOps F] (g o : FVec F S8192x2048 .f32) : FVec F S8192x128 .f32 :=
  pad Reference11Ideal.S8192x128 ![0, 0] ![0, 112] ![0, 0]
    (Host.reduceAdd (shapeCast Reference11Ideal.S8192x16x128 (mulf g o) Reference11Ideal.Gen.shapeCasts_S8192x2048_S8192x16x128)
      (constant Reference11Ideal.S_ .f32 0x00000000#32) Reference11Ideal.Gen.reducesTo_S8192x16x128_S8192x16_d2 Reference11Ideal.Gen.h_S_)
    (sitofp .f32 (constantI Reference11Ideal.S_ 32 0#32)) Reference11Ideal.Gen.pads_S8192x16_S8192x128_000_01120 Reference11Ideal.Gen.h_S_

theorem gradX_apply (w : FVec Ideal S2048x2048 .f32) (d : FVec Ideal S8192x2048 .f32) (j) :
    gradX w d j = ∑ k : Fin 2048, d (ix2 (j 0) k) * w (ix2 (j 1) k) := by
  pointwise [gradX]

theorem byHead_apply (g o : FVec Ideal S8192x2048 .f32) (j) :
    byHead g o j = if h : (j 1).val < 16 then ∑ x : Fin 128, g (ix2 (j 0) (⟨(j 1).val * 128 + x.val, by omega⟩ : Fin 2048))
      * o (ix2 (j 0) (⟨(j 1).val * 128 + x.val, by omega⟩ : Fin 2048)) else 0 := by
  pointwise [byHead]
  simp [FloatOps.sitofp]

/-- The first result is the gradient of the input. -/
theorem value : (dats m 0 c).arrAt 3 (cfgs 0).N = (truncf .bf16 (gradX (w m c) (d m c)) bitsLt_bf16_f32 : FVec Ideal S8192x2048 .bf16) := by
  rw [final, V0, V1]
  funext j
  exact (gradX_apply _ _ j).symm

/-- The second is that times the input, summed by head. -/
theorem value' : (dats m 0 c).arrAt 4 (cfgs 0).N = (byHead (gradX (w m c) (d m c)) (o m c) : FVec Ideal S8192x128 .f32) := by
  rw [final', V0, V1, V2]
  funext j
  rw [byHead_apply]
  unfold delta
  refine dite_congr rfl (fun h => Finset.sum_congr rfl fun x _ => ?_) fun _ => rfl
  exact congrArg (· * _) (gradX_apply _ _ _).symm

end Cert.Kernel11Ideal.Value

namespace Cert.Proof

open Idealize.ShloMosaic Idealize.ShloMosaic.TcCoe Idealize.SL.Sem

/-- The reference's frame: it declares no semaphore. -/
theorem frame_reference11 : Cert.quiescent_Reference11Ideal := fun m g _ =>
  (θ_run Cert.Reference11Ideal.defs _ _).mono (fun r h => ⟨fun c => (h c).2.2, sem_eq_zero_of_no_sems (by decide) r.2⟩)
    (Cert.Reference11Ideal.Value.run m g)

/-- The idealized kernel and the reference end with equal results. -/
theorem algebraic11 : Cert.algebraic_Kernel11Ideal_Reference11Ideal := by
  intro m g m' g' hpre hargs
  refine ⟨fun c => (Cert.Kernel11Ideal.Gen.dats m 0 c).arrAt 3 (Cert.Kernel11Ideal.cfgs 0).N, fun c => (Cert.Kernel11Ideal.Gen.dats m 0 c).arrAt 4 (Cert.Kernel11Ideal.cfgs 0).N, ?_, ?_⟩
  · run_from Cert.Kernel11Ideal.Gen.run_main m g
  · refine (θ_run Cert.Reference11Ideal.defs _ _).mono (fun r h c => ?_) (Cert.Reference11Ideal.Value.run m' g')
    obtain ⟨h0, h1, h2⟩ := hargs c
    obtain ⟨r0, r1, rest⟩ := h c
    refine ⟨r0.trans (Eq.trans ?_ (Cert.Kernel11Ideal.Value.value m c).symm), r1.trans (Eq.trans ?_ (Cert.Kernel11Ideal.Value.value' m c).symm), rest⟩
    · rw [h1, h2]
      rfl
    · rw [h0, h1, h2]
      rfl

end Cert.Proof

end
-- ==== Proof.Proj.Kv.lean ====
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

/-!
# The keys and values

Each block of the result is computed at once: one product with a block of the weight's columns.
-/

noncomputable section

namespace Cert.Kernel12Ideal.Value

open Idealize.ShloMosaic Idealize.ShloMosaic.TcCoe Idealize.SL.Sem
open Cert.Kernel12Ideal Cert.Kernel12Ideal.Gen

variable (m : (ℓ : Loc nD τ sig) → Buf (Elt Ideal) ℓ) (c : Dev nD)

/-- The product: `∑ k, X i k * W k j`. -/
def cols (X : FVec Ideal S8192x2048 .bf16) (W : FVec Ideal S2048x4096 .bf16) : FVec Ideal S8192x4096 .bf16 :=
  fun j => ∑ k : Fin 2048, X (ix2 (j 0) k) * W (ix2 k (j 1))

/-- A point's block. -/
theorem hpay1 (w : FVec Ideal S2048x1024 .bf16) (x : FVec Ideal S1024x2048 .bf16) (j) :
    k0_pay1 (F := Ideal) w x j = ∑ k : Fin 2048, x (ix2 (j 0) k) * w (ix2 k (j 1)) := by
  pointwise [k0_pay1]

/-- The blocks the windows are on. -/
theorem idx : ∀ t : Fin cfg0.N, win0_0.index t = ![t.val / 4, 0] ∧ win0_1.index t = ![0, t.val % 4]
    ∧ win0_2.index t = ![t.val / 4, t.val % 4] := (by decide +kernel : ∀ t : Fin grid0.N, _)

/-- The result, of the two arrays the region finds. -/
theorem final : (dats m 0 c).arrAt 2 (cfgs 0).N = cols (V m c main_v0) (V m c main_v2) := by
  refine (dats m 0 c).arrAt_eq_of_covers 2 _ (by decide +kernel) fun t hf y => ?_
  blk_simp
  rw [after0_2]
  unfold outsAt0
  frame_out
  rw [hpay1]
  unfold cols
  blk_point [iblk, idx t]

/-- The arguments. -/
def h : FVec Ideal S8192x2048 .f32 := m ((c.tc : Thread nD τ).loc main_arg0)
def w : FVec Ideal S2048x4112 .f32 := m ((c.tc : Thread nD τ).loc main_arg1)

/-- The operands. -/
theorem V0 : V m c main_v0 = (truncf .bf16 (h m c) bitsLt_bf16_f32 : FVec Ideal S8192x2048 .bf16) := by
  entry_read; rfl
theorem V2 : V m c main_v2 = (extractStridedSlice S2048x4096 ![0, 0] (truncf .bf16 (w m c) bitsLt_bf16_f32 : FVec Ideal S2048x4112 .bf16)
    slices_S2048x4112_S2048x4096_0_0 : FVec Ideal S2048x4096 .bf16) := by
  entry_read; rfl

/-- The reference's result: the columns of `h w_kvf` for the keys and the values. -/
def proj {F : FTy → Type} [FloatOps F] (h : FVec F S8192x2048 .f32) (w : FVec F S2048x4112 .f32) : FVec F S8192x4096 .bf16 :=
  truncf .bf16 (extractStridedSlice S8192x4096 ![0, 0]
    (Host.dotGeneral Reference12Ideal.dot_S8192x2048_S2048x4112_S8192x4112_1_0_0_1_n_n none h w)
    Reference12Ideal.Facts₀.slices_S8192x4112_S8192x4096_0_0) bitsLt_bf16_f32

/-- A product with the sliced weight is the sliced product. -/
theorem proj_apply (h : FVec Ideal S8192x2048 .f32) (w : FVec Ideal S2048x4112 .f32) (j) :
    cols (truncf .bf16 h bitsLt_bf16_f32) (extractStridedSlice S2048x4096 ![0, 0] (truncf .bf16 w bitsLt_bf16_f32 : FVec Ideal S2048x4112 .bf16)
      slices_S2048x4112_S2048x4096_0_0) j = proj h w j := by
  pointwise [cols, proj]
  try blk_point []

/-- The result is the keys and the values. -/
theorem value : (dats m 0 c).arrAt 2 (cfgs 0).N = (proj (h m c) (w m c) : FVec Ideal S8192x4096 .bf16) := by
  rw [final, V0, V2]
  funext j
  exact proj_apply _ _ j

end Cert.Kernel12Ideal.Value

namespace Cert.Proof

open Idealize.ShloMosaic Idealize.ShloMosaic.TcCoe Idealize.SL.Sem

/-- The reference's frame: it declares no semaphore. -/
theorem frame_reference12 : Cert.quiescent_Reference12Ideal := fun m g _ =>
  (θ_run Cert.Reference12Ideal.defs _ _).mono (fun r h => ⟨fun c => (h c).2, sem_eq_zero_of_no_sems (by decide) r.2⟩)
    (Cert.Reference12Ideal.Value.run m g)

/-- The idealized kernel and the reference end with equal results. -/
theorem algebraic12 : Cert.algebraic_Kernel12Ideal_Reference12Ideal := by
  intro m g m' g' hpre hargs
  refine ⟨fun c => (Cert.Kernel12Ideal.Gen.dats m 0 c).arrAt 2 (Cert.Kernel12Ideal.cfgs 0).N, ?_, ?_⟩
  · run_from Cert.Kernel12Ideal.Gen.run_main m g
  · refine (θ_run Cert.Reference12Ideal.defs _ _).mono (fun r h c => ?_) (Cert.Reference12Ideal.Value.run m' g')
    obtain ⟨h0, h1⟩ := hargs c
    obtain ⟨r0, rest⟩ := h c
    refine ⟨r0.trans (Eq.trans ?_ (Cert.Kernel12Ideal.Value.value m c).symm), rest⟩
    rw [h0, h1]
    rfl

end Cert.Proof

end
-- ==== Proof.Proj.Out.lean ====
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import Idealize.ShloMosaic.Lib.Pipeline.ValueKit
public import Idealize.ShloMosaic.Lib.Pipeline.ReadBack
public import Idealize.ShloMosaic.Lib.Claim
public import Idealize.ShloMosaic.Adequacy
public import Idealize.ShloMosaic.Init

@[expose] public section

/-!
# The output projection

Each block of the result is computed at once: one product with a block of the weight's columns, and the residual stream added.
-/

noncomputable section

namespace Cert.Kernel13Ideal.Value

open Idealize.ShloMosaic Idealize.ShloMosaic.TcCoe Idealize.SL.Sem
open Cert.Kernel13Ideal Cert.Kernel13Ideal.Gen

variable (m : (ℓ : Loc nD τ sig) → Buf (Elt Ideal) ℓ) (c : Dev nD)

/-- The product and the residual: `(∑ k, X i k * W k j) + R i j`. -/
def cols (X : FVec Ideal S8192x2048 .bf16) (W : FVec Ideal S2048x2048 .bf16) (R : FVec Ideal S8192x2048 .f32) : FVec Ideal S8192x2048 .f32 :=
  fun j => (∑ k : Fin 2048, X (ix2 (j 0) k) * W (ix2 k (j 1))) + R j

/-- A point's block. -/
theorem hpay1 (w : FVec Ideal S2048x1024 .bf16) (x : FVec Ideal S1024x2048 .bf16) (r : FVec Ideal S1024x1024 .f32) (j) :
    k0_pay1 (F := Ideal) w x r j = (∑ k : Fin 2048, x (ix2 (j 0) k) * w (ix2 k (j 1))) + r j := by
  pointwise [k0_pay1]

/-- The blocks the windows are on. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] := (by decide +kernel : ∀ t : Fin grid0.N, _)

/-- The result, of the three arrays the region finds. -/
theorem final : (dats m 0 c).arrAt 3 (cfgs 0).N = cols (V m c main_v0) (V m c main_v1) (V m c main_arg2) := by
  refine (dats m 0 c).arrAt_eq_of_covers 3 _ (by decide +kernel) fun t hf y => ?_
  blk_simp
  rw [after0_3]
  unfold outsAt0
  frame_out
  rw [hpay1]
  unfold cols
  blk_point [iblk, idx t]

/-- The arguments. -/
def o : FVec Ideal S8192x2048 .f32 := m ((c.tc : Thread nD τ).loc main_arg0)
def w : FVec Ideal S2048x2048 .f32 := m ((c.tc : Thread nD τ).loc main_arg1)
def res : FVec Ideal S8192x2048 .f32 := m ((c.tc : Thread nD τ).loc main_arg2)

/-- The operands. -/
theorem V0 : V m c main_v0 = (truncf .bf16 (o m c) bitsLt_bf16_f32 : FVec Ideal S8192x2048 .bf16) := by
  entry_read; rfl
theorem V1 : V m c main_v1 = (truncf .bf16 (w m c) bitsLt_bf16_f32 : FVec Ideal S2048x2048 .bf16) := by
  entry_read; rfl
theorem VR : V m c main_arg2 = res m c := V_main_arg2 m c

/-- The reference's result: the residual stream and `o w_o`. -/
def proj {F : FTy → Type} [FloatOps F] (o : FVec F S8192x2048 .f32) (w : FVec F S2048x2048 .f32) (r : FVec F S8192x2048 .f32) :
    FVec F S8192x2048 .f32 :=
  addf r (Host.dotGeneral Reference13Ideal.dot_S8192x2048_S2048x2048_S8192x2048_1_0_0_1_n_n none o w)

theorem proj_apply (o : FVec Ideal S8192x2048 .f32) (w : FVec Ideal S2048x2048 .f32) (r : FVec Ideal S8192x2048 .f32) (j) :
    proj o w r j = r j + ∑ k : Fin 2048, o (ix2 (j 0) k) * w (ix2 k (j 1)) := by
  pointwise [proj]

/-- The result is the residual stream and the projection. -/
theorem value : (dats m 0 c).arrAt 3 (cfgs 0).N = (proj (o m c) (w m c) (res m c) : FVec Ideal S8192x2048 .f32) := by
  rw [final, V0, V1, VR]
  funext j
  refine Eq.trans ?_ (proj_apply _ _ _ j).symm
  exact add_comm _ _

end Cert.Kernel13Ideal.Value

namespace Cert.Proof

open Idealize.ShloMosaic Idealize.ShloMosaic.TcCoe Idealize.SL.Sem

/-- The reference's frame: it declares no semaphore. -/
theorem frame_reference13 : Cert.quiescent_Reference13Ideal := fun m g _ =>
  (θ_run Cert.Reference13Ideal.defs _ _).mono (fun r h => ⟨fun c => (h c).2, sem_eq_zero_of_no_sems (by decide) r.2⟩)
    (Cert.Reference13Ideal.Value.run m g)

/-- The idealized kernel and the reference end with equal results. -/
theorem algebraic13 : Cert.algebraic_Kernel13Ideal_Reference13Ideal := by
  intro m g m' g' hpre hargs
  refine ⟨fun c => (Cert.Kernel13Ideal.Gen.dats m 0 c).arrAt 3 (Cert.Kernel13Ideal.cfgs 0).N, ?_, ?_⟩
  · run_from Cert.Kernel13Ideal.Gen.run_main m g
  · refine (θ_run Cert.Reference13Ideal.defs _ _).mono (fun r h c => ?_) (Cert.Reference13Ideal.Value.run m' g')
    obtain ⟨h0, h1, h2⟩ := hargs c
    obtain ⟨r0, rest⟩ := h c
    refine ⟨r0.trans (Eq.trans ?_ (Cert.Kernel13Ideal.Value.value m c).symm), rest⟩
    rw [h0, h1, h2]
    rfl

end Cert.Proof

end
-- ==== Proof.Math.lean ====
module

public import Mathlib.Data.EReal.Operations
public import Mathlib.Analysis.SpecialFunctions.Pow.Real
public import Mathlib.Algebra.BigOperators.Fin

@[expose] public section

/-!
# The attention backward over the reals, block by block

`Head` holds the real numbers behind one head as the call receives them: queries already scaled to base two, the
gate's cumulative sum in base two, the log of the normaliser. `Head.P` is the attention weight, `Head.DS` the gradient
of the logits. The sums over blocks of positions are split here.
-/

noncomputable section

namespace Cert.Fox

/-- A sum of reals is the same sum taken among the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Position `r` of block `b`. -/
def pos (b : Fin 8) (r : Fin 1024) : Fin 8192 := ⟨1024 * b.val + r.val, by omega⟩

/-- The first position of the block of `t`. -/
def first (t : Fin 8192) : Fin 8192 := ⟨1024 * (t.val / 1024), by omega⟩

/-- The block of a position, and its place there. -/
def blk (t : Fin 8192) : Fin 8 := ⟨t.val / 1024, by omega⟩
def off (t : Fin 8192) : Fin 1024 := ⟨t.val % 1024, by omega⟩

theorem pos_blk_off (t : Fin 8192) : pos (blk t) (off t) = t := Fin.ext (by show 1024 * (t.val / 1024) + t.val % 1024 = t.val; omega)

theorem first_pos (b : Fin 8) (r : Fin 1024) : first (pos b r) = pos b 0 :=
  Fin.ext (by show 1024 * ((1024 * b.val + r.val) / 1024) = 1024 * b.val + 0; omega)

theorem pos_le_of_lt {j b : Fin 8} (h : j < b) (s r : Fin 1024) : pos j s ≤ pos b r := by
  show 1024 * j.val + s.val ≤ 1024 * b.val + r.val
  have : j.val < b.val := h
  omega

theorem not_pos_le_of_lt {j b : Fin 8} (h : b < j) (s r : Fin 1024) : ¬ pos j s ≤ pos b r := by
  show ¬ 1024 * j.val + s.val ≤ 1024 * b.val + r.val
  have : b.val < j.val := h
  omega

theorem pos_le_same (j : Fin 8) (s r : Fin 1024) : pos j s ≤ pos j r ↔ s.val ≤ r.val := by
  show 1024 * j.val + s.val ≤ 1024 * j.val + r.val ↔ _
  omega

theorem pos_inj {b b' : Fin 8} {r r' : Fin 1024} : pos b r = pos b' r' ↔ b = b' ∧ r = r' := by
  constructor
  · intro h
    have h' : 1024 * b.val + r.val = 1024 * b'.val + r'.val := congrArg Fin.val h
    exact ⟨Fin.ext (by omega), Fin.ext (by omega)⟩
  · rintro ⟨rfl, rfl⟩; rfl

/-- A sum over the positions is the sum over the blocks of the sums inside them. -/
theorem sum_pos (f : Fin 8192 → ℝ) : ∑ t, f t = ∑ b, ∑ r, f (pos b r) := by
  rw [← Fintype.sum_prod_type' (fun b r => f (pos b r))]
  refine (Fintype.sum_bijective (fun x : Fin 8 × Fin 1024 => pos x.1 x.2) ⟨?_, ?_⟩ _ _ (fun _ => rfl)).symm
  · rintro ⟨b, r⟩ ⟨b', r'⟩ h
    obtain ⟨rfl, rfl⟩ := pos_inj.mp h
    rfl
  · intro t; exact ⟨(blk t, off t), pos_blk_off t⟩

/-- The real numbers behind one head. -/
structure Head where
  q : Fin 8192 → Fin 128 → ℝ
  k : Fin 8192 → Fin 128 → ℝ
  v : Fin 8192 → Fin 128 → ℝ
  d : Fin 8192 → Fin 128 → ℝ
  c : Fin 8192 → ℝ
  l2 : Fin 8192 → ℝ
  dl : Fin 8192 → ℝ

/-- The weight of key `s` for query `t`. -/
def Head.P (H : Head) (s t : Fin 8192) : ℝ :=
  if s ≤ t then (2 : ℝ) ^ (∑ x, H.k s x * H.q t x - (H.c s - H.c (first t)) - H.l2 t) else 0

/-- The gradient of the logit of key `s` for query `t`. -/
def Head.DS (H : Head) (s t : Fin 8192) : ℝ := H.P s t * (∑ x, H.v s x * H.d t x - H.dl t)

theorem Head.P_eq_zero (H : Head) {j b : Fin 8} (h : b < j) (s r : Fin 1024) : H.P (pos j s) (pos b r) = 0 :=
  if_neg (not_pos_le_of_lt h s r)

theorem Head.DS_eq_zero (H : Head) {j b : Fin 8} (h : b < j) (s r : Fin 1024) : H.DS (pos j s) (pos b r) = 0 := by
  unfold Head.DS; rw [H.P_eq_zero h, zero_mul]

/-! ## Sums over the first blocks -/

/-- The sum over the blocks up to `n`. -/
def upTo (n : ℕ) (f : Fin 8 → ℝ) : ℝ := ∑ b : Fin 8, if b.val ≤ n then f b else 0
/-- The sum over the blocks before `n`. -/
def before (n : ℕ) (f : Fin 8 → ℝ) : ℝ := ∑ b : Fin 8, if b.val < n then f b else 0

theorem upTo_succ (f : Fin 8 → ℝ) (n : ℕ) (h : n + 1 < 8) : upTo (n + 1) f = upTo n f + f ⟨n + 1, h⟩ := by
  have e : f ⟨n + 1, h⟩ = ∑ b : Fin 8, if b = ⟨n + 1, h⟩ then f b else 0 := by simp
  rw [e, upTo, upTo, ← Finset.sum_add_distrib]
  refine Finset.sum_congr rfl fun b _ => ?_
  by_cases hb : b = ⟨n + 1, h⟩
  · subst hb; simp
  · have hne : b.val ≠ n + 1 := fun h' => hb (Fin.ext h')
    by_cases h1 : b.val ≤ n
    · rw [if_pos h1, if_pos (by omega), if_neg hb, add_zero]
    · rw [if_neg h1, if_neg (by omega), if_neg hb, add_zero]

theorem before_succ (f : Fin 8 → ℝ) (n : Fin 8) : before (n.val + 1) f = before n.val f + f n := by
  have e : f n = ∑ b : Fin 8, if b = n then f b else 0 := by simp
  rw [e, before, before, ← Finset.sum_add_distrib]
  refine Finset.sum_congr rfl fun b _ => ?_
  by_cases hb : b = n
  · subst hb; simp
  · have hne : b.val ≠ n.val := fun h' => hb (Fin.ext h')
    by_cases h1 : b.val < n.val
    · rw [if_pos h1, if_pos (by omega), if_neg hb, add_zero]
    · rw [if_neg h1, if_neg (by omega), if_neg hb, add_zero]

/-- Where the earlier blocks give nothing, the sum up to `j` is its last term. -/
theorem upTo_first (f : Fin 8 → ℝ) (j : Fin 8) (h : ∀ b, b < j → f b = 0) : upTo j.val f = f j := by
  rw [upTo, Finset.sum_eq_single j]
  · rw [if_pos (le_refl _)]
  · intro b _ hb
    by_cases h1 : b.val ≤ j.val
    · rw [if_pos h1]; exact h b (lt_of_le_of_ne h1 hb)
    · rw [if_neg h1]
  · intro hj; exact absurd (Finset.mem_univ j) hj

theorem upTo_seven (f : Fin 8 → ℝ) : upTo 7 f = ∑ b, f b :=
  Finset.sum_congr rfl fun b _ => if_pos (by omega)
theorem before_eight (f : Fin 8 → ℝ) : before 8 f = ∑ b, f b :=
  Finset.sum_congr rfl fun b _ => if_pos b.isLt
theorem before_zero (f : Fin 8 → ℝ) : before 0 f = 0 :=
  Finset.sum_eq_zero fun b _ => if_neg (by omega)

end Cert.Fox

end
-- ==== Proof.Attn.Head.lean ====
module

public import proofs.«01_k».proof.Proof.Gen.Kernel14Ideal.Frame
public import proofs.«01_k».proof.Proof.Math
public import Idealize.ShloMosaic.Lib.Pipeline.ValueKit
public import Idealize.ShloMosaic.Lib.Pipeline.ReadBack
public import Idealize.ShloMosaic.Lib.Pointwise

@[expose] public section

set_option maxRecDepth 16384

/-!
# The forward attention's point, head by head

A point computes two heads with the same steps. Here one head's steps are written once, and the point's two halves of the
output are shown to be the steps of the two heads.
-/

noncomputable section

namespace Cert.Kernel14Ideal.Attn

open Idealize.ShloMosaic Idealize.ShloMosaic.TcCoe Idealize.SL.Sem
open Cert.Kernel14Ideal Cert.Kernel14Ideal.Gen
open Cert.Fox (pos)

variable {F : FTy → Type} [FloatOps F] [Named F]

/-- The rows' running maximum, sum and product. -/
abbrev St (F : FTy → Type) : Type := FVec F S1024x1 .f32 × FVec F S1024x1 .f32 × FVec F S1024x128 .f32

/-- The new maximum. -/
def newMax (S : FVec F S1024x1024 .f32) (m : FVec F S1024x1 .f32) : FVec F S1024x1 .f32 :=
  maximumf m (shapeCast S1024x1 (multiReduction .maximumf [1] S1024 S 0xFF800000#32 reduces_S1024x1024_S1024 (.inl rfl) rfl) shapeCasts_S1024_S1024x1)
/-- The new product. -/
def newAcc (m m' : FVec F S1024x1 .f32) (a : FVec F S1024x128 .f32) (S : FVec F S1024x1024 .f32) (v : FVec F S1024x128 .bf16) : FVec F S1024x128 .f32 :=
  addf (mulf (broadcastTo S1024x128 (k0_pay51 m m') broadcasts_S1024x1_S1024x128) a)
    (matmul dot_S1024x1024_S1024x128_S1024x128_1_0_0_1_n_n none (truncf .bf16 (k0_pay52 S m') bitsLt_bf16_f32) v (constant S1024x128 .f32 0x00000000#32))
/-- One block of keys: its logits `S`, its values `v`. -/
def step (S : FVec F S1024x1024 .f32) (v : FVec F S1024x128 .bf16) (s : St F) : St F :=
  (newMax S s.1, k0_pay53 s.1 s.2.1 S (newMax S s.1), newAcc s.1 (newMax S s.1) s.2.2 S v)

/-- One head's queries of a block, and its keys, values and gate's sums by block. -/
structure In (F : FTy → Type) where
  q : Vec F S1024x128 .bf16
  k : Fin 8 → Vec F S1024x128 .bf16
  v : Fin 8 → Vec F S1024x128 .bf16
  c : Fin 8 → Vec F S1x1x1x1024 .f32

/-- The logits of block `j` for the queries of block `b`, without and with the mask. -/
def In.open' (I : In F) (b j : Fin 8) : FVec F S1024x1024 .f32 := k0_pay2 (k0_pay20 (I.c b)) (k0_pay22 I.q) (I.k j) (I.c j)
def In.masked (I : In F) (b : Fin 8) : FVec F S1024x1024 .f32 := k0_pay49 (k0_pay20 (I.c b)) (k0_pay22 I.q) (I.k b) (I.c b)

/-- The state before block `n`. -/
def In.seq (I : In F) (b : Fin 8) : ℕ → St F
  | 0 => (k0_pay24, k0_pay25, k0_pay26)
  | n + 1 => if h : n < 8 then step (I.open' b ⟨n, h⟩) (k0_pay8 (I.v ⟨n, h⟩)) (I.seq b n) else I.seq b n

/-- The state at the end, and the output. -/
def In.last (I : In F) (b : Fin 8) : St F := step (I.masked b) (k0_pay8 (I.v b)) (I.seq b b.val)
def In.out (I : In F) (b : Fin 8) : FVec F S1024x128 .bf16 := k0_pay54 (I.last b).2.1 (I.last b).2.2

/-! ## The parts of the point's blocks -/

/-- Head `o`'s columns of the queries, its columns and block `j` of the keys or values, its row and block `j` of the gate's sums. -/
def qOf (x : Vec F S1024x256 .bf16) (o : Fin 2) : Vec F S1024x128 .bf16 := fun y => x (ix2 (y 0) (⟨128 * o.val + (y 1).val, by have := (y 1).isLt; simp at this; omega⟩ : Fin 256))
def kvOf (x : Vec F S8192x256 .bf16) (o : Fin 2) (j : Fin 8) : Vec F S1024x128 .bf16 :=
  fun y => x (ix2 (pos j (y 0)) (⟨128 * o.val + (y 1).val, by have := (y 1).isLt; simp at this; omega⟩ : Fin 256))
def cOf (x : Vec F S2x8x1x1024 .f32) (o : Fin 2) (j : Fin 8) : Vec F S1x1x1x1024 .f32 := fun y => x (ix4 o j 0 (y 3))

def inOf (x0 : Vec F S1024x256 .bf16) (x1 x2 : Vec F S8192x256 .bf16) (x3 : Vec F S2x8x1x1024 .f32) (o : Fin 2) : In F where
  q := qOf x0 o
  k := kvOf x1 o
  v := kvOf x2 o
  c := cOf x3 o

theorem ld_q (x : Vec F S1024x256 .bf16) (o : Fin 2) (off : Fin 2 → ℕ) (hi) (h : off = ![0, 128 * o.val]) :
    View.ld x (Rect.unit off ![1024, 128] hi) = qOf x o := by
  subst h; funext y
  refine congrArg x (funext fun a => Fin.ext ?_)
  fin_cases a
  · show 0 + 1 * (y 0).val = (y 0).val; omega
  · show 128 * o.val + 1 * (y 1).val = 128 * o.val + (y 1).val; omega
theorem ld_kv (x : Vec F S8192x256 .bf16) (o : Fin 2) (j : Fin 8) (off : Fin 2 → ℕ) (hi) (h : off = ![1024 * j.val, 128 * o.val]) :
    View.ld x (Rect.unit off ![1024, 128] hi) = kvOf x o j := by
  subst h; funext y
  refine congrArg x (funext fun a => Fin.ext ?_)
  fin_cases a
  · show 1024 * j.val + 1 * (y 0).val = 1024 * j.val + (y 0).val; omega
  · show 128 * o.val + 1 * (y 1).val = 128 * o.val + (y 1).val; omega
theorem ld_c (x : Vec F S2x8x1x1024 .f32) (o : Fin 2) (j : Fin 8) (off : Fin 4 → ℕ) (hi) (h : off = ![o.val, j.val, 0, 0]) :
    View.ld x (Rect.unit off ![1, 1, 1, 1024] hi) = cOf x o j := by
  subst h; funext y
  refine congrArg x (funext fun a => Fin.ext ?_)
  have h0 : (y 0).val = 0 := Nat.lt_one_iff.mp (y 0).isLt
  have h1 : (y 1).val = 0 := Nat.lt_one_iff.mp (y 1).isLt
  have h2 : (y 2).val = 0 := Nat.lt_one_iff.mp (y 2).isLt
  fin_cases a
  · show o.val + 1 * (y 0).val = o.val; omega
  · show j.val + 1 * (y 1).val = j.val; omega
  · show 0 + 1 * (y 2).val = 0; omega
  · show 0 + 1 * (y 3).val = (y 3).val; omega

/-! ## The loop's trips and the places it reads -/

/-- The block a point's queries are in. -/
abbrev bOf (i : grid0.Coords) : Fin 8 := i 0

theorem trips1 (i : grid0.Coords) : (k0_t1_loop i).trips = (bOf i).val :=
  (by decide +kernel : ∀ b : Fin 8, Scf.trips 0#32 (Scalar.addi 0#32 (Scalar.muli (Scalar.divsi (Scalar.subi (BitVec.ofNat 32 b.val) 0#32) 1#32) 1#32)) 1#32 = b.val) (i 0)
theorem trips2 (b : Fin 8) : Scf.trips (Scalar.addi 0#32 (Scalar.muli (Scalar.divsi (Scalar.subi (BitVec.ofNat 32 b.val) 0#32) 1#32) 1#32))
    (Scalar.addi 0#32 (Scalar.subi (BitVec.ofNat 32 b.val) 0#32)) 1#32 = 0 := by
  revert b; decide +kernel

theorem iv_mul : ∀ n : Fin 8, (Scalar.indexCast (Scalar.muli (Scf.iv 0#32 1#32 n.val) 1024#32)).toNat = 1024 * n.val := by decide +kernel
theorem iv_val : ∀ n : Fin 8, (Scalar.indexCast (Scf.iv 0#32 1#32 n.val)).toNat = n.val := by decide +kernel
theorem co_mul : ∀ n : Fin 8, (Scalar.indexCast (Scalar.muli (BitVec.ofNat 32 n.val) 1024#32)).toNat = 1024 * n.val := by decide +kernel
theorem co_val : ∀ n : Fin 8, (Scalar.indexCast (BitVec.ofNat 32 n.val)).toNat = n.val := by decide +kernel

/-- The block a trip reads. -/
def jOf (i : grid0.Coords) (k : Fin (k0_t1_loop i).trips) : Fin 8 := ⟨k.val, lt_of_lt_of_le k.isLt ((trips1 i).le.trans (Nat.le_of_lt (bOf i).isLt))⟩

theorem off1 (i : grid0.Coords) : k0_off1 i = ![(0 : Fin 2).val, (bOf i).val, 0, 0] := congrArg (fun n => ![0, n, 0, 0]) (co_val (i 0))
theorem off2 (i : grid0.Coords) : k0_off2 i = ![(1 : Fin 2).val, (bOf i).val, 0, 0] := congrArg (fun n => ![1, n, 0, 0]) (co_val (i 0))
theorem off11 (i : grid0.Coords) : k0_off11 i = ![1024 * (bOf i).val, 128 * (0 : Fin 2).val] := congrArg (fun n => ![n, 0]) (co_mul (i 0))
theorem off12 (i : grid0.Coords) : k0_off12 i = ![1024 * (bOf i).val, 128 * (1 : Fin 2).val] := congrArg (fun n => ![n, 128]) (co_mul (i 0))
section
variable (i : grid0.Coords) (k : Fin (k0_t1_loop i).trips)
theorem off3 : k0_off3 i k = ![1024 * (jOf i k).val, 128 * (0 : Fin 2).val] := congrArg (fun n => ![n, 0]) (iv_mul (jOf i k))
theorem off5 : k0_off5 i k = ![1024 * (jOf i k).val, 128 * (1 : Fin 2).val] := congrArg (fun n => ![n, 128]) (iv_mul (jOf i k))
theorem off4 : k0_off4 i k = ![(0 : Fin 2).val, (jOf i k).val, 0, 0] := congrArg (fun n => ![0, n, 0, 0]) (iv_val (jOf i k))
theorem off6 : k0_off6 i k = ![(1 : Fin 2).val, (jOf i k).val, 0, 0] := congrArg (fun n => ![1, n, 0, 0]) (iv_val (jOf i k))
end

/-- Two heads' states side by side. -/
def pair (s s' : St F) : FVec F S1024x1 .f32 × FVec F S1024x1 .f32 × FVec F S1024x128 .f32 × FVec F S1024x1 .f32 × FVec F S1024x1 .f32 × FVec F S1024x128 .f32 :=
  (s.1, s.2.1, s.2.2, s'.1, s'.2.1, s'.2.2)

section
variable (𝒱 : Variants) (c : Dev nD) (bd : Option 𝒱.V) (i : grid0.Coords)
  (arg2 : Memref sig .tc .vmem S1024x256 .bf16) (harg2 : arg2.IsWhole) (arg3 : Memref sig .tc .vmem S8192x256 .bf16) (harg3 : arg3.IsWhole)
  (arg4 : Memref sig .tc .vmem S8192x256 .bf16) (harg4 : arg4.IsWhole) (arg5 : Memref sig .tc .vmem S2x8x1x1024 .f32) (harg5 : arg5.IsWhole)
  (arg6 : Memref sig .tc .vmem S1024x256 .bf16) (harg6 : arg6.IsWhole) (arg7 : Memref sig .tc .vmem S1024x128 .f32) (harg7 : arg7.IsWhole)
  (x0 : Vec F S1024x256 .bf16) (x1 x2 : Vec F S8192x256 .bf16) (x3 : Vec F S2x8x1x1024 .f32)

/-- One trip is one step of each head. -/
theorem trip_eq (k : Fin (k0_t1_loop i).trips) (s s' : St F) :
    tripR_k0_t1 (F := F) 𝒱 c bd i arg2 harg2 arg3 harg3 arg4 harg4 arg5 harg5 arg6 harg6 arg7 harg7
      (cOf x3 0 (bOf i)) (cOf x3 1 (bOf i)) (qOf x0 0) (qOf x0 1) (harg3.unread x1) (harg4.unread x2) (harg5.unread x3) k (pair s s')
    = pair (step ((inOf x0 x1 x2 x3 0).open' (bOf i) (jOf i k)) (k0_pay8 (kvOf x2 0 (jOf i k))) s)
        (step ((inOf x0 x1 x2 x3 1).open' (bOf i) (jOf i k)) (k0_pay8 (kvOf x2 1 (jOf i k))) s') := by
  unfold tripR_k0_t1 trip_k0_t1
  dsimp only
  simp only [trip_k0_t1.sl.v132, trip_k0_t1.sl.v134, trip_k0_t1.sl.v136, trip_k0_t1.sl.v139, trip_k0_t1.sl.v140, trip_k0_t1.sl.v142, trip_k0_t1.sl.v143, trip_k0_t1.sl.v144, trip_k0_t1.sl.v145, trip_k0_t1.sl.v146, trip_k0_t1.sl.v147, trip_k0_t1.sl.v148, trip_k0_t1.sl.v149, trip_k0_t1.sl.v150, trip_k0_t1.sl.v151, trip_k0_t1.sl.v152, trip_k0_t1.sl.v153, trip_k0_t1.sl.v154, trip_k0_t1.sl.v155, trip_k0_t1.sl.v156, trip_k0_t1.sl.v157, trip_k0_t1.sl.v158, trip_k0_t1.sl.v159, trip_k0_t1.sl.v160, trip_k0_t1.sl.v161, trip_k0_t1.sl.v162, trip_k0_t1.sl.v163, trip_k0_t1.sl.v164, trip_k0_t1.sl.v167, trip_k0_t1.sl.v170, trip_k0_t1.sl.v173, trip_k0_t1.sl.v174, trip_k0_t1.sl.v175,
    View.readAt_eq_ld, Memref.IsWhole.read_unread]
  rw [ld_kv x1 0 _ _ _ (off3 i k), ld_kv x2 0 _ _ _ (off3 i k), ld_kv x1 1 _ _ _ (off5 i k), ld_kv x2 1 _ _ _ (off5 i k),
    ld_c x3 0 _ _ _ (off4 i k), ld_c x3 1 _ _ _ (off6 i k)]
  rfl

/-- The loop's state is the two heads' states. -/
theorem st_eq (n : ℕ) (hn : n ≤ (bOf i).val) :
    st_k0_t1 (F := F) 𝒱 c bd i arg2 harg2 arg3 harg3 arg4 harg4 arg5 harg5 arg6 harg6 arg7 harg7
      (cOf x3 0 (bOf i)) (cOf x3 1 (bOf i)) (qOf x0 0) (qOf x0 1) (harg3.unread x1) (harg4.unread x2) (harg5.unread x3)
      (k0_pay24, k0_pay25, k0_pay26, k0_pay24, k0_pay25, k0_pay26) n
    = pair ((inOf x0 x1 x2 x3 0).seq (bOf i) n) ((inOf x0 x1 x2 x3 1).seq (bOf i) n) := by
  induction n with
  | zero => rfl
  | succ n ih =>
    have hk : n < (k0_t1_loop i).trips := by rw [trips1]; omega
    have h8 : n < 8 := by omega
    refine (st_k0_t1_succ (F := F) 𝒱 c bd i arg2 harg2 arg3 harg3 arg4 harg4 arg5 harg5 arg6 harg6 arg7 harg7 _ _ _ _ _ _ _ _ ⟨n, hk⟩).trans ?_
    rw [show (⟨n, hk⟩ : Fin (k0_t1_loop i).trips).val = n from rfl, ih (by omega), trip_eq]
    rw [show jOf i ⟨n, hk⟩ = (⟨n, h8⟩ : Fin 8) from rfl]
    simp only [In.seq, dif_pos h8]
    rfl
end

end Cert.Kernel14Ideal.Attn

end
-- ==== Proof.Stage.lean ====
module

public import proofs.«01_k».proof.Proof.Gen.ReferenceIdeal.Run

@[expose] public section

set_option maxRecDepth 16384

/-!
# The reference's results in stages

Each result of the reference is one long expression of the arguments; here its parts get names: the masked logits, the
exponentials, their sums, the gradient of the logits.
-/

noncomputable section

namespace Cert.ReferenceIdeal.Stage

open Idealize.ShloMosaic Idealize.ShloMosaic.TcCoe Idealize.SL.Sem
open Cert.ReferenceIdeal Cert.ReferenceIdeal.Gen Cert.ReferenceIdeal.Value

variable {F : FTy → Type} [FloatOps F]

/-- The columns of an array split by head, head first. -/
def heads (a : FVec F S8192x2048 .f32) : FVec F S16x8192x128 .f32 :=
  transpose S16x8192x128 [1, 0, 2] (shapeCast S8192x16x128 a shapeCasts_S8192x2048_S8192x16x128) transposes_S8192x16x128_S16x8192x128_1_0_2

/-- The heads put back side by side. -/
def unheads (a : FVec F S16x8192x128 .f32) : FVec F S8192x2048 .f32 :=
  shapeCast S8192x2048 (transpose S8192x16x128 [1, 0, 2] a transposes_S16x8192x128_S8192x16x128_1_0_2) shapeCasts_S8192x16x128_S8192x2048

/-- Where the key is not after the query. -/
def mask : IVec S16x8192x8192 1 :=
  broadcastInDim S16x8192x8192 ![1, 2] bcast_S8192x8192_S16x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The products of the rows of two arrays, head by head. -/
def prods (a b : FVec F S8192x2048 .f32) : FVec F S16x8192x8192 .f32 :=
  Host.dotGeneral dot_S16x8192x128_S16x8192x128_S16x8192x8192_2_2_1_1_0_0 none (heads a) (heads b)

/-- A number per query, for every key. -/
def spread (a : FVec F S16x8192x1 .f32) : FVec F S16x8192x8192 .f32 :=
  broadcastInDim S16x8192x8192 ![0, 1, 2] bcast_S16x8192x1_S16x8192x8192_0_1_2 a
def col (a : FVec F S16x8192 .f32) : FVec F S16x8192x1 .f32 := broadcastInDim S16x8192x1 ![0, 1] bcast_S16x8192_S16x8192x1_0_1 a

/-- The logits, `-∞` where the key is after the query. -/
def logits (q k : FVec F S8192x2048 .f32) (c : FVec F S8192x16 .f32) : FVec F S16x8192x8192 .f32 :=
  select mask
    (addf (mulf (prods q k) (broadcastInDim S16x8192x8192 ![] bcast_S_S16x8192x8192 (constant S_ .f32 0x3DB504F3#32)))
      (subf (spread (col (transpose S16x8192 [1, 0] c transposes_S8192x16_S16x8192_1_0)))
        (broadcastInDim S16x8192x8192 ![0, 1, 2] bcast_S16x1x8192_S16x8192x8192_0_1_2 (broadcastInDim S16x1x8192 ![0, 2] bcast_S16x8192_S16x1x8192_0_2 (transpose S16x8192 [1, 0] c transposes_S8192x16_S16x8192_1_0)))))
    (broadcastInDim S16x8192x8192 ![] bcast_S_S16x8192x8192 (id (constant S_ .f32 0xFF800000#32)))

/-- The largest logit of a query. -/
def top (a : FVec F S16x8192x8192 .f32) : FVec F S16x8192 .f32 :=
  Host.reduce FloatOps.maximumf a (constant S_ .f32 0xFF800000#32) reducesTo_S16x8192x8192_S16x8192_d2 h_S_
def top' (a : FVec F S16x8192x8192 .f32) : FVec F S16x8192 .f32 :=
  maximumf (broadcastInDim S16x8192 ![] bcast_S_S16x8192 (constant S_ .f32 0xFF800000#32)) (top a)

/-- The exponentials of the logits less `M`. -/
def exps (a : FVec F S16x8192x8192 .f32) (M : FVec F S16x8192 .f32) : FVec F S16x8192x8192 .f32 := Host.exp (subf a (spread (col M)))

/-- The sum over the keys. -/
def sumK (a : FVec F S16x8192x8192 .f32) : FVec F S16x8192 .f32 :=
  Host.reduceAdd a (constant S_ .f32 0x00000000#32) reducesTo_S16x8192x8192_S16x8192_d2 h_S_

/-- The terms of the sum a row's gradient is corrected by. -/
def corr (e dp : FVec F S16x8192x8192 .f32) : FVec F S16x8192x8192 .f32 :=
  mulf (mulf dp (spread (Host.divf (broadcastInDim S16x8192x1 ![] bcast_S_S16x8192x1 (constant S_ .f32 0x3F800000#32)) (mulf (col (sumK e)) (col (sumK e)))))) e

/-- The softmax's gradient: of the exponentials `e` and the gradient `dp` of the weights. -/
def dLogits (e dp : FVec F S16x8192x8192 .f32) : FVec F S16x8192x8192 .f32 :=
  select mask
    (mulf (addf (Host.divf dp (spread (col (sumK e))))
        (broadcastInDim S16x8192x8192 ![0, 1] bcast_S16x8192_S16x8192x8192_0_1
          (Host.reduceAdd (Host.negf (shapeCast S16x8192x1 (sumK (corr e dp)) shapeCasts_S16x8192_S16x8192x1))
            (constant S_ .f32 0x00000000#32) reducesTo_S16x8192x1_S16x8192_d2 h_S_))) e)
    (broadcastInDim S16x8192x8192 ![] bcast_S_S16x8192x8192 (constant S_ .f32 0x00000000#32))

def scaled (a : FVec F S16x8192x8192 .f32) : FVec F S16x8192x8192 .f32 :=
  mulf a (broadcastInDim S16x8192x8192 ![] bcast_S_S16x8192x8192 (constant S_ .f32 0x3DB504F3#32))

section
variable (q k v : FVec F S8192x2048 .f32) (c : FVec F S8192x16 .f32) (d : FVec F S8192x2048 .f32)

def E : FVec F S16x8192x8192 .f32 := exps (logits q k c) (top' (logits q k c))
def DS : FVec F S16x8192x8192 .f32 := dLogits (E q k c) (prods d v)
def outDq : FVec F S8192x2048 .bf16 :=
  truncf .bf16 (unheads (Host.dotGeneral dot_S16x8192x8192_S16x8192x128_S16x8192x128_2_1_1_2_0_0 none (scaled (DS q k v c d)) (heads k))) bitsLt_bf16_f32
def outDk : FVec F S8192x2048 .bf16 :=
  truncf .bf16 (unheads (Host.dotGeneral dot_S16x8192x8192_S16x8192x128_S16x8192x128_1_1_2_2_0_0 none (scaled (DS q k v c d)) (heads q))) bitsLt_bf16_f32
def outDv : FVec F S8192x2048 .bf16 :=
  truncf .bf16 (unheads (transpose S16x8192x128 [0, 2, 1] (Host.dotGeneral dot_S16x8192x128_S16x8192x8192_S16x128x8192_1_1_2_2_0_0 none (heads d)
    (Host.divf (E q k c) (spread (col (sumK (E q k c)))))) transposes_S16x128x8192_S16x8192x128_0_2_1)) bitsLt_bf16_f32
def outDck : FVec F S8192x128 .f32 :=
  pad S8192x128 ![0, 0] ![0, 112] ![0, 0]
    (transpose S8192x16 [1, 0] (Host.reduceAdd (shapeCast S16x1x8192 (Host.reduceAdd (Host.negf (DS q k v c d)) (constant S_ .f32 0x00000000#32) reducesTo_S16x8192x8192_S16x8192_d1 h_S_) shapeCasts_S16x8192_S16x1x8192)
      (constant S_ .f32 0x00000000#32) reducesTo_S16x1x8192_S16x8192_d1 h_S_) transposes_S16x8192_S8192x16_1_0)
    (sitofp .f32 (constantI S_ 32 0#32)) pads_S8192x16_S8192x128_000_01120 h_S_
def outDcq : FVec F S16x8x1x1024 .f32 :=
  shapeCast S16x8x1x1024 (transpose S16x8192 [1, 0] (transpose S8192x16 [1, 0]
    (Host.reduceAdd (shapeCast S16x8192x1 (sumK (DS q k v c d)) shapeCasts_S16x8192_S16x8192x1) (constant S_ .f32 0x00000000#32) reducesTo_S16x8192x1_S16x8192_d2 h_S_)
    transposes_S16x8192_S8192x16_1_0) transposes_S8192x16_S16x8192_1_0) shapeCasts_S16x8192_S16x8x1x1024
end

variable (m : (ℓ : Loc nD τ sig) → Buf (Elt F) ℓ) (c : Dev nD)

abbrev A0 : FVec F S8192x2048 .f32 := m ((c.tc : Thread nD τ).loc main_arg0)
abbrev A1 : FVec F S8192x2048 .f32 := m ((c.tc : Thread nD τ).loc main_arg1)
abbrev A2 : FVec F S8192x2048 .f32 := m ((c.tc : Thread nD τ).loc main_arg2)
abbrev A3 : FVec F S8192x16 .f32 := m ((c.tc : Thread nD τ).loc main_arg3)
abbrev A4 : FVec F S8192x2048 .f32 := m ((c.tc : Thread nD τ).loc main_arg4)

theorem res92 : res_main_v92 m c = outDq (A0 m c) (A1 m c) (A2 m c) (A3 m c) (A4 m c) := rfl
theorem res93 : res_main_v93 m c = outDk (A0 m c) (A1 m c) (A2 m c) (A3 m c) (A4 m c) := rfl
theorem res94 : res_main_v94 m c = outDv (A0 m c) (A1 m c) (A3 m c) (A4 m c) := rfl
theorem res95 : res_main_v95 m c = outDck (A0 m c) (A1 m c) (A2 m c) (A3 m c) (A4 m c) := rfl
theorem res97 : res_main_v97 m c = outDcq (A0 m c) (A1 m c) (A2 m c) (A3 m c) (A4 m c) := rfl

end Cert.ReferenceIdeal.Stage

end
-- ==== Proof.Soft.lean ====
module

public import proofs.«01_k».proof.Proof.Math
public import Mathlib.Analysis.SpecialFunctions.Log.Basic

@[expose] public section

set_option maxRecDepth 16384

/-!
# The attention and its gradient over the reals

`Data` holds the real arguments. `wt h t s` is the weight of key `s` for query `t` in head `h`, `ds h t s` the gradient
of that logit. Both are stated without a shift of the logits; the shifted forms are shown equal here.
-/

noncomputable section

namespace Cert.Fox

/-- Column `x` of head `h`. -/
def colOf (h : Fin 16) (x : Fin 128) : Fin 2048 := ⟨h.val * 128 + x.val, by omega⟩

/-- The real arguments, and the scale of the logits. -/
structure Data where
  q : Fin 8192 → Fin 2048 → ℝ
  k : Fin 8192 → Fin 2048 → ℝ
  v : Fin 8192 → Fin 2048 → ℝ
  d : Fin 8192 → Fin 2048 → ℝ
  c : Fin 8192 → Fin 16 → ℝ
  σ : ℝ

namespace Data

variable (D : Data) (h : Fin 16) (t : Fin 8192)

/-- The logit. -/
def A (s : Fin 8192) : ℝ := (∑ x, D.q t (colOf h x) * D.k s (colOf h x)) * D.σ + (D.c t h - D.c s h)
/-- The exponential of the logit less `M`, zero where the key is after the query. -/
def ex (M : ℝ) (s : Fin 8192) : ℝ := if s ≤ t then Real.exp (D.A h t s - M) else 0
/-- The sum of the exponentials. -/
def Z : ℝ := ∑ s, if s ≤ t then Real.exp (D.A h t s) else 0
/-- The weight. -/
def wt (s : Fin 8192) : ℝ := if s ≤ t then Real.exp (D.A h t s) / D.Z h t else 0
/-- The gradient of the weight. -/
def dp (s : Fin 8192) : ℝ := ∑ x, D.d t (colOf h x) * D.v s (colOf h x)
/-- The mean of the weights' gradients. -/
def delta : ℝ := ∑ s, D.wt h t s * D.dp h t s
/-- The gradient of the logit. -/
def ds (s : Fin 8192) : ℝ := D.wt h t s * (D.dp h t s - D.delta h t)

theorem Z_pos : 0 < D.Z h t := by
  refine Finset.sum_pos' (fun s _ => ?_) ⟨t, Finset.mem_univ _, ?_⟩
  · split
    · exact (Real.exp_pos _).le
    · exact le_refl _
  · rw [if_pos (le_refl _)]; exact Real.exp_pos _

theorem sum_ex (M : ℝ) : ∑ s, D.ex h t M s = D.Z h t * Real.exp (-M) := by
  rw [Z, Finset.sum_mul]
  refine Finset.sum_congr rfl fun s _ => ?_
  unfold ex
  split
  · rw [sub_eq_add_neg, Real.exp_add]
  · rw [zero_mul]

theorem sum_ex_pos (M : ℝ) : 0 < ∑ s, D.ex h t M s := by
  rw [sum_ex]; exact mul_pos (D.Z_pos h t) (Real.exp_pos _)

/-- The shifted exponential is the weight times the shifted sum. -/
theorem ex_eq (M : ℝ) (s : Fin 8192) : D.ex h t M s = D.wt h t s * ∑ s, D.ex h t M s := by
  rw [sum_ex]
  unfold ex wt
  split
  · have := (D.Z_pos h t).ne'
    rw [sub_eq_add_neg, Real.exp_add]
    field_simp
  · rw [zero_mul]

theorem ex_div (M : ℝ) (s : Fin 8192) : D.ex h t M s * (1 / ∑ s, D.ex h t M s) = D.wt h t s := by
  have := (D.sum_ex_pos h t M).ne'
  rw [D.ex_eq h t M s]
  field_simp

/-- The logarithm of the shifted sum, shifted back. -/
theorem log_sum (M : ℝ) : M + Real.log (∑ s, D.ex h t M s) = Real.log (D.Z h t) := by
  rw [sum_ex, Real.log_mul (D.Z_pos h t).ne' (Real.exp_pos _).ne', Real.log_exp]
  ring

/-- The gradient as the shifted exponentials give it. -/
theorem ds_eq (M : ℝ) (s : Fin 8192) :
    (D.dp h t s * (1 / ∑ s, D.ex h t M s)
      + -∑ s', D.dp h t s' * (1 * (1 / ((∑ s, D.ex h t M s) * ∑ s, D.ex h t M s))) * D.ex h t M s') * D.ex h t M s = D.ds h t s := by
  have hL := (D.sum_ex_pos h t M).ne'
  have hw := fun s => D.ex_eq h t M s
  generalize ∑ s, D.ex h t M s = L at hL hw ⊢
  simp only [hw]
  have e : ∑ s', D.dp h t s' * (1 * (1 / (L * L))) * (D.wt h t s' * L) = D.delta h t * (1 / L) := by
    rw [delta, Finset.sum_mul]
    refine Finset.sum_congr rfl fun s' _ => ?_
    field_simp
  rw [e]
  unfold ds
  field_simp
  ring

theorem ds_after (s : Fin 8192) (hs : ¬ s ≤ t) : D.ds h t s = 0 := by
  unfold ds wt; rw [if_neg hs, zero_mul]

/-- The head as the call receives it. -/
def head : Head where
  q t x := D.q t (colOf h x) * (D.σ * (1 * (1 / Real.log 2)))
  k s x := D.k s (colOf h x)
  v s x := D.v s (colOf h x)
  d t x := D.d t (colOf h x)
  c s := D.c s h * (1 * (1 / Real.log 2))
  l2 t := (Real.log (D.Z h t) - D.c t h + D.c (first t) h) * (1 * (1 / Real.log 2))
  dl t := D.delta h t

theorem log_two_ne : Real.log 2 ≠ 0 := (Real.log_pos (by norm_num)).ne'

/-- The weight computed to base two is the weight. -/
theorem head_P (s : Fin 8192) : (D.head h).P s t = D.wt h t s := by
  unfold Head.P wt
  split
  · have hl := log_two_ne
    rw [Real.rpow_def_of_pos (by norm_num), eq_div_iff (D.Z_pos h t).ne']
    conv_lhs => rw [← Real.exp_log (D.Z_pos h t), ← Real.exp_add]
    refine congrArg Real.exp ?_
    have e : ∑ x, (D.head h).k s x * (D.head h).q t x = (∑ x, D.q t (colOf h x) * D.k s (colOf h x)) * (D.σ * (1 * (1 / Real.log 2))) := by
      rw [Finset.sum_mul]
      refine Finset.sum_congr rfl fun x _ => ?_
      show D.k s (colOf h x) * (D.q t (colOf h x) * (D.σ * (1 * (1 / Real.log 2)))) = _
      ring
    rw [e]
    simp only [head, A]
    field_simp
    ring
  · rfl

theorem head_DS (s : Fin 8192) : (D.head h).DS s t = D.ds h t s := by
  unfold Head.DS ds
  rw [D.head_P]
  have e : ∑ x, (D.head h).v s x * (D.head h).d t x = D.dp h t s :=
    Finset.sum_congr rfl fun x _ => mul_comm _ _
  rw [e]; rfl

/-- A row's weighted output against the output's gradient. -/
theorem delta_eq : ∑ x, D.d t (colOf h x) * ∑ s, D.wt h t s * D.v s (colOf h x) = D.delta h t := by
  simp only [delta, dp, Finset.mul_sum]
  rw [Finset.sum_comm]
  refine Finset.sum_congr rfl fun s _ => Finset.sum_congr rfl fun x _ => ?_
  ring

end Data

end Cert.Fox

end
-- ==== Proof.Real.lean ====
module

public import proofs.«01_k».proof.Proof.Stage
public import proofs.«01_k».proof.Proof.Soft
public import Idealize.ShloMosaic.Lib.Pointwise
public import Idealize.ShloMosaic.Lib.WordCmp
public import Idealize.ShloMosaic.Lib.IdealHost

@[expose] public section

set_option maxRecDepth 16384

/-!
# The reference's stages over the reals

Where the arguments are real numbers, each stage of the reference is the coercion of a real formula.
-/

noncomputable section

namespace Cert.ReferenceIdeal.Stage

open Idealize.ShloMosaic Idealize.ShloMosaic.TcCoe Idealize.SL.Sem
open Cert.ReferenceIdeal Cert.ReferenceIdeal.Gen
open Cert.Fox

/-! ## Words as extended reals -/

theorem scale_real : ∃ x : ℝ, Ideal.ofBits .f32 1035273459#32 = (x : EReal) :=
  ⟨_, by simp [Ideal.ofBits, Ideal.ieee, -EReal.coe_mul]; rfl⟩
theorem two_real : Ideal.ofBits .f32 1073741824#32 = ((2 : ℝ) : EReal) := by
  simp [Ideal.ofBits, Ideal.ieee, -EReal.coe_mul]; norm_num
theorem bot_word : Ideal.ofBits .f32 4286578688#32 = (⊥ : EReal) := by
  simp [Ideal.ofBits, Ideal.ieee]

/-- The largest of finitely many numbers below `⊤`, one of them above `⊥`, is a real. -/
theorem fold_max_real {n : ℕ} (f : Fin n → EReal) (hf : ∀ s, f s ≠ ⊤) (s0 : Fin n) (h0 : f s0 ≠ ⊥) :
    ∃ M : ℝ, Finset.fold max (⊥ : EReal) f Finset.univ = (M : EReal) := by
  have e : Finset.fold max (⊥ : EReal) f Finset.univ = Finset.univ.sup f := rfl
  have ht : Finset.univ.sup f ≠ ⊤ :=
    ((Finset.sup_lt_iff (bot_lt_top)).mpr fun s _ => lt_top_iff_ne_top.mpr (hf s)).ne
  have hb : Finset.univ.sup f ≠ ⊥ := fun h => h0 (le_bot_iff.mp (h ▸ Finset.le_sup (Finset.mem_univ s0)))
  exact ⟨_, e.trans (EReal.coe_toReal ht hb).symm⟩

/-- The arguments are the real numbers of `D`. -/
structure Reals (D : Data) (q k v : FVec Ideal S8192x2048 .f32) (c : FVec Ideal S8192x16 .f32) (d : FVec Ideal S8192x2048 .f32) : Prop where
  q : ∀ t x, q (ix2 t x) = (D.q t x : EReal)
  k : ∀ t x, k (ix2 t x) = (D.k t x : EReal)
  v : ∀ t x, v (ix2 t x) = (D.v t x : EReal)
  d : ∀ t x, d (ix2 t x) = (D.d t x : EReal)
  c : ∀ t h, c (ix2 t h) = (D.c t h : EReal)
  σ : Ideal.ofBits .f32 1035273459#32 = (D.σ : EReal)

/-! ## Single stages -/

theorem heads_apply (a : FVec Ideal S8192x2048 .f32) (h : Fin 16) (t : Fin 8192) (x : Fin 128) :
    heads a (ix3 h t x) = a (ix2 t (colOf h x)) := by
  pointwise [heads]; rfl

theorem prods_real {a b : FVec Ideal S8192x2048 .f32} {A B : Fin 8192 → Fin 2048 → ℝ} (ha : ∀ t x, a (ix2 t x) = (A t x : EReal))
    (hb : ∀ t x, b (ix2 t x) = (B t x : EReal)) (h : Fin 16) (t s : Fin 8192) :
    prods a b (ix3 h t s) = ((∑ x, A t (colOf h x) * B s (colOf h x) : ℝ) : EReal) := by
  pointwise [prods]
  simp only [heads_apply, ha, hb, ← EReal.coe_mul, sum_coe]

theorem select_mask {α : Type} (h : Fin 16) (t s : Fin 8192) (a b : α) :
    Scalar.select (mask (ix3 h t s)) a b = if s ≤ t then a else b := by
  have e : mask (ix3 h t s) = IntOp.cmpi .sle (BitVec.ofNat 32 s.val) (BitVec.ofNat 32 t.val) := by pointwise [mask]
  rw [e, WordCmp.cmpi_sle_ofNat (by omega) (by omega), Scalar.select_decide]
  rfl

theorem sumK_real {a : FVec Ideal S16x8192x8192 .f32} {f : Fin 16 → Fin 8192 → Fin 8192 → ℝ}
    (ha : ∀ h t s, a (ix3 h t s) = (f h t s : EReal)) (h : Fin 16) (t : Fin 8192) :
    sumK a (ix2 h t) = ((∑ s, f h t s : ℝ) : EReal) := by
  pointwise [sumK]
  simp only [ha, sum_coe]

theorem top_apply (a : FVec Ideal S16x8192x8192 .f32) (h : Fin 16) (t : Fin 8192) :
    top a (ix2 h t) = Finset.fold max (Ideal.ofBits .f32 4286578688#32) (fun x => a (ix3 h t x)) Finset.univ := by
  pointwise [top]

theorem max_word_apply (w : BitVec 32) (b : FVec Ideal S16x8192 .f32) (i : S16x8192.Idx) :
    maximumf (broadcastInDim S16x8192 ![] bcast_S_S16x8192 (constant S_ .f32 w)) b i = max (Ideal.ofBits .f32 w) (b i) := rfl

theorem top'_apply (a : FVec Ideal S16x8192x8192 .f32) (i : S16x8192.Idx) :
    top' a i = max (Ideal.ofBits .f32 4286578688#32) (top a i) := by
  unfold top'
  exact max_word_apply _ _ _

theorem exps_apply (a : FVec Ideal S16x8192x8192 .f32) (M : FVec Ideal S16x8192 .f32) (h : Fin 16) (t s : Fin 8192) :
    exps a M (ix3 h t s) = Ideal.exp (a (ix3 h t s) - M (ix2 h t)) := by
  pointwise [exps, spread, col]

theorem corr_apply (e dp : FVec Ideal S16x8192x8192 .f32) (h : Fin 16) (t s : Fin 8192) :
    corr e dp (ix3 h t s) = dp (ix3 h t s) * Ideal.div 1 (sumK e (ix2 h t) * sumK e (ix2 h t)) * e (ix3 h t s) := by
  unfold corr
  generalize sumK e = l
  pointwise [spread, col]

theorem dLogits_apply (e dp : FVec Ideal S16x8192x8192 .f32) (h : Fin 16) (t s : Fin 8192) :
    dLogits e dp (ix3 h t s) = if s ≤ t then
      (Ideal.div (dp (ix3 h t s)) (sumK e (ix2 h t)) + -sumK (corr e dp) (ix2 h t)) * e (ix3 h t s) else 0 := by
  unfold dLogits
  generalize sumK e = l
  generalize sumK (corr e dp) = r
  rw [← select_mask h t s]
  generalize mask = w
  pointwise [spread, col]
  simp only [Finset.univ_unique, Finset.sum_singleton]

/-! ## The weights and the gradient of the logits -/

section
variable {D : Data} {q k v d : FVec Ideal S8192x2048 .f32} {c : FVec Ideal S8192x16 .f32}

theorem logits_real (R : Reals D q k v c d) (h : Fin 16) (t s : Fin 8192) :
    logits q k c (ix3 h t s) = if s ≤ t then (D.A h t s : EReal) else ⊥ := by
  have e : logits q k c (ix3 h t s) = Scalar.select (mask (ix3 h t s))
      (prods q k (ix3 h t s) * Ideal.ofBits .f32 1035273459#32 + (c (ix2 t h) - c (ix2 s h))) (Ideal.ofBits .f32 4286578688#32) := by
    pointwise [logits, spread, col]; rfl
  rw [e, select_mask, bot_word, prods_real R.q R.k, R.σ, R.c, R.c]
  simp only [← EReal.coe_mul, ← EReal.coe_sub, ← EReal.coe_add]
  rfl

/-- The largest logit of a query is a real. -/
theorem top_real (R : Reals D q k v c d) : ∃ M : Fin 16 → Fin 8192 → ℝ, ∀ h t, top (logits q k c) (ix2 h t) = (M h t : EReal) := by
  have hM : ∀ h t, ∃ M : ℝ, top (logits q k c) (ix2 h t) = (M : EReal) := fun h t => by
    rw [top_apply, bot_word]
    refine fold_max_real _ (fun s => ?_) t ?_
    · simp only [logits_real R]
      split
      · exact EReal.coe_ne_top _
      · exact bot_ne_top
    · simp only [logits_real R]
      rw [if_pos (le_refl _)]
      exact EReal.coe_ne_bot _
  choose M hM using hM
  exact ⟨M, hM⟩

theorem top'_eq (a : FVec Ideal S16x8192x8192 .f32) (h : Fin 16) (t : Fin 8192) : top' a (ix2 h t) = top a (ix2 h t) := by
  rw [top'_apply, bot_word]
  exact max_eq_right bot_le

/-- The exponentials less any real shift. -/
theorem exps_real (R : Reals D q k v c d) {m : FVec Ideal S16x8192 .f32} {M : Fin 16 → Fin 8192 → ℝ}
    (hM : ∀ h t, m (ix2 h t) = (M h t : EReal)) (h : Fin 16) (t s : Fin 8192) :
    exps (logits q k c) m (ix3 h t s) = (D.ex h t (M h t) s : EReal) := by
  rw [exps_apply, logits_real R, hM]
  unfold Data.ex
  split
  · rw [← EReal.coe_sub]; exact Ideal.exp_coe _
  · rw [EReal.bot_sub]; exact Ideal.exp_bot

/-- The gradient of the logits, from exponentials less any real shift. -/
theorem dLogits_real (R : Reals D q k v c d) {e : FVec Ideal S16x8192x8192 .f32} {M : Fin 16 → Fin 8192 → ℝ}
    (he : ∀ h t s, e (ix3 h t s) = (D.ex h t (M h t) s : EReal)) (h : Fin 16) (t s : Fin 8192) :
    dLogits e (prods d v) (ix3 h t s) = (D.ds h t s : EReal) := by
  have hl := sumK_real he
  have hp : ∀ h t s, prods d v (ix3 h t s) = (D.dp h t s : EReal) := prods_real R.d R.v
  have hc : ∀ h t s, corr e (prods d v) (ix3 h t s)
      = ((D.dp h t s * (1 * (1 / ((∑ s, D.ex h t (M h t) s) * ∑ s, D.ex h t (M h t) s))) * D.ex h t (M h t) s : ℝ) : EReal) := fun h t s => by
    have hL := (D.sum_ex_pos h t (M h t)).ne'
    rw [corr_apply, hl, hp, he, ← EReal.coe_mul, Ideal.div_coe (mul_ne_zero hL hL), ← EReal.coe_one]
    simp only [← EReal.coe_mul]
  rw [dLogits_apply, hl, hp, he, sumK_real hc, Ideal.div_coe (D.sum_ex_pos h t (M h t)).ne']
  simp only [← EReal.coe_mul, ← EReal.coe_neg, ← EReal.coe_add]
  split
  · exact congrArg _ (D.ds_eq h t (M h t) s)
  · rename_i hs
    rw [D.ds_after h t s hs]; rfl

theorem DS_real (R : Reals D q k v c d) (h : Fin 16) (t s : Fin 8192) : DS q k v c d (ix3 h t s) = (D.ds h t s : EReal) := by
  obtain ⟨M, hM⟩ := top_real R
  exact dLogits_real R (exps_real R fun h t => (top'_eq _ h t).trans (hM h t)) h t s

/-- A weight is the exponential over the sum of the exponentials. -/
theorem weight_real {e : FVec Ideal S16x8192x8192 .f32} {M : Fin 16 → Fin 8192 → ℝ}
    (he : ∀ h t s, e (ix3 h t s) = (D.ex h t (M h t) s : EReal)) (h : Fin 16) (t s : Fin 8192) :
    Ideal.div (e (ix3 h t s)) (sumK e (ix2 h t)) = (D.wt h t s : EReal) := by
  rw [sumK_real he, he, Ideal.div_coe (D.sum_ex_pos h t (M h t)).ne', ← EReal.coe_mul, D.ex_div]

end

end Cert.ReferenceIdeal.Stage

end
-- ==== Proof.Attn.Online.lean ====
module

public import proofs.«01_k».proof.Proof.Real

@[expose] public section

set_option maxRecDepth 16384

/-!
# A softmax taken block by block

A row's running maximum, running sum and running product are rescaled whenever the maximum grows. `Seen` says what they
hold once the keys seen so far give the sums `Z` and `A` without any shift.
-/

noncomputable section

namespace Cert.Fox

open Idealize.ShloMosaic
open Cert.ReferenceIdeal.Stage (fold_max_real)

/-- The running numbers of a row whose unshifted sums so far are `Z` and `A`. -/
def Seen (Z A : ℝ) (m l a : EReal) : Prop :=
  (m = ⊥ ∧ l = 0 ∧ a = 0 ∧ Z = 0 ∧ A = 0)
    ∨ ∃ M : ℝ, m = (M : EReal) ∧ l = ((Z * (2 : ℝ) ^ (-M) : ℝ) : EReal) ∧ a = ((A * (2 : ℝ) ^ (-M) : ℝ) : EReal)

theorem exp2_real (x : ℝ) : Ideal.exp2 (x : EReal) = (((2 : ℝ) ^ x : ℝ) : EReal) := rfl

/-- The exponential of a masked logit less a real shift. -/
theorem exp2_masked (p : Prop) [Decidable p] (x M : ℝ) :
    Ideal.exp2 ((if p then (x : EReal) else ⊥) - (M : EReal)) = (((if p then (2 : ℝ) ^ x else 0) * (2 : ℝ) ^ (-M) : ℝ) : EReal) := by
  split
  · rw [← EReal.coe_sub, exp2_real, sub_eq_add_neg, Real.rpow_add (by norm_num)]
  · rw [EReal.bot_sub, Ideal.exp2_bot, zero_mul, EReal.coe_zero]

/-- One block more. -/
theorem Seen.step {Z A : ℝ} {m l a : EReal} (h : Seen Z A m l a) (p : Fin 1024 → Prop) [DecidablePred p] (x v : Fin 1024 → ℝ) (s0 : Fin 1024) (h0 : p s0)
    (f g : Fin 1024 → EReal) (hf : ∀ s, f s = if p s then (x s : EReal) else ⊥) (hg : ∀ s, g s = (v s : EReal)) {m' : EReal}
    (hm : m' = max m (Finset.fold max ⊥ f Finset.univ)) :
    Seen (Z + ∑ s, if p s then (2 : ℝ) ^ x s else 0) (A + ∑ s, (if p s then (2 : ℝ) ^ x s else 0) * v s) m'
      (Ideal.exp2 (m - m') * l + ∑ s, Ideal.exp2 (f s - m')) (Ideal.exp2 (m - m') * a + ∑ s, Ideal.exp2 (f s - m') * g s) := by
  obtain ⟨B, hB⟩ := fold_max_real f (fun s => by rw [hf]; split; exacts [EReal.coe_ne_top _, bot_ne_top]) s0
    (by rw [hf, if_pos h0]; exact EReal.coe_ne_bot _)
  rw [hB] at hm
  right
  have key : ∀ M : ℝ, (∑ s, Ideal.exp2 (f s - (M : EReal)) = (((∑ s, if p s then (2 : ℝ) ^ x s else 0) * (2 : ℝ) ^ (-M) : ℝ) : EReal))
      ∧ ∑ s, Ideal.exp2 (f s - (M : EReal)) * g s = (((∑ s, (if p s then (2 : ℝ) ^ x s else 0) * v s) * (2 : ℝ) ^ (-M) : ℝ) : EReal) := fun M => by
    constructor
    · simp only [hf, exp2_masked, sum_coe, Finset.sum_mul]
    · simp only [hf, hg, exp2_masked, ← EReal.coe_mul, sum_coe, Finset.sum_mul]
      refine congrArg _ (Finset.sum_congr rfl fun s _ => ?_)
      ring
  rcases h with ⟨rfl, rfl, rfl, rfl, rfl⟩ | ⟨M, rfl, rfl, rfl⟩
  · have e : m' = (B : EReal) := hm.trans (max_eq_right bot_le)
    subst e
    refine ⟨B, rfl, ?_, ?_⟩
    · rw [mul_zero, zero_add, zero_add, (key B).1]
    · rw [mul_zero, zero_add, zero_add, (key B).2]
  · have e : m' = ((max M B : ℝ) : EReal) := by
      rw [hm]
      rcases le_total M B with hle | hle
      · rw [max_eq_right hle, max_eq_right (EReal.coe_le_coe_iff.mpr hle)]
      · rw [max_eq_left hle, max_eq_left (EReal.coe_le_coe_iff.mpr hle)]
    generalize max M B = M' at e
    subst e
    have ha : ∀ Y : ℝ, Ideal.exp2 ((M : EReal) - (M' : EReal)) * ((Y * (2 : ℝ) ^ (-M) : ℝ) : EReal) = ((Y * (2 : ℝ) ^ (-M') : ℝ) : EReal) := fun Y => by
      rw [← EReal.coe_sub, exp2_real, ← EReal.coe_mul]
      refine congrArg _ ?_
      rw [mul_left_comm, ← Real.rpow_add (by norm_num)]
      congr 2
      ring
    refine ⟨M', rfl, ?_, ?_⟩
    · rw [ha, (key M').1, ← EReal.coe_add, add_mul]
    · rw [ha, (key M').2, ← EReal.coe_add, add_mul]

/-- The quotient at the end. -/
theorem Seen.quot {Z A : ℝ} {m l a : EReal} (h : Seen Z A m l a) (hZ : 0 < Z) : Ideal.div a l = ((A / Z : ℝ) : EReal) := by
  rcases h with ⟨-, -, -, hz, -⟩ | ⟨M, -, rfl, rfl⟩
  · exact absurd hz hZ.ne'
  · have h2 : (2 : ℝ) ^ (-M) ≠ 0 := (Real.rpow_pos_of_pos (by norm_num) _).ne'
    rw [Ideal.div_coe (mul_ne_zero hZ.ne' h2), ← EReal.coe_mul]
    refine congrArg _ ?_
    have := hZ.ne'
    field_simp

/-! ## The sums of one row, block by block -/

namespace Data

variable (D : Data) (h : Fin 16) (t : Fin 8192)

/-- The logit to base two, up to a shift that depends on the query alone. -/
def lg (s : Fin 8192) : ℝ := ∑ x, (D.head h).k s x * (D.head h).q t x - ((D.head h).c s - (D.head h).c (first t))
/-- A block's part of the two sums. -/
def zT (j : Fin 8) : ℝ := ∑ s, if pos j s ≤ t then (2 : ℝ) ^ D.lg h t (pos j s) else 0
def aT (x : Fin 128) (j : Fin 8) : ℝ := ∑ s, (if pos j s ≤ t then (2 : ℝ) ^ D.lg h t (pos j s) else 0) * D.v (pos j s) (colOf h x)

theorem lg_wt (s : Fin 8192) : (if s ≤ t then (2 : ℝ) ^ D.lg h t s else 0) = D.wt h t s * (2 : ℝ) ^ (D.head h).l2 t := by
  rw [← D.head_P]
  unfold Head.P
  split
  · rw [← Real.rpow_add (by norm_num)]
    congr 1
    unfold lg
    ring
  · rw [zero_mul]

theorem sum_wt : ∑ s, D.wt h t s = 1 := by
  have := (D.Z_pos h t).ne'
  have e : ∀ s, D.wt h t s = (if s ≤ t then Real.exp (D.A h t s) else 0) / D.Z h t := fun s => by
    unfold wt; split
    · rfl
    · rw [zero_div]
  simp only [e, ← Finset.sum_div]
  exact div_self this

/-- The blocks after the query's give nothing. -/
theorem before_all (f : Fin 8 → ℝ) (b : Fin 8) (hf : ∀ j, b < j → f j = 0) : before (b.val + 1) f = ∑ j, f j := by
  refine Finset.sum_congr rfl fun j _ => ?_
  by_cases hj : j.val < b.val + 1
  · rw [if_pos hj]
  · rw [if_neg hj, hf j (by show b.val < j.val; omega)]

theorem before_zT (b : Fin 8) (r : Fin 1024) : before (b.val + 1) (D.zT h (pos b r)) = (2 : ℝ) ^ (D.head h).l2 (pos b r) := by
  rw [before_all (D.zT h (pos b r)) b fun j hj => Finset.sum_eq_zero fun s _ => if_neg (not_pos_le_of_lt hj s r)]
  have e := sum_pos (fun s => if s ≤ pos b r then (2 : ℝ) ^ D.lg h (pos b r) s else 0)
  refine Eq.trans e.symm ?_
  simp only [lg_wt, ← Finset.sum_mul, sum_wt, one_mul]

theorem before_aT (b : Fin 8) (r : Fin 1024) (x : Fin 128) : before (b.val + 1) (D.aT h (pos b r) x)
    = (∑ s, D.wt h (pos b r) s * D.v s (colOf h x)) * (2 : ℝ) ^ (D.head h).l2 (pos b r) := by
  rw [before_all (D.aT h (pos b r) x) b fun j hj => Finset.sum_eq_zero fun s _ => by rw [if_neg (not_pos_le_of_lt hj s r), zero_mul]]
  have e := sum_pos (fun s => (if s ≤ pos b r then (2 : ℝ) ^ D.lg h (pos b r) s else 0) * D.v s (colOf h x))
  refine Eq.trans e.symm ?_
  rw [Finset.sum_mul]
  refine Finset.sum_congr rfl fun s _ => ?_
  rw [lg_wt]
  ring

/-- After the query's own block the quotient is the attention. -/
theorem quot {b : Fin 8} {r : Fin 1024} {x : Fin 128} {m l a : EReal}
    (hs : Seen (before (b.val + 1) (D.zT h (pos b r))) (before (b.val + 1) (D.aT h (pos b r) x)) m l a) :
    Ideal.div a l = ((∑ s, D.wt h (pos b r) s * D.v s (colOf h x) : ℝ) : EReal) := by
  have hp : (0 : ℝ) < (2 : ℝ) ^ (D.head h).l2 (pos b r) := Real.rpow_pos_of_pos (by norm_num) _
  rw [hs.quot (by rw [before_zT]; exact hp), before_zT, before_aT, mul_div_assoc, div_self hp.ne', mul_one]

end Data

end Cert.Fox

end
-- ==== Proof.Attn.Step.lean ====
module

public import proofs.«01_k».proof.Proof.Attn.Head
public import proofs.«01_k».proof.Proof.Attn.Online
public import Idealize.ShloMosaic.Lib.WordCmp

@[expose] public section

set_option maxRecDepth 16384

/-!
# One head's steps over the reals

Where a head's inputs are real numbers, its state holds what `Seen` says, and its output is the weighted sum of the values.
-/

noncomputable section

namespace Cert.Kernel14Ideal.Attn

open Idealize.ShloMosaic Idealize.ShloMosaic.TcCoe Idealize.SL.Sem
open Cert.Kernel14Ideal Cert.Kernel14Ideal.Gen
open Cert.Fox

theorem open_apply (c0 ck : Vec Ideal S1x1x1x1024 .f32) (q kb : Vec Ideal S1024x128 .bf16) (r s : Fin 1024) :
    k0_pay2 (F := Ideal) (k0_pay20 c0) (k0_pay22 q) kb ck (ix2 r s)
      = ∑ x, q (ix2 r x) * kb (ix2 s x) - (ck (ix4 0 0 0 s) - c0 (ix4 0 0 0 0)) := by
  pointwise [k0_pay2, k0_pay20, k0_pay22]

theorem masked_apply (c0 ck : Vec Ideal S1x1x1x1024 .f32) (q kb : Vec Ideal S1024x128 .bf16) (r s : Fin 1024) :
    k0_pay49 (F := Ideal) (k0_pay20 c0) (k0_pay22 q) kb ck (ix2 r s)
      = if s.val ≤ r.val then ∑ x, q (ix2 r x) * kb (ix2 s x) - (ck (ix4 0 0 0 s) - c0 (ix4 0 0 0 0)) else ⊥ := by
  have e : k0_pay49 (F := Ideal) (k0_pay20 c0) (k0_pay22 q) kb ck (ix2 r s)
      = Scalar.select (IntOp.cmpi .sle (BitVec.ofNat 32 s.val) (BitVec.ofNat 32 r.val))
        ((∑ x, q (ix2 r x) * kb (ix2 s x) - (ck (ix4 0 0 0 s) - c0 (ix4 0 0 0 0)) : Ideal .f32)) (Named.named κ "mask" 4048155338#32 : Ideal .f32) := by
    pointwise [k0_pay49, k0_pay20, k0_pay22]
  rw [e, WordCmp.cmpi_sle_ofNat (w := 32) (by have := s.isLt; omega) (by have := r.isLt; omega), Scalar.select_decide]
  rfl

theorem max_apply (S : FVec Ideal S1024x1024 .f32) (m : FVec Ideal S1024x1 .f32) (r : Fin 1024) :
    newMax S m (ix2 r 0) = max (m (ix2 r 0)) (Finset.fold max (Ideal.ofBits .f32 4286578688#32) (fun x => S (ix2 r x)) Finset.univ) := by
  pointwise [newMax]
theorem sum_apply (S : FVec Ideal S1024x1024 .f32) (m l m' : FVec Ideal S1024x1 .f32) (r : Fin 1024) :
    k0_pay53 (F := Ideal) m l S m' (ix2 r 0) = FloatOps.exp2 (m (ix2 r 0) - m' (ix2 r 0)) * l (ix2 r 0) + ∑ s, FloatOps.exp2 (S (ix2 r s) - m' (ix2 r 0)) := by
  pointwise [k0_pay53, k0_pay51, k0_pay52]
theorem acc_apply (S : FVec Ideal S1024x1024 .f32) (m m' : FVec Ideal S1024x1 .f32) (a : FVec Ideal S1024x128 .f32) (v : Vec Ideal S1024x128 .bf16) (r : Fin 1024) (x : Fin 128) :
    newAcc m m' a S (k0_pay8 v) (ix2 r x)
      = FloatOps.exp2 (m (ix2 r 0) - m' (ix2 r 0)) * a (ix2 r x) + ∑ s, FloatOps.exp2 (S (ix2 r s) - m' (ix2 r 0)) * v (ix2 s x) := by
  pointwise [newAcc, k0_pay51, k0_pay52, k0_pay8]
theorem out_apply (l : FVec Ideal S1024x1 .f32) (a : FVec Ideal S1024x128 .f32) (r : Fin 1024) (x : Fin 128) :
    k0_pay54 (F := Ideal) l a (ix2 r x) = Ideal.div (a (ix2 r x)) (l (ix2 r 0)) := by
  pointwise [k0_pay54]
theorem init_max (r : Fin 1024) : k0_pay24 (F := Ideal) (ix2 r 0) = (⊥ : EReal) := rfl
theorem init_sum (r : Fin 1024) : k0_pay25 (F := Ideal) (ix2 r 0) = (0 : EReal) := by
  pointwise [k0_pay25]
theorem init_acc (r : Fin 1024) (x : Fin 128) : k0_pay26 (F := Ideal) (ix2 r x) = (0 : EReal) := by
  pointwise [k0_pay26]

variable {D : Data}

/-- The inputs of head `h` at query block `b` are the numbers of `D`. -/
structure InReal (D : Data) (h : Fin 16) (b : Fin 8) (I : In Ideal) : Prop where
  q : ∀ r x, I.q (ix2 r x) = ((D.head h).q (pos b r) x : EReal)
  k : ∀ j s x, I.k j (ix2 s x) = ((D.head h).k (pos j s) x : EReal)
  v : ∀ j s x, I.v j (ix2 s x) = (D.v (pos j s) (colOf h x) : EReal)
  c : ∀ j s, I.c j (ix4 0 0 0 s) = ((D.head h).c (pos j s) : EReal)

variable {h : Fin 16} {b : Fin 8} {I : In Ideal}

theorem logit_real (R : InReal D h b I) (j : Fin 8) (r s : Fin 1024) :
    ∑ x, I.q (ix2 r x) * I.k j (ix2 s x) - (I.c j (ix4 0 0 0 s) - I.c b (ix4 0 0 0 0)) = (D.lg h (pos b r) (pos j s) : EReal) := by
  simp only [R.q, R.k, R.c, ← EReal.coe_mul, sum_coe, ← EReal.coe_sub]
  unfold Data.lg
  rw [first_pos]
  simp only [mul_comm]

theorem open_real (R : InReal D h b I) (j : Fin 8) (hj : j < b) (r s : Fin 1024) :
    I.open' b j (ix2 r s) = if pos j s ≤ pos b r then (D.lg h (pos b r) (pos j s) : EReal) else ⊥ := by
  rw [if_pos (pos_le_of_lt hj s r)]
  exact (open_apply _ _ _ _ r s).trans (logit_real R j r s)

theorem masked_real (R : InReal D h b I) (r s : Fin 1024) :
    I.masked b (ix2 r s) = if pos b s ≤ pos b r then (D.lg h (pos b r) (pos b s) : EReal) else ⊥ := by
  refine (masked_apply _ _ _ _ r s).trans ?_
  rw [logit_real R b r s]
  simp only [pos_le_same]

/-- What a state holds at row `r`, column `x`. -/
def At (D : Data) (h : Fin 16) (b : Fin 8) (n : ℕ) (s : St Ideal) : Prop :=
  ∀ r x, Seen (before n (D.zT h (pos b r))) (before n (D.aT h (pos b r) x)) (s.1 (ix2 r 0)) (s.2.1 (ix2 r 0)) (s.2.2 (ix2 r x))

/-- One step adds one block. -/
theorem step_at {s : St Ideal} (j : Fin 8) (hj : j ≤ b) (hs : At D h b j.val s) (S : FVec Ideal S1024x1024 .f32) (v : Vec Ideal S1024x128 .bf16)
    (hS : ∀ r s, S (ix2 r s) = if pos j s ≤ pos b r then (D.lg h (pos b r) (pos j s) : EReal) else ⊥)
    (hv : ∀ s x, v (ix2 s x) = (D.v (pos j s) (colOf h x) : EReal)) : At D h b (j.val + 1) (step S (k0_pay8 v) s) := by
  intro r x
  rw [before_succ, before_succ]
  have key := (hs r x).step (fun s => pos j s ≤ pos b r) (fun s => D.lg h (pos b r) (pos j s)) (fun s => D.v (pos j s) (colOf h x)) 0
    (by
      show 1024 * j.val + 0 ≤ 1024 * b.val + r.val
      have : j.val ≤ b.val := hj
      omega)
    (fun t => S (ix2 r t)) (fun t => v (ix2 t x)) (fun t => hS r t) (fun t => hv t x)
    (m' := newMax S s.1 (ix2 r 0)) ((max_apply S s.1 r).trans (by rw [Cert.ReferenceIdeal.Stage.bot_word]))
  unfold step
  dsimp only
  rw [sum_apply, acc_apply]
  exact key

theorem seq_at (R : InReal D h b I) (n : ℕ) (hn : n ≤ b.val) : At D h b n (I.seq b n) := by
  induction n with
  | zero =>
    intro r x
    rw [before_zero, before_zero]
    exact Or.inl ⟨init_max r, init_sum r, init_acc r x, rfl, rfl⟩
  | succ n ih =>
    have h8 : n < 8 := by omega
    simp only [In.seq, dif_pos h8]
    exact step_at ⟨n, h8⟩ (Fin.mk_le_of_le_val (by omega)) (ih (by omega)) _ _ (fun r s => open_real R ⟨n, h8⟩ (Fin.mk_lt_of_lt_val (by omega)) r s) (R.v ⟨n, h8⟩)

/-- A head's output. -/
theorem out_real (R : InReal D h b I) (r : Fin 1024) (x : Fin 128) :
    I.out b (ix2 r x) = ((∑ s, D.wt h (pos b r) s * D.v s (colOf h x) : ℝ) : EReal) := by
  unfold In.out
  rw [out_apply]
  exact D.quot h (step_at b (le_refl b) (seq_at R b.val (le_refl _)) _ _ (masked_real R) (R.v b) r x)

end Cert.Kernel14Ideal.Attn

end
-- ==== Proof.Attn.Point.lean ====
module

public import proofs.«01_k».proof.Proof.Attn.Head

@[expose] public section

set_option maxRecDepth 16384

/-!
# The block of the output a point leaves

Its left half is the first head's output, its right half the second's.
-/

noncomputable section

namespace Cert.Kernel14Ideal.Attn

open Idealize.ShloMosaic Idealize.ShloMosaic.TcCoe Idealize.SL.Sem
open Cert.Kernel14Ideal Cert.Kernel14Ideal.Gen
open Cert.Fox (pos)

variable {F : FTy → Type} [FloatOps F] [Named F] (m : (ℓ : Loc nD τ sig) → Buf (Elt F) ℓ) (c : Dev nD)

/-- The inputs of a point's head `o`. -/
def ins (t : Fin cfg0.N) (o : Fin 2) : In F := inOf (iblk m c 0 t) (iblk m c 1 t) (iblk m c 2 t) (iblk m c 3 t) o

/-- The two halves put together. -/
def halves (a b : FVec F S1024x128 .bf16) : Vec F S1024x256 .bf16 :=
  View.canon [⟨Rect.unit ![0, 128] ![1024, 128] inb_S1024x256_S1024x128_0_128, b⟩, ⟨Rect.unit ![0, 0] ![1024, 128] inb_S1024x256_S1024x128_0_0, a⟩]

theorem ends {i : grid0.Coords} {x0 : Vec F S1024x256 .bf16} {x1 x2 : Vec F S8192x256 .bf16} {x3 : Vec F S2x8x1x1024 .f32} {s s' : St F}
    (h : s = (inOf x0 x1 x2 x3 0).seq (bOf i) (bOf i).val) (h' : s' = (inOf x0 x1 x2 x3 1).seq (bOf i) (bOf i).val) :
    halves (k0_pay54 (k0_pay46 (k0_pay22 (qOf x0 0)) s.1 s.2.1 (k0_pay39 (kvOf x1 0 (bOf i))) (k0_pay41 (cOf x3 0 (bOf i)) (cOf x3 0 (bOf i))))
        (k0_pay47 (k0_pay22 (qOf x0 0)) s.1 s.2.2 (k0_pay39 (kvOf x1 0 (bOf i))) (k0_pay40 (kvOf x2 0 (bOf i))) (k0_pay41 (cOf x3 0 (bOf i)) (cOf x3 0 (bOf i)))))
      (k0_pay58 s'.1 s'.2.1 s'.2.2 (k0_pay48 (kvOf x2 1 (bOf i))) (k0_pay49 (k0_pay21 (cOf x3 1 (bOf i))) (k0_pay23 (qOf x0 1)) (kvOf x1 1 (bOf i)) (cOf x3 1 (bOf i)))
        (k0_pay50 (k0_pay21 (cOf x3 1 (bOf i))) (k0_pay23 (qOf x0 1)) s'.1 (kvOf x1 1 (bOf i)) (cOf x3 1 (bOf i))))
    = halves ((inOf x0 x1 x2 x3 0).out (bOf i)) ((inOf x0 x1 x2 x3 1).out (bOf i)) := by
  subst h h'
  rfl

theorem out_A (t : Fin cfg0.N) (h0 : t.val % 8 = 0) (h1 : ¬1 ≤ t.val % 8) :
    (outsAt0 m c t.val t.isLt).1 = halves ((ins m c t 0).out (bOf (grid0.coords t))) ((ins m c t 1).out (bOf (grid0.coords t))) := by
  unfold ins
  rw [outsAt0_A m c t h0 h1]
  frame_out
  generalize iblk m c 0 t = x0
  generalize iblk m c 1 t = x1
  generalize iblk m c 2 t = x2
  generalize iblk m c 3 t = x3
  rw [ld_q x0 0 ![0, 0] inb_S1024x256_S1024x128_0_0 rfl, ld_q x0 1 ![0, 128] inb_S1024x256_S1024x128_0_128 rfl, ld_c x3 0 _ _ _ (off1 _), ld_c x3 1 _ _ _ (off2 _),
    ld_kv x1 0 _ _ _ (off11 _), ld_kv x2 0 _ _ _ (off11 _), ld_kv x1 1 _ _ _ (off12 _), ld_kv x2 1 _ _ _ (off12 _)]
  rw [show Scf.trips (Scalar.addi 0#32 (Scalar.muli (Scalar.divsi (Scalar.subi (BitVec.ofNat 32 (grid0.coords t 0).val) 0#32) 1#32) 1#32))
      (Scalar.addi 0#32 (Scalar.subi (BitVec.ofNat 32 (grid0.coords t 0).val) 0#32)) 1#32 = 0 from trips2 (grid0.coords t 0)]
  rw [show Scf.trips 0#32 (Scalar.addi 0#32 (Scalar.muli (Scalar.divsi (Scalar.subi (BitVec.ofNat 32 (grid0.coords t 0).val) 0#32) 1#32) 1#32)) 1#32
      = (bOf (grid0.coords t)).val from trips1 (grid0.coords t)]
  rw [st_k0_t2_zero]
  dsimp only
  rw [st_eq (x0 := x0) (hn := le_refl _)]
  exact ends rfl rfl

theorem out_B (t : Fin cfg0.N) (h0 : ¬t.val % 8 = 0) (h1 : 1 ≤ t.val % 8) :
    (outsAt0 m c t.val t.isLt).1 = halves ((ins m c t 0).out (bOf (grid0.coords t))) ((ins m c t 1).out (bOf (grid0.coords t))) := by
  unfold ins
  rw [outsAt0_B m c t h0 h1]
  frame_out
  generalize iblk m c 0 t = x0
  generalize iblk m c 1 t = x1
  generalize iblk m c 2 t = x2
  generalize iblk m c 3 t = x3
  rw [ld_q x0 0 ![0, 0] inb_S1024x256_S1024x128_0_0 rfl, ld_q x0 1 ![0, 128] inb_S1024x256_S1024x128_0_128 rfl, ld_c x3 0 _ _ _ (off1 _), ld_c x3 1 _ _ _ (off2 _),
    ld_kv x1 0 _ _ _ (off11 _), ld_kv x2 0 _ _ _ (off11 _), ld_kv x1 1 _ _ _ (off12 _), ld_kv x2 1 _ _ _ (off12 _)]
  rw [show Scf.trips (Scalar.addi 0#32 (Scalar.muli (Scalar.divsi (Scalar.subi (BitVec.ofNat 32 (grid0.coords t 0).val) 0#32) 1#32) 1#32))
      (Scalar.addi 0#32 (Scalar.subi (BitVec.ofNat 32 (grid0.coords t 0).val) 0#32)) 1#32 = 0 from trips2 (grid0.coords t 0)]
  rw [show Scf.trips 0#32 (Scalar.addi 0#32 (Scalar.muli (Scalar.divsi (Scalar.subi (BitVec.ofNat 32 (grid0.coords t 0).val) 0#32) 1#32) 1#32)) 1#32
      = (bOf (grid0.coords t)).val from trips1 (grid0.coords t)]
  rw [st_k0_t2_zero]
  dsimp only
  rw [st_eq (x0 := x0) (hn := le_refl _)]
  exact ends rfl rfl

theorem out_eq (t : Fin cfg0.N) :
    (outsAt0 m c t.val t.isLt).1 = halves ((ins m c t 0).out (bOf (grid0.coords t))) ((ins m c t 1).out (bOf (grid0.coords t))) := by
  by_cases h : t.val % 8 = 0
  · exact out_A m c t h (by omega)
  · exact out_B m c t h (by omega)

/-- The halves by column. -/
theorem halves_left (a b : FVec F S1024x128 .bf16) (r : Fin 1024) (x : Fin 128) : halves a b (ix2 r (⟨x.val, by omega⟩ : Fin 256)) = a (ix2 r x) := by
  have e : (Rect.unit (s := S1024x256) ![0, 0] ![1024, 128] inb_S1024x256_S1024x128_0_0).emb (ix2 r x) = ix2 r (⟨x.val, by omega⟩ : Fin 256) := by
    funext i; refine Fin.ext ?_
    fin_cases i
    · show 0 + 1 * r.val = r.val; omega
    · show 0 + 1 * x.val = x.val; omega
  unfold halves
  rw [View.canon_cons_of_not_mem, ← e]
  · exact View.canon_cons_emb _ _ _ _
  · intro hm
    have := ((Rect.mem_set_unit (s := S1024x256) (inb := inb_S1024x256_S1024x128_0_128)).mp hm 1).1
    have h' : 128 ≤ x.val := this
    omega
theorem halves_right (a b : FVec F S1024x128 .bf16) (r : Fin 1024) (x : Fin 128) : halves a b (ix2 r (⟨128 + x.val, by omega⟩ : Fin 256)) = b (ix2 r x) := by
  have e : (Rect.unit (s := S1024x256) ![0, 128] ![1024, 128] inb_S1024x256_S1024x128_0_128).emb (ix2 r x) = ix2 r (⟨128 + x.val, by omega⟩ : Fin 256) := by
    funext i; refine Fin.ext ?_
    fin_cases i
    · show 0 + 1 * r.val = r.val; omega
    · show 128 + 1 * x.val = 128 + x.val; omega
  unfold halves
  rw [← e]
  exact View.canon_cons_emb _ _ _ _

end Cert.Kernel14Ideal.Attn

end
-- ==== Proof.Entry.lean ====
module

public import proofs.«01_k».proof.Proof.Stage
public import proofs.«01_k».proof.Proof.Gen.KernelIdeal.Frame
public import Idealize.ShloMosaic.Lib.Claim

@[expose] public section

set_option maxRecDepth 16384

/-!
# What the call's operands hold

The eight operands of the call as functions of the program's arguments.
-/

noncomputable section

namespace Cert.KernelIdeal.Entry

open Idealize.ShloMosaic Idealize.ShloMosaic.TcCoe Idealize.SL.Sem
open Cert.KernelIdeal Cert.KernelIdeal.Gen
open Cert.ReferenceIdeal.Stage (heads mask prods spread col logits top exps sumK)

variable {F : FTy → Type} [FloatOps F] [Named F]

/-- One over the logarithm of two. -/
def log2e : FVec F S_ .f32 := Host.divf (constant S_ .f32 0x3F800000#32) (Host.log (constant S_ .f32 0x40000000#32))

section
variable (q k v : FVec F S8192x2048 .f32) (c : FVec F S8192x16 .f32) (d : FVec F S8192x2048 .f32)

/-- The exponentials the forward pass works with. -/
def E : FVec F S16x8192x8192 .f32 := exps (logits q k c) (top (logits q k c))

/-- The queries, scaled for exponentials to base two. -/
def q2 : FVec F S8192x2048 .bf16 :=
  truncf .bf16 (mulf q (broadcastInDim S8192x2048 ![] bcast_S_S8192x2048 (mulf (constant S_ .f32 0x3DB504F3#32) log2e))) bitsLt_bf16_f32
/-- Keys and values side by side. -/
def kv : FVec F S8192x4096 .bf16 :=
  truncf .bf16 (concatenate S8192x4096 1 [⟨S8192x2048, k⟩, ⟨S8192x2048, v⟩] concatenates_S8192x2048_S8192x2048_S8192x4096_d1) bitsLt_bf16_f32
/-- The gate's sums by key, to base two. -/
def cKey : FVec F S8192x128 .f32 :=
  mulf (pad S8192x128 ![0, 0] ![0, 112] ![0, 0] c (sitofp .f32 (constantI S_ 32 0#32)) pads_S8192x16_S8192x128_000_01120 h_S_)
    (broadcastInDim S8192x128 ![] bcast_S_S8192x128 log2e)
/-- The same by head. -/
def cRow : FVec F S16x8x1x1024 .f32 :=
  shapeCast S16x8x1x1024 (transpose S16x8192 [1, 0] (extractStridedSlice S8192x16 ![0, 0] (cKey c) slices_S8192x128_S8192x16_0_0) transposes_S8192x16_S16x8192_1_0) shapeCasts_S16x8192_S16x8x1x1024
/-- The gate's sum at the first query of each block, for every query of the block. -/
def cFirst : FVec F S16x8192 .f32 :=
  shapeCast S16x8192 (shapeCast S16x8x1024 (broadcastInDim S16x8x1x1024 ![0, 1, 2] bcast_S16x8x1_S16x8x1x1024_0_1_2
    (extractStridedSlice S16x8x1 ![0, 0, 0] (shapeCast S16x8x1024 (transpose S16x8192 [1, 0] c transposes_S8192x16_S16x8192_1_0) shapeCasts_S16x8192_S16x8x1024) slices_S16x8x1024_S16x8x1_0_0_0))
    shapeCasts_S16x8x1x1024_S16x8x1024) shapeCasts_S16x8x1024_S16x8192
/-- The logarithm of the sum of the exponentials. -/
def lse : FVec F S16x8192 .f32 :=
  shapeCast S16x8192 (addf (col (top (logits q k c))) (Host.log (col (sumK (E q k c))))) shapeCasts_S16x8192x1_S16x8192
/-- The normaliser to base two, shifted by the gate's sums. -/
def norm2 : FVec F S16x8192 .f32 :=
  mulf (addf (subf (lse q k c) (transpose S16x8192 [1, 0] c transposes_S8192x16_S16x8192_1_0)) (cFirst c)) (broadcastInDim S16x8192 ![] bcast_S_S16x8192 log2e)
def norm2Row : FVec F S16x8x1x1024 .f32 := shapeCast S16x8x1x1024 (norm2 q k c) shapeCasts_S16x8192_S16x8x1x1024
/-- The forward pass's output, head by head. -/
def outs : FVec F S16x8192x128 .f32 :=
  Host.dotGeneral dot_S16x8192x8192_S16x8192x128_S16x8192x128_2_1_1_2_0_0 none (Host.divf (E q k c) (spread (col (sumK (E q k c))))) (heads v)
/-- The product of the output and its gradient, summed over a head's columns. -/
def delta : FVec F S16x8192 .f32 :=
  Host.reduceAdd (mulf (heads d) (outs q k v c)) (constant S_ .f32 0x00000000#32) reducesTo_S16x8192x128_S16x8192_d2 h_S_
def deltaRow : FVec F S16x8x1x1024 .f32 := shapeCast S16x8x1x1024 (delta q k v c d) shapeCasts_S16x8192_S16x8x1x1024
end

variable (m : (ℓ : Loc nD τ sig) → Buf (Elt F) ℓ) (c : Dev nD)

abbrev A0 : FVec F S8192x2048 .f32 := m ((c.tc : Thread nD τ).loc main_arg0)
abbrev A1 : FVec F S8192x2048 .f32 := m ((c.tc : Thread nD τ).loc main_arg1)
abbrev A2 : FVec F S8192x2048 .f32 := m ((c.tc : Thread nD τ).loc main_arg2)
abbrev A3 : FVec F S8192x16 .f32 := m ((c.tc : Thread nD τ).loc main_arg3)
abbrev A4 : FVec F S8192x2048 .f32 := m ((c.tc : Thread nD τ).loc main_arg4)

theorem V62 : V m c main_v62 = (q2 (A0 m c) : FVec F S8192x2048 .bf16) := by
  entry_read; rfl
theorem V64 : V m c main_v64 = (kv (A1 m c) (A2 m c) : FVec F S8192x4096 .bf16) := by
  entry_read; rfl
theorem V65 : V m c main_v65 = (truncf .bf16 (A4 m c) bitsLt_bf16_f32 : FVec F S8192x2048 .bf16) := by
  entry_read; rfl
theorem V55 : V m c main_v55 = (cKey (A3 m c) : FVec F S8192x128 .f32) := by
  entry_read; rfl
theorem V58 : V m c main_v58 = (cRow (A3 m c) : FVec F S16x8x1x1024 .f32) := by
  entry_read; rfl
set_option maxHeartbeats 4000000 in
theorem V51 : V m c main_v51 = (norm2Row (A0 m c) (A1 m c) (A3 m c) : FVec F S16x8x1x1024 .f32) := by
  show StableHlo.after _ _ _ = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V52 : V m c main_v52 = (deltaRow (A0 m c) (A1 m c) (A2 m c) (A3 m c) (A4 m c) : FVec F S16x8x1x1024 .f32) := by
  show StableHlo.after _ _ _ = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

end Cert.KernelIdeal.Entry

end
-- ==== Proof.Operands.lean ====
module

public import proofs.«01_k».proof.Proof.Real
public import proofs.«01_k».proof.Proof.Entry

@[expose] public section

set_option maxRecDepth 16384

/-!
# The call's operands over the reals

Where the arguments are real numbers, the arrays the call receives hold, for each head, the numbers of `Data.head`.
-/

noncomputable section

namespace Cert.KernelIdeal.Entry

open Idealize.ShloMosaic Idealize.ShloMosaic.TcCoe Idealize.SL.Sem
open Cert.KernelIdeal Cert.KernelIdeal.Gen
open Cert.Fox
open Cert.ReferenceIdeal.Stage (heads mask prods spread col logits top exps sumK Reals two_real top_real exps_real weight_real sumK_real heads_apply)

variable {D : Data} {q k v d : FVec Ideal S8192x2048 .f32} {c : FVec Ideal S8192x16 .f32}

theorem log2e_real (i : S_.Idx) : log2e (F := Ideal) i = ((1 * (1 / Real.log 2) : ℝ) : EReal) := by
  show Ideal.div (Ideal.ofBits .f32 0x3F800000#32) (Ideal.log (Ideal.ofBits .f32 1073741824#32)) = _
  rw [two_real, Ideal.log_coe, if_neg (by norm_num), Ideal.div_coe Data.log_two_ne, Ideal.ofBits_one_f32, ← EReal.coe_one, ← EReal.coe_mul]

theorem q2_real (R : Reals D q k v c d) (h : Fin 16) (t : Fin 8192) (x : Fin 128) :
    q2 q (ix2 t (colOf h x)) = ((D.head h).q t x : EReal) := by
  have e : q2 q (ix2 t (colOf h x)) = q (ix2 t (colOf h x)) * (Ideal.ofBits .f32 1035273459#32 * log2e (F := Ideal) ix0) := by
    unfold q2
    generalize log2e (F := Ideal) = l
    pointwise []
  rw [e, log2e_real, R.q, R.σ]
  simp only [← EReal.coe_mul]
  rfl

theorem kv_key (R : Reals D q k v c d) (s : Fin 8192) (x : Fin 2048) (y : Fin 4096) (hy : y.val = x.val) :
    kv k v (ix2 s y) = (D.k s x : EReal) := by
  pointwise [kv]
  rw [dif_pos (by omega), ← R.k]
  exact congrArg k (congrArg (ix2 s) (Fin.ext hy))

theorem kv_val (R : Reals D q k v c d) (s : Fin 8192) (x : Fin 2048) (y : Fin 4096) (hy : y.val = 2048 + x.val) :
    kv k v (ix2 s y) = (D.v s x : EReal) := by
  pointwise [kv]
  rw [dif_neg (by omega), ← R.v]
  exact congrArg v (congrArg (ix2 s) (Fin.ext (by show y.val - 2048 = x.val; omega)))

theorem cKey_real (R : Reals D q k v c d) (s : Fin 8192) (h : Fin 16) (y : Fin 128) (hy : y.val = h.val) :
    cKey c (ix2 s y) = ((D.head h).c s : EReal) := by
  have e : cKey c (ix2 s y) = (if h : y.val < 16 then c (ix2 s ⟨y.val, h⟩) else FloatOps.sitofp .f32 0#32) * log2e (F := Ideal) ix0 := by
    unfold cKey
    generalize log2e (F := Ideal) = l
    pointwise []
  rw [e, dif_pos (by omega), log2e_real, show (⟨y.val, (by omega : y.val < 16)⟩ : Fin 16) = h from Fin.ext hy, R.c, ← EReal.coe_mul]
  rfl

theorem cRow_real (R : Reals D q k v c d) (h : Fin 16) (b : Fin 8) (r : Fin 1024) :
    cRow c (ix4 h b 0 r) = ((D.head h).c (pos b r) : EReal) := by
  unfold cRow
  have e := fun s => cKey_real R s h ⟨h.val, by omega⟩ rfl
  generalize cKey c = a at e ⊢
  pointwise []
  rw [← e]
  refine congrArg a (congrArg (fun s => ix2 s _) (Fin.ext ?_))
  show b.val * 1024 + r.val = 1024 * b.val + r.val
  omega

theorem lse_apply (a b : FVec Ideal S16x8192 .f32) (h : Fin 16) (t : Fin 8192) :
    (shapeCast S16x8192 (addf (col a) (Host.log (col b))) shapeCasts_S16x8192x1_S16x8192 : FVec Ideal S16x8192 .f32) (ix2 h t)
      = a (ix2 h t) + Ideal.log (b (ix2 h t)) := by
  pointwise [col]

theorem lse_real (R : Reals D q k v c d) (h : Fin 16) (t : Fin 8192) : lse q k c (ix2 h t) = (Real.log (D.Z h t) : EReal) := by
  obtain ⟨M, hM⟩ := top_real R
  have he : ∀ h t s, E q k c (ix3 h t s) = (D.ex h t (M h t) s : EReal) := exps_real R hM
  unfold lse
  rw [lse_apply, hM, sumK_real he, Ideal.log_coe, if_neg (not_le.mpr (D.sum_ex_pos h t (M h t))), ← EReal.coe_add, D.log_sum]

theorem cFirst_apply (h : Fin 16) (t : Fin 8192) : cFirst c (ix2 h t) = c (ix2 (first t) h) := by
  pointwise [cFirst]
  refine congrArg c (congrArg (fun s => ix2 s h) (Fin.ext ?_))
  show t.val / 1024 * 1024 = 1024 * (t.val / 1024)
  omega

theorem norm2_apply (a : FVec Ideal S16x8192 .f32) (f : FVec Ideal S16x8192 .f32) (l : FVec Ideal S_ .f32) (h : Fin 16) (t : Fin 8192) :
    (mulf (addf (subf a (transpose S16x8192 [1, 0] c transposes_S8192x16_S16x8192_1_0)) f) (broadcastInDim S16x8192 ![] bcast_S_S16x8192 l) : FVec Ideal S16x8192 .f32) (ix2 h t)
      = (a (ix2 h t) - c (ix2 t h) + f (ix2 h t)) * l ix0 := by
  pointwise []

theorem norm2_real (R : Reals D q k v c d) (h : Fin 16) (t : Fin 8192) : norm2 q k c (ix2 h t) = ((D.head h).l2 t : EReal) := by
  unfold norm2
  rw [norm2_apply, lse_real R, cFirst_apply, R.c, R.c, log2e_real, ← EReal.coe_sub, ← EReal.coe_add, ← EReal.coe_mul]
  rfl

/-- A row of numbers per head, cut into blocks. -/
theorem row_apply (a : FVec Ideal S16x8192 .f32) (h : Fin 16) (b : Fin 8) (r : Fin 1024) :
    (shapeCast S16x8x1x1024 a shapeCasts_S16x8192_S16x8x1x1024 : FVec Ideal S16x8x1x1024 .f32) (ix4 h b 0 r) = a (ix2 h (pos b r)) := by
  pointwise []
  refine congrArg a (congrArg (ix2 h) (Fin.ext ?_))
  show b.val * 1024 + r.val = 1024 * b.val + r.val
  omega

theorem norm2Row_real (R : Reals D q k v c d) (h : Fin 16) (b : Fin 8) (r : Fin 1024) :
    norm2Row q k c (ix4 h b 0 r) = ((D.head h).l2 (pos b r) : EReal) := by
  unfold norm2Row
  rw [row_apply, norm2_real R]

theorem outs_apply (e : FVec Ideal S16x8192x8192 .f32) (l : FVec Ideal S16x8192 .f32) (a : FVec Ideal S16x8192x128 .f32) (h : Fin 16) (t : Fin 8192) (x : Fin 128) :
    (Host.dotGeneral dot_S16x8192x8192_S16x8192x128_S16x8192x128_2_1_1_2_0_0 none (Host.divf e (spread (col l))) a : FVec Ideal S16x8192x128 .f32) (ix3 h t x)
      = ∑ s, Ideal.div (e (ix3 h t s)) (l (ix2 h t)) * a (ix3 h s x) := by
  pointwise [spread, col]

theorem outs_real (R : Reals D q k v c d) (h : Fin 16) (t : Fin 8192) (x : Fin 128) :
    outs q k v c (ix3 h t x) = ((∑ s, D.wt h t s * D.v s (colOf h x) : ℝ) : EReal) := by
  obtain ⟨M, hM⟩ := top_real R
  have he : ∀ h t s, E q k c (ix3 h t s) = (D.ex h t (M h t) s : EReal) := exps_real R hM
  unfold outs
  rw [outs_apply]
  simp only [weight_real he, heads_apply, R.v, ← EReal.coe_mul, sum_coe]

theorem delta_apply (a b : FVec Ideal S16x8192x128 .f32) (h : Fin 16) (t : Fin 8192) :
    (Host.reduceAdd (mulf a b) (constant S_ .f32 0x00000000#32) reducesTo_S16x8192x128_S16x8192_d2 h_S_ : FVec Ideal S16x8192 .f32) (ix2 h t)
      = ∑ x, a (ix3 h t x) * b (ix3 h t x) := by
  pointwise []

theorem deltaRow_real (R : Reals D q k v c d) (h : Fin 16) (b : Fin 8) (r : Fin 1024) :
    deltaRow q k v c d (ix4 h b 0 r) = ((D.head h).dl (pos b r) : EReal) := by
  unfold deltaRow delta
  rw [row_apply, delta_apply]
  simp only [outs_real R, heads_apply, R.d, ← EReal.coe_mul, sum_coe]
  exact congrArg _ (D.delta_eq h _)

end Cert.KernelIdeal.Entry

end
-- ==== Proof.Attn.Value.lean ====
module

public import proofs.«01_k».proof.Defs
public import proofs.«01_k».proof.Proof.Attn.Step
public import proofs.«01_k».proof.Proof.Attn.Point
public import proofs.«01_k».proof.Proof.Operands
public import proofs.«01_k».proof.Proof.Gen.Kernel14.Frame
public import proofs.«01_k».proof.Proof.Gen.Reference14Ideal.Run
public import Idealize.ShloMosaic.Lib.Claim
public import Idealize.ShloMosaic.Adequacy
public import Idealize.ShloMosaic.Init

@[expose] public section

set_option maxRecDepth 16384

/-!
# The forward attention's output

Point `t` works on query block `t / 8` and heads `2 (t % 8)` and `2 (t % 8) + 1`.
-/

noncomputable section

namespace Cert.Kernel14Ideal.Attn

open Idealize.ShloMosaic Idealize.ShloMosaic.TcCoe Idealize.SL.Sem
open Cert.Kernel14Ideal Cert.Kernel14Ideal.Gen
open Cert.Fox
open Cert.ReferenceIdeal.Stage (Reals)
open Cert.KernelIdeal.Entry (q2 kv cRow)

/-- The blocks the windows are on. -/
theorem idx : ∀ t : Fin cfg0.N, win0_0.index t = ![t.val / 8, t.val % 8] ∧ win0_1.index t = ![0, t.val % 8] ∧ win0_2.index t = ![0, 8 + t.val % 8]
    ∧ win0_3.index t = ![t.val % 8, 0, 0, 0] ∧ win0_4.index t = ![t.val / 8, t.val % 8] := (by decide +kernel : ∀ t : Fin grid0.N, _)

theorem coords0 : ∀ t : Fin cfg0.N, (grid0.coords t 0).val = t.val / 8 := (by decide +kernel : ∀ t : Fin grid0.N, (grid0.coords t 0).val = t.val / 8)

/-- A point's query block and heads. -/
def bAt (t : Fin cfg0.N) : Fin 8 := ⟨t.val / 8, Nat.div_lt_of_lt_mul t.isLt⟩
def hAt (t : Fin cfg0.N) (o : Fin 2) : Fin 16 := ⟨2 * (t.val % 8) + o.val, by omega⟩
theorem bOf_eq (t : Fin cfg0.N) : bOf (grid0.coords t) = bAt t := Fin.ext (coords0 t)

section
variable {F : FTy → Type} [FloatOps F] [Named F] (m : (ℓ : Loc nD τ sig) → Buf (Elt F) ℓ) (c : Dev nD)

/-- The arguments. -/
abbrev A0 : FVec F S8192x2048 .f32 := m ((c.tc : Thread nD τ).loc main_arg0)
abbrev A1 : FVec F S8192x2048 .f32 := m ((c.tc : Thread nD τ).loc main_arg1)
abbrev A2 : FVec F S8192x2048 .f32 := m ((c.tc : Thread nD τ).loc main_arg2)
abbrev A3 : FVec F S8192x16 .f32 := m ((c.tc : Thread nD τ).loc main_arg3)

theorem V11 : V m c main_v11 = (q2 (A0 m c) : FVec F S8192x2048 .bf16) := by
  entry_read; rfl
theorem V13 : V m c main_v13 = (kv (A1 m c) (A2 m c) : FVec F S8192x4096 .bf16) := by
  entry_read; rfl
theorem V7 : V m c main_v7 = (cRow (A3 m c) : FVec F S16x8x1x1024 .f32) := by
  entry_read; rfl

def keyCol (h : Fin 16) (x : Fin 128) : Fin 4096 := ⟨h.val * 128 + x.val, by omega⟩
def valCol (h : Fin 16) (x : Fin 128) : Fin 4096 := ⟨2048 + (h.val * 128 + x.val), by omega⟩

theorem blk_q (t : Fin cfg0.N) (o : Fin 2) (r : Fin 1024) (x : Fin 128) :
    iblk m c 0 t (ix2 r (⟨128 * o.val + x.val, by omega⟩ : Fin 256)) = V m c main_v11 (ix2 (pos (bAt t) r) (colOf (hAt t o) x)) := by
  blk_ext [iblk, idx t, colOf, hAt, bAt, pos]
theorem blk_k (t : Fin cfg0.N) (o : Fin 2) (s : Fin 8192) (x : Fin 128) :
    iblk m c 1 t (ix2 s (⟨128 * o.val + x.val, by omega⟩ : Fin 256)) = V m c main_v13 (ix2 s (keyCol (hAt t o) x)) := by
  blk_ext [iblk, idx t, keyCol, hAt]
theorem blk_v (t : Fin cfg0.N) (o : Fin 2) (s : Fin 8192) (x : Fin 128) :
    iblk m c 2 t (ix2 s (⟨128 * o.val + x.val, by omega⟩ : Fin 256)) = V m c main_v13 (ix2 s (valCol (hAt t o) x)) := by
  blk_ext [iblk, idx t, valCol, hAt]
theorem blk_c (t : Fin cfg0.N) (o : Fin 2) (j : Fin 8) (s : Fin 1024) :
    iblk m c 3 t (ix4 o j 0 s) = V m c main_v7 (ix4 (hAt t o) j 0 s) := by
  blk_ext [iblk, idx t, hAt]
end

variable {m : (ℓ : Loc nD τ sig) → Buf (Elt Ideal) ℓ} {c : Dev nD} {D : Data}

/-- The arguments of a device are the real numbers of `D`; the gradient that `Data` also holds stands for nothing here. -/
abbrev ArgsReal (m : (ℓ : Loc nD τ sig) → Buf (Elt Ideal) ℓ) (c : Dev nD) (D : Data) : Prop := Reals D (A0 m c) (A1 m c) (A2 m c) (A3 m c) (A0 m c)

theorem ins_real (R : ArgsReal m c D) (t : Fin cfg0.N) (o : Fin 2) : InReal D (hAt t o) (bAt t) (ins m c t o) where
  q r x := (blk_q m c t o r x).trans ((congrFun (V11 m c) _).trans (Cert.KernelIdeal.Entry.q2_real R _ _ x))
  k j s x := (blk_k m c t o (pos j s) x).trans ((congrFun (V13 m c) _).trans (Cert.KernelIdeal.Entry.kv_key R _ (colOf (hAt t o) x) _ rfl))
  v j s x := (blk_v m c t o (pos j s) x).trans ((congrFun (V13 m c) _).trans (Cert.KernelIdeal.Entry.kv_val R _ (colOf (hAt t o) x) _ rfl))
  c j s := (blk_c m c t o j s).trans ((congrFun (V7 m c) _).trans (Cert.KernelIdeal.Entry.cRow_real R _ j s))

/-- The head and the column in it of a column. -/
def hdOf (y : Fin 2048) : Fin 16 := ⟨y.val / 128, by omega⟩
def lnOf (y : Fin 2048) : Fin 128 := ⟨y.val % 128, by omega⟩

/-- The attention's output. -/
def attn (D : Data) : FVec Ideal S8192x2048 .bf16 :=
  fun i => ((∑ s, D.wt (hdOf (i 1)) (i 0) s * D.v s (colOf (hdOf (i 1)) (lnOf (i 1))) : ℝ) : EReal)

theorem attn_apply (h : Fin 16) (t : Fin 8192) (x : Fin 128) : attn D (ix2 t (colOf h x)) = ((∑ s, D.wt h t s * D.v s (colOf h x) : ℝ) : EReal) := by
  have e1 : hdOf (colOf h x) = h := Fin.ext (by show (h.val * 128 + x.val) / 128 = h.val; omega)
  have e2 : lnOf (colOf h x) = x := Fin.ext (by show (h.val * 128 + x.val) % 128 = x.val; omega)
  show ((∑ s, D.wt (hdOf (colOf h x)) t s * D.v s (colOf (hdOf (colOf h x)) (lnOf (colOf h x))) : ℝ) : EReal) = _
  rw [e1, e2]

/-- Where a point's block lies. -/
theorem emb_4 (t : Fin cfg0.N) (o : Fin 2) (r : Fin 1024) (x : Fin 128) :
    ((cfg0.win 4).blk t).view.emb (ix2 r (⟨128 * o.val + x.val, by omega⟩ : Fin 256)) = ix2 (pos (bAt t) r) (colOf (hAt t o) x) := by
  blk_ext [idx t, colOf, hAt, bAt, pos]

/-- A point's block of the output. -/
theorem point_real (R : ArgsReal m c D) (t : Fin cfg0.N) (o : Fin 2) (r : Fin 1024) (x : Fin 128) :
    (outsAt0 m c t.val t.isLt).1 (ix2 r (⟨128 * o.val + x.val, by omega⟩ : Fin 256))
      = ((∑ s, D.wt (hAt t o) (pos (bAt t) r) s * D.v s (colOf (hAt t o) x) : ℝ) : EReal) := by
  rw [out_eq, bOf_eq]
  rcases (by omega : o.val = 0 ∨ o.val = 1) with ho | ho
  · obtain rfl : o = 0 := Fin.ext ho
    refine Eq.trans ?_ (out_real (ins_real R t 0) r x)
    refine Eq.trans (congrArg _ (congrArg (ix2 r) (Fin.ext ?_))) (halves_left _ _ r x)
    show 128 * 0 + x.val = x.val
    omega
  · obtain rfl : o = 1 := Fin.ext ho
    refine Eq.trans ?_ (out_real (ins_real R t 1) r x)
    exact halves_right _ _ r x

/-- The kernel's result. -/
theorem final (R : ArgsReal m c D) : (dats m 0 c).arrAt 4 (cfgs 0).N = attn D := by
  refine (dats m 0 c).arrAt_eq_of_covers 4 _ (by decide +kernel) fun t hf y => ?_
  blk_simp
  rw [after0_4]
  idx_vars y
  obtain ⟨o, x, rfl⟩ : ∃ (o : Fin 2) (x : Fin 128), y1 = (⟨128 * o.val + x.val, by omega⟩ : Fin 256) :=
    ⟨⟨y1.val / 128, by omega⟩, ⟨y1.val % 128, by omega⟩, Fin.ext (by show y1.val = 128 * (y1.val / 128) + y1.val % 128; omega)⟩
  refine (point_real R t o y0 x).trans (Eq.trans ?_ (congrArg (attn D) (emb_4 t o y0 x)).symm)
  exact (attn_apply _ _ _).symm

end Cert.Kernel14Ideal.Attn

end
-- ==== Proof.Finite.lean ====
module

public import proofs.«01_k».proof.Pre_finite
public import proofs.«01_k».proof.Proof.Gen.Pre_finite
public import proofs.«01_k».proof.Proof.Real
public import Idealize.ShloMosaic.Lib.ReduceAll

@[expose] public section

set_option maxRecDepth 16384

/-!
# The precondition read back

`finite` says that every element of the five arguments is below infinity in size; so each is a real number.
-/

noncomputable section

namespace Cert.Pre_finite

open Idealize.ShloMosaic
open Cert.Fox
open Cert.ReferenceIdeal.Stage (Reals scale_real)

theorem inf_word : Ideal.ofBits .f32 2139095040#32 = (⊤ : EReal) := by
  simp [Ideal.ofBits, Ideal.ieee]

/-- A number below infinity in size is a real. -/
theorem real_of_lt {x : EReal} (h : max x (-x) < ⊤) : ∃ r : ℝ, x = (r : EReal) := by
  have h1 : x ≠ ⊤ := fun e => by rw [e] at h; exact absurd h (not_lt.mpr (le_max_left _ _))
  have h2 : x ≠ ⊥ := fun e => by rw [e] at h; exact absurd h (not_lt.mpr (by rw [EReal.neg_bot]; exact le_max_right _ _))
  exact ⟨x.toReal, (EReal.coe_toReal h1 h2).symm⟩

theorem real_of_cmp {x y : EReal} (hy : y = ⊤) (h : BitVec.ofBool (decide (max x (-x) < y)) = 1#1) : ∃ r : ℝ, x = (r : EReal) := by
  subst hy
  refine real_of_lt ?_
  by_contra hn
  rw [decide_eq_false hn] at h
  exact absurd h (by decide)

instance : Subsingleton S_.Idx := ⟨fun a b => funext fun i => i.elim0⟩

/-- All elements of an array pass the test. -/
theorem all_real {s : Shape} (a : FVec Ideal s .f32) (b : FVec Ideal s .f32) (hb : ∀ i, b i = (⊤ : EReal)) {axes : List (Fin s.rank)}
    (h : s.ReducesTo axes S_) (hu : 0 < S_.numel) (init : IVec S_ 1) (j : S_.Idx)
    (e : Host.reduce IntOp.andi (cmpf .olt (Host.absf a) b) init h hu j = 1#1) (i : s.Idx) : ∃ r : ℝ, a i = (r : EReal) :=
  real_of_cmp (hb i) (Host.reduce_andi_all _ _ h hu j e i)

variable [Facts]

theorem split {a0 a1 a2 : FVec Ideal S8192x2048 .f32} {a3 : FVec Ideal S8192x16 .f32} {a4 : FVec Ideal S8192x2048 .f32}
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ ∀ i, ∃ r : ℝ, a4 i = (r : EReal) := by
  have h0 := congrFun h (fun i => i.elim0)
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ (fun _ => inf_word) _ _ _ _ e0, all_real a1 _ (fun _ => inf_word) _ _ _ _ e1, all_real a2 _ (fun _ => inf_word) _ _ _ _ e2,
    all_real a3 _ (fun _ => inf_word) _ _ _ _ e3, all_real a4 _ (fun _ => inf_word) _ _ _ _ e4⟩

/-- Finite arguments are the numbers of some `Data`. -/
theorem reals {a0 a1 a2 : FVec Ideal S8192x2048 .f32} {a3 : FVec Ideal S8192x16 .f32} {a4 : FVec Ideal S8192x2048 .f32}
    (h : fn (F := Ideal) a0 a1 a2 a3 a4 = fun _ => 1#1) : ∃ D : Data, Reals D a0 a1 a2 a3 a4 := by
  obtain ⟨h0, h1, h2, h3, h4⟩ := split h
  choose f0 h0 using h0
  choose f1 h1 using h1
  choose f2 h2 using h2
  choose f3 h3 using h3
  choose f4 h4 using h4
  obtain ⟨x, hx⟩ := scale_real
  exact ⟨⟨fun t y => f0 (ValueIdx.ix2 t y), fun t y => f1 (ValueIdx.ix2 t y), fun t y => f2 (ValueIdx.ix2 t y), fun t y => f4 (ValueIdx.ix2 t y),
    fun t y => f3 (ValueIdx.ix2 t y), x⟩, ⟨fun _ _ => h0 _, fun _ _ => h1 _, fun _ _ => h2 _, fun _ _ => h4 _, fun _ _ => h3 _, hx⟩⟩

end Cert.Pre_finite

end
-- ==== Proof.Attn.Claims.lean ====
module

public import proofs.«01_k».proof.Proof.Attn.Value
public import proofs.«01_k».proof.Proof.Finite
public import proofs.«01_k».proof.Pre_finite14
public import proofs.«01_k».proof.Proof.Gen.Pre_finite14

@[expose] public section

set_option maxRecDepth 16384

/-!
# The claims about the forward attention
-/

noncomputable section

namespace Cert.Pre_finite14

open Idealize.ShloMosaic
open Cert.Fox
open Cert.Pre_finite (all_real inf_word)
open Cert.ReferenceIdeal.Stage (Reals scale_real)

/-- Finite arguments are the numbers of some `Data`. -/
theorem reals {a0 a1 a2 : FVec Ideal S8192x2048 .f32} {a3 : FVec Ideal S8192x16 .f32}
    (h : fn (F := Ideal) a0 a1 a2 a3 = fun _ => 1#1) : ∃ D : Data, Reals D a0 a1 a2 a3 a0 := by
  have h0 := congrFun h (fun i => i.elim0)
  obtain ⟨h0, e3⟩ := IntOp.andi_eq_one.1 h0
  obtain ⟨h0, e2⟩ := IntOp.andi_eq_one.1 h0
  obtain ⟨e0, e1⟩ := IntOp.andi_eq_one.1 h0
  have h0 := all_real a0 _ (fun _ => inf_word) _ _ _ _ e0
  have h1 := all_real a1 _ (fun _ => inf_word) _ _ _ _ e1
  have h2 := all_real a2 _ (fun _ => inf_word) _ _ _ _ e2
  have h3 := all_real a3 _ (fun _ => inf_word) _ _ _ _ e3
  choose f0 h0 using h0
  choose f1 h1 using h1
  choose f2 h2 using h2
  choose f3 h3 using h3
  obtain ⟨x, hx⟩ := scale_real
  exact ⟨⟨fun t y => f0 (ValueIdx.ix2 t y), fun t y => f1 (ValueIdx.ix2 t y), fun t y => f2 (ValueIdx.ix2 t y), fun t y => f0 (ValueIdx.ix2 t y),
    fun t y => f3 (ValueIdx.ix2 t y), x⟩, ⟨fun _ _ => h0 _, fun _ _ => h1 _, fun _ _ => h2 _, fun _ _ => h0 _, fun _ _ => h3 _, hx⟩⟩

end Cert.Pre_finite14

namespace Cert.Kernel14Ideal.Attn

open Idealize.ShloMosaic Idealize.ShloMosaic.TcCoe Idealize.SL.Sem
open Cert.Kernel14Ideal Cert.Kernel14Ideal.Gen
open Cert.Fox
open Cert.ReferenceIdeal.Stage (heads unheads spread col logits top top' exps sumK Reals top_real top'_eq exps_real weight_real sumK_real heads_apply)

/-- The reference's result. -/
def refE {F : FTy → Type} [FloatOps F] (q k : FVec F S8192x2048 .f32) (c : FVec F S8192x16 .f32) : FVec F ReferenceIdeal.S16x8192x8192 .f32 :=
  exps (logits q k c) (top' (logits q k c))
def refOut {F : FTy → Type} [FloatOps F] (q k v : FVec F S8192x2048 .f32) (c : FVec F S8192x16 .f32) : FVec F S8192x2048 .bf16 :=
  truncf .bf16 (unheads (Host.dotGeneral KernelIdeal.dot_S16x8192x8192_S16x8192x128_S16x8192x128_2_1_1_2_0_0 none
    (Host.divf (refE q k c) (spread (col (sumK (refE q k c))))) (heads v))) bitsLt_bf16_f32

theorem unheads_apply (a : FVec Ideal ReferenceIdeal.S16x8192x128 .f32) (t : Fin 8192) (y : Fin 2048) :
    (truncf .bf16 (unheads a) bitsLt_bf16_f32 : FVec Ideal S8192x2048 .bf16) (ix2 t y) = a (ix3 (hdOf y) t (lnOf y)) := by
  pointwise [unheads]; rfl

theorem refOut_eq {D : Data} {q k v d : FVec Ideal S8192x2048 .f32} {c : FVec Ideal S8192x16 .f32} (R : Reals D q k v c d) :
    refOut q k v c = attn D := by
  funext i
  idx_vars i
  obtain ⟨M, hM⟩ := top_real R
  have he : ∀ h t s, refE q k c (ix3 h t s) = (D.ex h t (M h t) s : EReal) := exps_real R fun h t => (top'_eq _ h t).trans (hM h t)
  unfold refOut
  rw [unheads_apply]
  generalize refE q k c = e at he ⊢
  refine (Cert.KernelIdeal.Entry.outs_apply e (sumK e) (heads v) _ _ _).trans ?_
  simp only [weight_real he, heads_apply, R.v, ← EReal.coe_mul, sum_coe]
  rfl

end Cert.Kernel14Ideal.Attn

namespace Cert.Proof

open Idealize.ShloMosaic Idealize.ShloMosaic.TcCoe Idealize.SL.Sem
open Cert.Kernel14Ideal.Attn (refOut refOut_eq)

/-- The reference's frame: it declares no semaphore. -/
theorem frame_reference14 : Cert.quiescent_Reference14Ideal := fun m g _ =>
  (θ_run Cert.Reference14Ideal.defs _ _).mono (fun r h => ⟨fun c => (h c).2, sem_eq_zero_of_no_sems (by decide) r.2⟩)
    (Cert.Reference14Ideal.Value.run m g)

/-- The two rewrites: the mask's constant is named minus infinity, the constant `inv_ln2` one over the logarithm of two. -/
theorem preserves14 : Cert.preserves_Kernel14_Kernel14Ideal :=
  ⟨IdealRules.named_const.statement _ _ _ _ _ rfl, IdealRules.named_const.statement _ _ _ _ _ rfl⟩

theorem res14 (m : (ℓ : Loc Cert.Reference14Ideal.nD Cert.Reference14Ideal.τ Cert.Reference14Ideal.sig) → Buf (Elt Ideal) ℓ) (c : Dev Cert.Reference14Ideal.nD) :
    Cert.Reference14Ideal.Value.res_main_v38 m c
      = refOut (F := Ideal) (m ((c.tc : Thread Cert.Reference14Ideal.nD Cert.Reference14Ideal.τ).loc Cert.Reference14Ideal.main_arg0))
        (m ((c.tc : Thread Cert.Reference14Ideal.nD Cert.Reference14Ideal.τ).loc Cert.Reference14Ideal.main_arg1))
        (m ((c.tc : Thread Cert.Reference14Ideal.nD Cert.Reference14Ideal.τ).loc Cert.Reference14Ideal.main_arg2))
        (m ((c.tc : Thread Cert.Reference14Ideal.nD Cert.Reference14Ideal.τ).loc Cert.Reference14Ideal.main_arg3)) := rfl

/-- The idealized kernel and the reference end with equal results, where the arguments are finite. -/
theorem algebraic14 : Cert.algebraic_Kernel14Ideal_Reference14Ideal_pre_finite14 := by
  intro m g m' g' hpre hargs
  have hR : ∀ c, ∃ D, Cert.Kernel14Ideal.Attn.ArgsReal m c D := fun c => Cert.Pre_finite14.reals (hpre c)
  refine ⟨fun c => (Cert.Kernel14Ideal.Gen.dats m 0 c).arrAt 4 (Cert.Kernel14Ideal.cfgs 0).N, ?_, ?_⟩
  · run_from Cert.Kernel14Ideal.Gen.run_main m g
    exacts [Cert.Kernel14Ideal.Gen.V_main_arg0 m _, Cert.Kernel14Ideal.Gen.V_main_arg1 m _, Cert.Kernel14Ideal.Gen.V_main_arg2 m _, Cert.Kernel14Ideal.Gen.V_main_arg3 m _]
  · refine (θ_run Cert.Reference14Ideal.defs _ _).mono (fun r h c => ?_) (Cert.Reference14Ideal.Value.run m' g')
    obtain ⟨h0, h1, h2, h3⟩ := hargs c
    obtain ⟨r0, rest⟩ := h c
    obtain ⟨D, R⟩ := hR c
    refine ⟨r0.trans (Eq.trans ?_ (Cert.Kernel14Ideal.Attn.final R).symm), rest⟩
    rw [res14, h0, h1, h2, h3]
    exact refOut_eq R

end Cert.Proof

end
-- ==== Proof.Pay.lean ====
module

public import proofs.«01_k».proof.Proof.Step
public import proofs.«01_k».proof.Proof.Math
public import Idealize.ShloMosaic.Lib.Pointwise
public import Idealize.ShloMosaic.Lib.WordCmp

@[expose] public section

set_option maxRecDepth 16384

/-!
# One query block over the reals

`Holds i X H`: the blocks the point reads are, coerced, the numbers of the head `H`. Under it each piece of a query
block's arithmetic is the coercion of the real formula.
-/

noncomputable section

namespace Cert.KernelIdeal.Body

open Idealize.ShloMosaic Idealize.ShloMosaic.TcCoe Idealize.SL.Sem
open Cert.KernelIdeal Cert.KernelIdeal.Gen
open Cert.Fox

/-! ## Row blocks at an index -/

theorem rows_apply {α : Type} (b : Fin 8) (X : S8192x128.Idx → α) (r : Fin 1024) (x : Fin 128) :
    rows b X (ix2 r x) = X (ix2 (pos b r) x) := by
  refine congrArg X (funext fun a => Fin.ext ?_)
  match a with
  | ⟨0, _⟩ => show 1024 * b.val + 1 * r.val = 1024 * b.val + r.val; omega
  | ⟨1, _⟩ => show 0 + 1 * x.val = x.val; omega

theorem lrow_apply {α : Type} (b : Fin 8) (X : S1x8x1x1024.Idx → α) (r : Fin 1024) :
    lrow b X (ix4 0 0 0 r) = X (ix4 0 b 0 r) := by
  refine congrArg X (funext fun a => Fin.ext ?_)
  match a with
  | ⟨0, _⟩ => rfl
  | ⟨1, _⟩ => show b.val + 1 * 0 = b.val; omega
  | ⟨2, _⟩ => rfl
  | ⟨3, _⟩ => show 0 + 1 * r.val = r.val; omega

theorem putRows_apply {α : Type} (b : Fin 8) (X : S8192x128.Idx → α) (w : S1024x128.Idx → α) (b' : Fin 8) (r : Fin 1024) (x : Fin 128) :
    putRows b X w (ix2 (pos b' r) x) = if b' = b then w (ix2 r x) else X (ix2 (pos b' r) x) := by
  unfold putRows VecWindow.put
  by_cases hb : b' = b
  · subst hb
    rw [if_pos rfl, dif_pos ?_]
    · refine congrArg w (funext fun a => Fin.ext ?_)
      match a with
      | ⟨0, _⟩ => show 1024 * b'.val + r.val - 1024 * b'.val = r.val; omega
      | ⟨1, _⟩ => show x.val - 0 = x.val; omega
    · intro a
      match a with
      | ⟨0, _⟩ => show 1024 * b'.val ≤ 1024 * b'.val + r.val ∧ 1024 * b'.val + r.val < 1024 * b'.val + 1024; omega
      | ⟨1, _⟩ => show 0 ≤ x.val ∧ x.val < 0 + 128; omega
  · rw [if_neg hb, dif_neg ?_]
    intro h
    have h0 : 1024 * b.val ≤ 1024 * b'.val + r.val ∧ 1024 * b'.val + r.val < 1024 * b.val + 1024 := h 0
    exact hb (Fin.ext (by omega))

theorem putLrow_apply {α : Type} (b : Fin 8) (X : S1x8x1x1024.Idx → α) (w : S1x1x1x1024.Idx → α) (b' : Fin 8) (r : Fin 1024) :
    putLrow b X w (ix4 0 b' 0 r) = if b' = b then w (ix4 0 0 0 r) else X (ix4 0 b' 0 r) := by
  unfold putLrow VecWindow.put
  by_cases hb : b' = b
  · subst hb
    rw [if_pos rfl, dif_pos ?_]
    · refine congrArg w (funext fun a => Fin.ext ?_)
      match a with
      | ⟨0, _⟩ => rfl
      | ⟨1, _⟩ => show b'.val - b'.val = 0; omega
      | ⟨2, _⟩ => rfl
      | ⟨3, _⟩ => show r.val - 0 = r.val; omega
    · intro a
      match a with
      | ⟨0, _⟩ => show 0 ≤ 0 ∧ 0 < 0 + 1; omega
      | ⟨1, _⟩ => show b'.val ≤ b'.val ∧ b'.val < b'.val + 1; omega
      | ⟨2, _⟩ => show 0 ≤ 0 ∧ 0 < 0 + 1; omega
      | ⟨3, _⟩ => show 0 ≤ r.val ∧ r.val < 0 + 1024; omega
  · rw [if_neg hb, dif_neg ?_]
    intro h
    have h0 : b.val ≤ b'.val ∧ b'.val < b.val + 1 := h 1
    exact hb (Fin.ext (by omega))

/-! ## What the blocks hold -/

/-- The head of a point as a lane of the 128. -/
def laneOf (i : grid0.Coords) : Fin 128 := ⟨(i 0).val, lt_trans (show (i 0).val < 16 from (i 0).isLt) (by decide)⟩

/-- The blocks a point reads are the numbers of `H`. -/
structure Holds (i : grid0.Coords) (X : Ins Ideal) (H : Head) : Prop where
  q : ∀ t x, X.q (ix2 t x) = (H.q t x : EReal)
  d : ∀ t x, X.d (ix2 t x) = (H.d t x : EReal)
  k : ∀ s x, X.k (ix2 s x) = (H.k (pos (jOf i) s) x : EReal)
  v : ∀ s x, X.v (ix2 s x) = (H.v (pos (jOf i) s) x : EReal)
  ck : ∀ s, X.ck (ix2 s (laneOf i)) = (H.c (pos (jOf i) s) : EReal)
  cr : ∀ b r, X.cr (ix4 0 b 0 r) = (H.c (pos b r) : EReal)
  l2 : ∀ b r, X.l2 (ix4 0 b 0 r) = (H.l2 (pos b r) : EReal)
  dl : ∀ b r, X.dl (ix4 0 b 0 r) = (H.dl (pos b r) : EReal)

variable {i : grid0.Coords} {X : Ins Ideal} {H : Head}

/-- The lane picked from the gate's sums is the head's. -/
theorem pay29_real (h : Holds i X H) (s : Fin 1024) : k0_pay29 (F := Ideal) i X.ck (ix2 s 0) = (H.c (pos (jOf i) s) : EReal) := by
  have hi : (i 0).val < 16 := (i 0).isLt
  pointwise [k0_pay29]
  rw [Finset.sum_eq_single (laneOf i)]
  · rw [WordCmp.cmpi_eq_ofNat (by omega) (by omega), Scalar.select_decide, if_pos (show (laneOf i).val = (i 0).val from rfl)]
    exact h.ck s
  · intro x _ hx
    rw [WordCmp.cmpi_eq_ofNat (by omega) (by omega), Scalar.select_decide, if_neg]
    exact fun e => hx (Fin.ext e)
  · intro hx; exact absurd (Finset.mem_univ _) hx

/-- The weights of a query block after the diagonal. -/
theorem pay17_real (h : Holds i X H) {b : Fin 8} (hb : jOf i < b) (s r : Fin 1024) :
    k0_pay17 (F := Ideal) (k0_pay29 i X.ck) (k0_pay30 X.k) (rows b X.q) (lrow b X.cr) (lrow b X.l2) (ix2 s r)
      = (H.P (pos (jOf i) s) (pos b r) : EReal) := by
  pointwise [k0_pay17, k0_pay15, k0_pay30]
  rw [pay29_real h s]
  simp only [rows_apply, lrow_apply, h.q, h.k, h.cr, h.l2, ← EReal.coe_mul, sum_coe, ← EReal.coe_sub]
  rw [Head.P, if_pos (pos_le_of_lt hb s r), first_pos]
  rfl

/-- The logits' gradients of a query block after the diagonal. -/
theorem dsAt_real (h : Holds i X H) {b : Fin 8} (hb : jOf i < b) (s r : Fin 1024) :
    dsAt i X b (ix2 s r) = (H.DS (pos (jOf i) s) (pos b r) : EReal) := by
  unfold dsAt
  pointwise [k0_pay19, k0_pay16, k0_pay31]
  rw [pay17_real h hb s r]
  simp only [rows_apply, lrow_apply, h.v, h.d, h.dl, ← EReal.coe_mul, sum_coe, ← EReal.coe_sub]
  rfl

/-- The logits of the block on the diagonal, before the normaliser. -/
theorem pay39_real (h : Holds i X H) (b : Fin 8) (s r : Fin 1024) :
    k0_pay39 (F := Ideal) i X.ck X.k (rows b X.q) (lrow b X.cr) (ix2 s r)
      = ((∑ x, H.k (pos (jOf i) s) x * H.q (pos b r) x - (H.c (pos (jOf i) s) - H.c (pos b 0)) : ℝ) : EReal) := by
  pointwise [k0_pay39, k0_pay37, k0_pay30]
  rw [pay29_real h s]
  simp only [rows_apply, lrow_apply, h.q, h.k, h.cr, ← EReal.coe_mul, sum_coe, ← EReal.coe_sub]

/-- The weights of the block on the diagonal. -/
theorem pay40_real (h : Holds i X H) (s r : Fin 1024) :
    k0_pay40 (F := Ideal) (k0_pay39 i X.ck X.k (rows (jOf i) X.q) (lrow (jOf i) X.cr)) (lrow (jOf i) X.l2) (ix2 s r)
      = (H.P (pos (jOf i) s) (pos (jOf i) r) : EReal) := by
  pointwise [k0_pay40]
  rw [pay39_real h (jOf i) s r, WordCmp.cmpi_sle_ofNat (by omega) (by omega), Scalar.select_decide, Head.P, first_pos, lrow_apply, h.l2, ← EReal.coe_sub]
  by_cases hsr : s.val ≤ r.val
  · rw [if_pos hsr, if_pos ((pos_le_same _ s r).mpr hsr)]; rfl
  · rw [if_neg hsr, if_neg (fun h' => hsr ((pos_le_same _ s r).mp h'))]; rfl

/-- The logits' gradients of the block on the diagonal. -/
theorem pay42_real (h : Holds i X H) (s r : Fin 1024) :
    k0_pay42 (F := Ideal) (k0_pay31 X.v) (k0_pay38 (rows (jOf i) X.d)) (k0_pay39 i X.ck X.k (rows (jOf i) X.q) (lrow (jOf i) X.cr))
        (lrow (jOf i) X.l2) (lrow (jOf i) X.dl) (ix2 s r)
      = (H.DS (pos (jOf i) s) (pos (jOf i) r) : EReal) := by
  pointwise [k0_pay42, k0_pay31, k0_pay38]
  rw [pay40_real h s r]
  simp only [rows_apply, lrow_apply, h.v, h.d, h.dl, ← EReal.coe_mul, sum_coe, ← EReal.coe_sub]
  rfl

end Cert.KernelIdeal.Body

end
-- ==== Proof.Fold.lean ====
module

public import proofs.«01_k».proof.Proof.Pay

@[expose] public section

set_option maxRecDepth 16384

/-!
# One grid point over the reals

`Carried i H n s`: after the query blocks up to `n` the state `s` of a point holds, coerced, the partial sums of the
five gradients. It holds after the diagonal block, and each further query block extends it; so `endSt_real` gives what
a point leaves.
-/

noncomputable section

namespace Cert.KernelIdeal.Body

open Idealize.ShloMosaic Idealize.ShloMosaic.TcCoe Idealize.SL.Sem
open Cert.KernelIdeal Cert.KernelIdeal.Gen
open Cert.Fox

/-! ## The terms of a key block `j` against a query block `b` -/

def dkT (H : Head) (j : Fin 8) (s : Fin 1024) (x : Fin 128) (b : Fin 8) : ℝ := ∑ r, H.DS (pos j s) (pos b r) * H.q (pos b r) x
def dvT (H : Head) (j : Fin 8) (s : Fin 1024) (x : Fin 128) (b : Fin 8) : ℝ := ∑ r, H.P (pos j s) (pos b r) * H.d (pos b r) x
def dcT (H : Head) (j : Fin 8) (s : Fin 1024) (b : Fin 8) : ℝ := ∑ r, H.DS (pos j s) (pos b r)
def dcqT (H : Head) (b : Fin 8) (r : Fin 1024) (j : Fin 8) : ℝ := ∑ s, H.DS (pos j s) (pos b r)
def dqT (H : Head) (b : Fin 8) (r : Fin 1024) (x : Fin 128) (j : Fin 8) : ℝ := ∑ s, H.DS (pos j s) (pos b r) * H.k (pos j s) x

variable {i : grid0.Coords} {X : Ins Ideal} {H : Head}

theorem dkT_zero {j b : Fin 8} (h : b < j) (s : Fin 1024) (x : Fin 128) : dkT H j s x b = 0 :=
  Finset.sum_eq_zero fun r _ => by rw [H.DS_eq_zero h, zero_mul]
theorem dvT_zero {j b : Fin 8} (h : b < j) (s : Fin 1024) (x : Fin 128) : dvT H j s x b = 0 :=
  Finset.sum_eq_zero fun r _ => by rw [H.P_eq_zero h, zero_mul]
theorem dcT_zero {j b : Fin 8} (h : b < j) (s : Fin 1024) : dcT H j s b = 0 :=
  Finset.sum_eq_zero fun r _ => H.DS_eq_zero h s r
theorem dcqT_zero {j b : Fin 8} (h : b < j) (r : Fin 1024) : dcqT H b r j = 0 :=
  Finset.sum_eq_zero fun s _ => H.DS_eq_zero h s r
theorem dqT_zero {j b : Fin 8} (h : b < j) (r : Fin 1024) (x : Fin 128) : dqT H b r x j = 0 :=
  Finset.sum_eq_zero fun s _ => by rw [H.DS_eq_zero h, zero_mul]

/-- The partial sums after the query blocks up to `n`. -/
structure Carried (i : grid0.Coords) (H : Head) (n : ℕ) (s : St Ideal) : Prop where
  dk : ∀ r x, s.c.1 (ix2 r x) = ((upTo n (dkT H (jOf i) r x) : ℝ) : EReal)
  dv : ∀ r x, s.c.2.1 (ix2 r x) = ((upTo n (dvT H (jOf i) r x) : ℝ) : EReal)
  dc : ∀ r, s.c.2.2 (ix2 r 0) = ((-upTo n (dcT H (jOf i) r) : ℝ) : EReal)
  dcq : ∀ b r, s.dcq (ix4 0 b 0 r) = ((before (jOf i).val (dcqT H b r) + (if b.val ≤ n then dcqT H b r (jOf i) else 0) : ℝ) : EReal)
  dq : ∀ b r x, s.dq (ix2 (pos b r) x) = ((before (jOf i).val (dqT H b r x) + (if b.val ≤ n then dqT H b r x (jOf i) else 0) : ℝ) : EReal)

/-- The diagonal block, from accumulators holding the sums of the earlier key blocks. -/
theorem diag_real (h : Holds i X H) {dcq : S1x8x1x1024.Idx → Elt Ideal .f32} {dq : S8192x128.Idx → Elt Ideal .f32}
    (hdcq : ∀ b r, dcq (ix4 0 b 0 r) = ((before (jOf i).val (dcqT H b r) : ℝ) : EReal))
    (hdq : ∀ b r x, dq (ix2 (pos b r) x) = ((before (jOf i).val (dqT H b r x) : ℝ) : EReal)) :
    Carried i H (jOf i).val (diagSt i X dcq dq (jOf i)) where
  dk r x := by
    rw [upTo_first _ _ fun b hb => dkT_zero hb r x]
    dsimp only [diagSt]
    pointwise [k0_pay46, k0_pay45, k0_pay34, k0_pay37]
    simp only [pay42_real h, rows_apply, h.q, ← EReal.coe_mul, sum_coe]
    rfl
  dv r x := by
    rw [upTo_first _ _ fun b hb => dvT_zero hb r x]
    dsimp only [diagSt]
    pointwise [k0_pay41, k0_pay35, k0_pay38]
    simp only [pay40_real h, rows_apply, h.d, ← EReal.coe_mul, sum_coe]
    rfl
  dc r := by
    rw [upTo_first _ _ fun b hb => dcT_zero hb r]
    dsimp only [diagSt]
    pointwise [k0_pay43, k0_pay36]
    simp only [pay42_real h, sum_coe, EReal.coe_neg]
    exact zero_sub _
  dcq b r := by
    dsimp only [diagSt]
    rw [putLrow_apply, hdcq]
    by_cases hb : b = jOf i
    · subst hb
      rw [if_pos rfl, if_pos (le_refl _)]
      pointwise [k0_pay44]
      simp only [pay42_real h, lrow_apply, hdcq, sum_coe, ← EReal.coe_add]
      rfl
    · rw [if_neg hb]
      by_cases hle : b.val ≤ (jOf i).val
      · rw [if_pos hle, dcqT_zero (lt_of_le_of_ne hle hb), add_zero]
      · rw [if_neg hle, add_zero]
  dq b r x := by
    dsimp only [diagSt]
    rw [putRows_apply, hdq]
    by_cases hb : b = jOf i
    · subst hb
      rw [if_pos rfl, if_pos (le_refl _)]
      pointwise [k0_pay1, k0_pay47, k0_pay45, k0_pay30]
      simp only [pay42_real h, rows_apply, hdq, h.k, ← EReal.coe_mul, sum_coe, ← EReal.coe_add]
      rfl
    · rw [if_neg hb]
      by_cases hle : b.val ≤ (jOf i).val
      · rw [if_pos hle, dqT_zero (lt_of_le_of_ne hle hb), add_zero]
      · rw [if_neg hle, add_zero]

/-- One more query block. -/
theorem loop_real (h : Holds i X H) {n : ℕ} (hn : n + 1 < 8) (hj : (jOf i).val ≤ n) {s : St Ideal} (hs : Carried i H n s) :
    Carried i H (n + 1) (loopStep i X ⟨n + 1, hn⟩ s) where
  dk r x := by
    have hb : jOf i < ⟨n + 1, hn⟩ := Nat.lt_succ_of_le hj
    rw [upTo_succ _ n hn, EReal.coe_add, ← hs.dk]
    dsimp only [loopStep]
    pointwise [k0_pay4, k0_pay3, k0_pay15]
    simp only [dsAt_real h hb, rows_apply, h.q, ← EReal.coe_mul, sum_coe]
    rfl
  dv r x := by
    have hb : jOf i < ⟨n + 1, hn⟩ := Nat.lt_succ_of_le hj
    rw [upTo_succ _ n hn, EReal.coe_add, ← hs.dv]
    dsimp only [loopStep]
    pointwise [k0_pay18, k0_pay16]
    simp only [pay17_real h hb, rows_apply, h.d, ← EReal.coe_mul, sum_coe]
    rfl
  dc r := by
    have hb : jOf i < ⟨n + 1, hn⟩ := Nat.lt_succ_of_le hj
    rw [upTo_succ _ n hn, neg_add, ← sub_eq_add_neg, EReal.coe_sub, ← hs.dc]
    dsimp only [loopStep]
    pointwise [k0_pay20]
    have e : ∀ x, k0_pay19 (F := Ideal) (k0_pay29 i X.ck) (k0_pay30 X.k) (k0_pay31 X.v) (rows ⟨n + 1, hn⟩ X.q) (rows ⟨n + 1, hn⟩ X.d)
        (lrow ⟨n + 1, hn⟩ X.cr) (lrow ⟨n + 1, hn⟩ X.l2) (lrow ⟨n + 1, hn⟩ X.dl) (ix2 r x) = (H.DS (pos (jOf i) r) (pos ⟨n + 1, hn⟩ x) : EReal) :=
      fun x => dsAt_real h hb r x
    simp only [e, sum_coe]
    rfl
  dcq b r := by
    have hb : jOf i < ⟨n + 1, hn⟩ := Nat.lt_succ_of_le hj
    dsimp only [loopStep]
    rw [putLrow_apply]
    by_cases he : b = ⟨n + 1, hn⟩
    · subst he
      have h0 := hs.dcq ⟨n + 1, hn⟩ r
      rw [if_neg (Nat.not_succ_le_self n), add_zero] at h0
      rw [if_pos rfl, if_pos (le_refl _)]
      pointwise [k0_pay2, k0_pay21]
      simp only [dsAt_real h hb, lrow_apply, h0, sum_coe, ← EReal.coe_add]
      rfl
    · rw [if_neg he, hs.dcq]
      have hne : b.val ≠ n + 1 := fun h' => he (Fin.ext h')
      by_cases hle : b.val ≤ n
      · rw [if_pos hle, if_pos (Nat.le_succ_of_le hle)]
      · rw [if_neg hle, if_neg (by omega)]
  dq b r x := by
    have hb : jOf i < ⟨n + 1, hn⟩ := Nat.lt_succ_of_le hj
    dsimp only [loopStep]
    rw [putRows_apply]
    by_cases he : b = ⟨n + 1, hn⟩
    · subst he
      have h0 := hs.dq ⟨n + 1, hn⟩ r x
      rw [if_neg (Nat.not_succ_le_self n), add_zero] at h0
      rw [if_pos rfl, if_pos (le_refl _)]
      pointwise [k0_pay5, k0_pay3, k0_pay30]
      simp only [dsAt_real h hb, rows_apply, h0, h.k, ← EReal.coe_mul, sum_coe, ← EReal.coe_add]
      rfl
    · rw [if_neg he, hs.dq]
      have hne : b.val ≠ n + 1 := fun h' => he (Fin.ext h')
      by_cases hle : b.val ≤ n
      · rw [if_pos hle, if_pos (Nat.le_succ_of_le hle)]
      · rw [if_neg hle, if_neg (by omega)]

/-- The query blocks one after another. -/
theorem loopSt_real (h : Holds i X H) {s : St Ideal} (hs : Carried i H (jOf i).val s) :
    ∀ n, (jOf i).val + n < 8 → Carried i H ((jOf i).val + n) (loopSt i X (i 1).val s n)
  | 0, _ => hs
  | n + 1, hn => by
    have ih := loopSt_real h hs n (by omega)
    have e : (i 1).val + 1 + n = (jOf i).val + n + 1 := by show (i 1).val + 1 + n = (i 1).val + n + 1; omega
    have hn' : (i 1).val + 1 + n < 8 := by omega
    show Carried i H _ (if h : (i 1).val + 1 + n < 8 then loopStep i X ⟨(i 1).val + 1 + n, h⟩ _ else _)
    rw [dif_pos hn']
    have := loop_real h (n := (jOf i).val + n) (by omega) (Nat.le_add_right _ _) ih
    simpa only [e, Nat.add_assoc] using this

/-- What a grid point leaves: all query blocks for its key block, and one more key block in the two accumulators. -/
structure Ended (i : grid0.Coords) (H : Head) (s : St Ideal) : Prop where
  dk : ∀ r x, s.c.1 (ix2 r x) = ((∑ b, dkT H (jOf i) r x b : ℝ) : EReal)
  dv : ∀ r x, s.c.2.1 (ix2 r x) = ((∑ b, dvT H (jOf i) r x b : ℝ) : EReal)
  dc : ∀ r, s.c.2.2 (ix2 r 0) = ((-∑ b, dcT H (jOf i) r b : ℝ) : EReal)
  dcq : ∀ b r, s.dcq (ix4 0 b 0 r) = ((before ((jOf i).val + 1) (dcqT H b r) : ℝ) : EReal)
  dq : ∀ b r x, s.dq (ix2 (pos b r) x) = ((before ((jOf i).val + 1) (dqT H b r x) : ℝ) : EReal)

theorem endSt_real (h : Holds i X H) {dcq : S1x8x1x1024.Idx → Elt Ideal .f32} {dq : S8192x128.Idx → Elt Ideal .f32}
    (hdcq : (i 1).val ≠ 0 → ∀ b r, dcq (ix4 0 b 0 r) = ((before (jOf i).val (dcqT H b r) : ℝ) : EReal))
    (hdq : (i 1).val ≠ 0 → ∀ b r x, dq (ix2 (pos b r) x) = ((before (jOf i).val (dqT H b r x) : ℝ) : EReal)) :
    Ended i H (endSt i X dcq dq) := by
  have hj : (i 1).val < 8 := (i 1).isLt
  have h1 : ∀ b r, (if (i 1).val = 0 then k0_pay33 (F := Ideal) else dcq) (ix4 0 b 0 r) = ((before (jOf i).val (dcqT H b r) : ℝ) : EReal) := by
    intro b r
    by_cases h0 : (i 1).val = 0
    · rw [if_pos h0, show (jOf i).val = 0 from h0, before_zero]
      pointwise [k0_pay33]
      rfl
    · rw [if_neg h0]; exact hdcq h0 b r
  have h2 : ∀ b r x, (if (i 1).val = 0 then k0_pay32 (F := Ideal) else dq) (ix2 (pos b r) x) = ((before (jOf i).val (dqT H b r x) : ℝ) : EReal) := by
    intro b r x
    by_cases h0 : (i 1).val = 0
    · rw [if_pos h0, show (jOf i).val = 0 from h0, before_zero]
      pointwise [k0_pay32]
      rfl
    · rw [if_neg h0]; exact hdq h0 b r x
  have e7 : (jOf i).val + (7 - (i 1).val) = 7 := by show (i 1).val + (7 - (i 1).val) = 7; omega
  have hC := loopSt_real h (diag_real h h1 h2) (7 - (i 1).val) (by omega)
  rw [e7] at hC
  exact {
    dk := fun r x => by rw [← upTo_seven]; exact hC.dk r x
    dv := fun r x => by rw [← upTo_seven]; exact hC.dv r x
    dc := fun r => by rw [← upTo_seven]; exact hC.dc r
    dcq := fun b r => by rw [before_succ]; exact (hC.dcq b r).trans (by rw [if_pos (by omega)])
    dq := fun b r x => by rw [before_succ]; exact (hC.dq b r x).trans (by rw [if_pos (by omega)]) }

end Cert.KernelIdeal.Body

end
-- ==== Proof.Blocks.lean ====
module

public import proofs.«01_k».proof.Proof.Run
public import proofs.«01_k».proof.Proof.Fold
public import proofs.«01_k».proof.Proof.Operands
public import Idealize.ShloMosaic.Lib.Pipeline.ValueKit

@[expose] public section

set_option maxRecDepth 16384

/-!
# The blocks of a grid point over the reals

Point `t` works on head `t / 8` and key block `t % 8`; the blocks it reads hold that head's numbers, so what it leaves
is what the real formulas say.
-/

noncomputable section

namespace Cert.KernelIdeal.Body

open Idealize.ShloMosaic Idealize.ShloMosaic.TcCoe Idealize.SL.Sem
open Cert.KernelIdeal Cert.KernelIdeal.Gen
open Cert.Fox
open Cert.ReferenceIdeal.Stage (Reals)

theorem idx : ∀ t : Fin cfg0.N, win0_0.index t = ![0, t.val / 8] ∧ win0_1.index t = ![0, t.val / 8] ∧ win0_2.index t = ![t.val % 8, t.val / 8]
    ∧ win0_3.index t = ![t.val % 8, 16 + t.val / 8] ∧ win0_4.index t = ![t.val % 8, 0] ∧ win0_5.index t = ![t.val / 8, 0, 0, 0]
    ∧ win0_6.index t = ![t.val / 8, 0, 0, 0] ∧ win0_7.index t = ![t.val / 8, 0, 0, 0] ∧ win0_8.index t = ![0, t.val / 8]
    ∧ win0_9.index t = ![t.val % 8, t.val / 8] ∧ win0_10.index t = ![t.val % 8, t.val / 8] ∧ win0_11.index t = ![0, 0]
    ∧ win0_12.index t = ![t.val / 8, 0, 0, 0] := (by decide +kernel : ∀ t : Fin grid0.N, _)

/-- The head and the key block of a point. -/
def hOf (t : Fin cfg0.N) : Fin 16 := ⟨t.val / 8, Nat.div_lt_of_lt_mul t.isLt⟩
def kOf (t : Fin cfg0.N) : Fin 8 := ⟨t.val % 8, Nat.mod_lt _ (by decide)⟩

theorem jOf_eq (t : Fin cfg0.N) : jOf (grid0.coords t) = kOf t := Fin.ext (coords1 t)
theorem laneOf_val (t : Fin cfg0.N) : (laneOf (grid0.coords t)).val = (hOf t).val := coords0 t

section
variable {F : FTy → Type} [FloatOps F] [Named F] (m : (ℓ : Loc nD τ sig) → Buf (Elt F) ℓ) (c : Dev nD)

/-- The columns of keys and of values in the array that holds both. -/
def keyCol (h : Fin 16) (x : Fin 128) : Fin 4096 := ⟨h.val * 128 + x.val, by omega⟩
def valCol (h : Fin 16) (x : Fin 128) : Fin 4096 := ⟨2048 + (h.val * 128 + x.val), by omega⟩

theorem blk_q (t : Fin cfg0.N) (s : Fin 8192) (x : Fin 128) : iblk m c 0 t (ix2 s x) = V m c main_v62 (ix2 s (colOf (hOf t) x)) := by
  blk_ext [iblk, idx t, colOf, hOf]
theorem blk_d (t : Fin cfg0.N) (s : Fin 8192) (x : Fin 128) : iblk m c 1 t (ix2 s x) = V m c main_v65 (ix2 s (colOf (hOf t) x)) := by
  blk_ext [iblk, idx t, colOf, hOf]
theorem blk_k (t : Fin cfg0.N) (s : Fin 1024) (x : Fin 128) : iblk m c 2 t (ix2 s x) = V m c main_v64 (ix2 (pos (kOf t) s) (keyCol (hOf t) x)) := by
  blk_ext [iblk, idx t, pos, kOf, keyCol, hOf]
theorem blk_v (t : Fin cfg0.N) (s : Fin 1024) (x : Fin 128) : iblk m c 3 t (ix2 s x) = V m c main_v64 (ix2 (pos (kOf t) s) (valCol (hOf t) x)) := by
  blk_ext [iblk, idx t, pos, kOf, valCol, hOf]
theorem blk_ck (t : Fin cfg0.N) (s : Fin 1024) (x : Fin 128) : iblk m c 4 t (ix2 s x) = V m c main_v55 (ix2 (pos (kOf t) s) x) := by
  blk_ext [iblk, idx t, pos, kOf]
theorem blk_cr (t : Fin cfg0.N) (b : Fin 8) (r : Fin 1024) : iblk m c 5 t (ix4 0 b 0 r) = V m c main_v58 (ix4 (hOf t) b 0 r) := by
  blk_ext [iblk, idx t, hOf]
theorem blk_l2 (t : Fin cfg0.N) (b : Fin 8) (r : Fin 1024) : iblk m c 6 t (ix4 0 b 0 r) = V m c main_v51 (ix4 (hOf t) b 0 r) := by
  blk_ext [iblk, idx t, hOf]
theorem blk_dl (t : Fin cfg0.N) (b : Fin 8) (r : Fin 1024) : iblk m c 7 t (ix4 0 b 0 r) = V m c main_v52 (ix4 (hOf t) b 0 r) := by
  blk_ext [iblk, idx t, hOf]
end

variable {m : (ℓ : Loc nD τ sig) → Buf (Elt Ideal) ℓ} {c : Dev nD} {D : Data}

/-- The arguments of a device are the real numbers of `D`. -/
abbrev ArgsReal (m : (ℓ : Loc nD τ sig) → Buf (Elt Ideal) ℓ) (c : Dev nD) (D : Data) : Prop :=
  Reals D (Entry.A0 m c) (Entry.A1 m c) (Entry.A2 m c) (Entry.A3 m c) (Entry.A4 m c)

theorem ins_q (R : ArgsReal m c D) (t : Fin cfg0.N) (s : Fin 8192) (x : Fin 128) : (insAt m c t).q (ix2 s x) = ((D.head (hOf t)).q s x : EReal) :=
  (blk_q m c t s x).trans ((congrFun (Entry.V62 m c) _).trans (Entry.q2_real R _ s x))
theorem ins_d (R : ArgsReal m c D) (t : Fin cfg0.N) (s : Fin 8192) (x : Fin 128) : (insAt m c t).d (ix2 s x) = ((D.head (hOf t)).d s x : EReal) :=
  (blk_d m c t s x).trans ((congrFun (Entry.V65 m c) _).trans (R.d s _))
theorem ins_k (R : ArgsReal m c D) (t : Fin cfg0.N) (s : Fin 1024) (x : Fin 128) : (insAt m c t).k (ix2 s x) = ((D.head (hOf t)).k (pos (kOf t) s) x : EReal) :=
  (blk_k m c t s x).trans ((congrFun (Entry.V64 m c) _).trans (Entry.kv_key R _ (colOf (hOf t) x) _ rfl))
theorem ins_v (R : ArgsReal m c D) (t : Fin cfg0.N) (s : Fin 1024) (x : Fin 128) : (insAt m c t).v (ix2 s x) = ((D.head (hOf t)).v (pos (kOf t) s) x : EReal) :=
  (blk_v m c t s x).trans ((congrFun (Entry.V64 m c) _).trans (Entry.kv_val R _ (colOf (hOf t) x) _ rfl))
theorem ins_ck (R : ArgsReal m c D) (t : Fin cfg0.N) (s : Fin 1024) : (insAt m c t).ck (ix2 s (laneOf (grid0.coords t))) = ((D.head (hOf t)).c (pos (kOf t) s) : EReal) :=
  (blk_ck m c t s _).trans ((congrFun (Entry.V55 m c) _).trans (Entry.cKey_real R _ (hOf t) _ (laneOf_val t)))
theorem ins_cr (R : ArgsReal m c D) (t : Fin cfg0.N) (b : Fin 8) (r : Fin 1024) : (insAt m c t).cr (ix4 0 b 0 r) = ((D.head (hOf t)).c (pos b r) : EReal) :=
  (blk_cr m c t b r).trans ((congrFun (Entry.V58 m c) _).trans (Entry.cRow_real R _ b r))
theorem ins_l2 (R : ArgsReal m c D) (t : Fin cfg0.N) (b : Fin 8) (r : Fin 1024) : (insAt m c t).l2 (ix4 0 b 0 r) = ((D.head (hOf t)).l2 (pos b r) : EReal) :=
  (blk_l2 m c t b r).trans ((congrFun (Entry.V51 m c) _).trans (Entry.norm2Row_real R _ b r))
theorem ins_dl (R : ArgsReal m c D) (t : Fin cfg0.N) (b : Fin 8) (r : Fin 1024) : (insAt m c t).dl (ix4 0 b 0 r) = ((D.head (hOf t)).dl (pos b r) : EReal) :=
  (blk_dl m c t b r).trans ((congrFun (Entry.V52 m c) _).trans (Entry.deltaRow_real R _ b r))

theorem holds (R : ArgsReal m c D) (t : Fin cfg0.N) : Holds (grid0.coords t) (insAt m c t) (D.head (hOf t)) where
  q := ins_q R t
  d := ins_d R t
  k s x := by rw [jOf_eq]; exact ins_k R t s x
  v s x := by rw [jOf_eq]; exact ins_v R t s x
  ck s := by rw [jOf_eq]; exact ins_ck R t s
  cr := ins_cr R t
  l2 := ins_l2 R t
  dl := ins_dl R t

/-- What a point leaves is what the formulas of its head say. -/
theorem ended (R : ArgsReal m c D) : ∀ (n : ℕ) (hn : n < cfg0.N), Ended (grid0.coords ⟨n, hn⟩) (D.head (hOf ⟨n, hn⟩)) (stAt m c n hn)
  | 0, hn => endSt_real (holds R ⟨0, hn⟩) (fun h => absurd (coords1 ⟨0, hn⟩) h) (fun h => absurd (coords1 ⟨0, hn⟩) h)
  | n + 1, hn => by
    have ih := ended R n (Nat.lt_of_succ_lt hn)
    have key : (grid0.coords ⟨n + 1, hn⟩ 1).val ≠ 0 →
        hOf ⟨n, Nat.lt_of_succ_lt hn⟩ = hOf ⟨n + 1, hn⟩ ∧ (jOf (grid0.coords ⟨n, Nat.lt_of_succ_lt hn⟩)).val + 1 = (jOf (grid0.coords ⟨n + 1, hn⟩)).val := fun h => by
      rw [coords1] at h
      have h' : (n + 1) % 8 ≠ 0 := h
      rw [jOf_eq, jOf_eq]
      exact ⟨Fin.ext (by show n / 8 = (n + 1) / 8; omega), by show n % 8 + 1 = (n + 1) % 8; omega⟩
    refine endSt_real (holds R ⟨n + 1, hn⟩) (fun h b r => ?_) (fun h b r x => ?_)
    · obtain ⟨e1, e2⟩ := key h
      rw [← e1, ← e2]; exact ih.dcq b r
    · obtain ⟨e1, e2⟩ := key h
      rw [← e1, ← e2]; exact ih.dq b r x

end Cert.KernelIdeal.Body

end
-- ==== Proof.Outs.lean ====
module

public import proofs.«01_k».proof.Proof.Real

@[expose] public section

set_option maxRecDepth 16384

/-!
# The reference's results over the reals
-/

noncomputable section

namespace Cert.ReferenceIdeal.Stage

open Idealize.ShloMosaic Idealize.ShloMosaic.TcCoe Idealize.SL.Sem
open Cert.ReferenceIdeal Cert.ReferenceIdeal.Gen
open Cert.Fox

/-- The head of a column, and its place there. -/
def hd (x : Fin 2048) : Fin 16 := ⟨x.val / 128, by omega⟩
def ln (x : Fin 2048) : Fin 128 := ⟨x.val % 128, by omega⟩
theorem colOf_hd_ln (x : Fin 2048) : colOf (hd x) (ln x) = x :=
  Fin.ext (by show x.val / 128 * 128 + x.val % 128 = x.val; omega)

section
variable (q k v : FVec Ideal S8192x2048 .f32) (c : FVec Ideal S8192x16 .f32) (d : FVec Ideal S8192x2048 .f32)

theorem outDq_apply (t : Fin 8192) (x : Fin 2048) : outDq q k v c d (ix2 t x)
    = ∑ s, DS q k v c d (ix3 (hd x) t s) * Ideal.ofBits .f32 1035273459#32 * heads k (ix3 (hd x) s (ln x)) := by
  unfold outDq
  generalize DS q k v c d = a
  generalize heads k = b
  pointwise [scaled, unheads]; rfl

theorem outDk_apply (s : Fin 8192) (x : Fin 2048) : outDk q k v c d (ix2 s x)
    = ∑ t, DS q k v c d (ix3 (hd x) t s) * Ideal.ofBits .f32 1035273459#32 * heads q (ix3 (hd x) t (ln x)) := by
  unfold outDk
  generalize DS q k v c d = a
  generalize heads q = b
  pointwise [scaled, unheads]; rfl

theorem outDv_apply (s : Fin 8192) (x : Fin 2048) : outDv q k c d (ix2 s x)
    = ∑ t, heads d (ix3 (hd x) t (ln x)) * Ideal.div (E q k c (ix3 (hd x) t s)) (sumK (E q k c) (ix2 (hd x) t)) := by
  unfold outDv
  generalize E q k c = a
  generalize sumK a = l
  generalize heads d = b
  pointwise [unheads, spread, col]; rfl

theorem outDck_apply (s : Fin 8192) (x : Fin 128) : outDck q k v c d (ix2 s x)
    = if h : x.val < 16 then ∑ t, -DS q k v c d (ix3 ⟨x.val, h⟩ t s) else 0 := by
  unfold outDck
  generalize DS q k v c d = a
  pointwise []
  simp only [Finset.univ_unique, Finset.sum_singleton]
  refine dite_congr rfl (fun _ => rfl) (fun _ => ?_)
  show ((((0#32 : BitVec 32).toInt : ℝ)) : EReal) = 0
  simp

theorem outDcq_apply (h : Fin 16) (b : Fin 8) (r : Fin 1024) : outDcq q k v c d (ix4 h b 0 r) = sumK (DS q k v c d) (ix2 h (pos b r)) := by
  unfold outDcq
  generalize sumK (DS q k v c d) = a
  pointwise []
  simp only [Finset.univ_unique, Finset.sum_singleton]
  refine congrArg a (congrArg (ix2 h) (Fin.ext ?_))
  show b.val * 1024 + r.val = 1024 * b.val + r.val
  omega
end

variable {D : Data} {q k v d : FVec Ideal S8192x2048 .f32} {c : FVec Ideal S8192x16 .f32}

theorem outDq_real (R : Reals D q k v c d) (t : Fin 8192) (x : Fin 2048) :
    outDq q k v c d (ix2 t x) = (((∑ s, D.ds (hd x) t s * D.k s x) * D.σ : ℝ) : EReal) := by
  rw [outDq_apply]
  simp only [heads_apply, colOf_hd_ln, DS_real R, R.σ, R.k, ← EReal.coe_mul, sum_coe]
  refine congrArg _ ?_
  rw [Finset.sum_mul]
  exact Finset.sum_congr rfl fun s _ => mul_right_comm _ _ _

theorem outDk_real (R : Reals D q k v c d) (s : Fin 8192) (x : Fin 2048) :
    outDk q k v c d (ix2 s x) = ((∑ t, D.ds (hd x) t s * (D.q t x * D.σ) : ℝ) : EReal) := by
  rw [outDk_apply]
  simp only [heads_apply, colOf_hd_ln, DS_real R, R.σ, R.q, ← EReal.coe_mul, sum_coe]
  refine congrArg _ (Finset.sum_congr rfl fun t _ => ?_)
  rw [mul_assoc, mul_comm D.σ]

theorem outDv_real (R : Reals D q k v c d) (s : Fin 8192) (x : Fin 2048) :
    outDv q k c d (ix2 s x) = ((∑ t, D.wt (hd x) t s * D.d t x : ℝ) : EReal) := by
  obtain ⟨M, hM⟩ := top_real R
  have he : ∀ h t s, E q k c (ix3 h t s) = (D.ex h t (M h t) s : EReal) := exps_real R fun h t => (top'_eq _ h t).trans (hM h t)
  rw [outDv_apply]
  simp only [weight_real he, heads_apply, colOf_hd_ln, R.d, ← EReal.coe_mul, sum_coe]
  exact congrArg _ (Finset.sum_congr rfl fun t _ => mul_comm _ _)

theorem outDck_real (R : Reals D q k v c d) (s : Fin 8192) (x : Fin 128) :
    outDck q k v c d (ix2 s x) = if h : x.val < 16 then ((-∑ t, D.ds ⟨x.val, h⟩ t s : ℝ) : EReal) else 0 := by
  rw [outDck_apply]
  refine dite_congr rfl (fun _ => ?_) (fun _ => rfl)
  simp only [DS_real R, ← EReal.coe_neg, sum_coe, Finset.sum_neg_distrib]

theorem outDcq_real (R : Reals D q k v c d) (h : Fin 16) (b : Fin 8) (r : Fin 1024) :
    outDcq q k v c d (ix4 h b 0 r) = ((∑ s, D.ds h (pos b r) s : ℝ) : EReal) := by
  rw [outDcq_apply, sumK_real (DS_real R)]

end Cert.ReferenceIdeal.Stage

end
-- ==== Proof.Points.lean ====
module

public import proofs.«01_k».proof.Proof.Blocks
public import proofs.«01_k».proof.Proof.Outs

@[expose] public section

set_option maxRecDepth 16384

/-!
# What each point leaves, over the whole head

The sums over blocks of positions that a point leaves in its buffers are the sums over all positions that the
reference takes.
-/

noncomputable section

namespace Cert.KernelIdeal.Body

open Idealize.ShloMosaic Idealize.ShloMosaic.TcCoe Idealize.SL.Sem
open Cert.KernelIdeal Cert.KernelIdeal.Gen
open Cert.Fox
open Cert.ReferenceIdeal.Stage (Reals hd ln)

theorem hd_colOf (h : Fin 16) (x : Fin 128) : hd (colOf h x) = h :=
  Fin.ext (by show (h.val * 128 + x.val) / 128 = h.val; omega)

/-! ## The sums -/

section
variable (D : Data) (h : Fin 16)

theorem sum_dq (b : Fin 8) (r : Fin 1024) (x : Fin 128) :
    ∑ j, dqT (D.head h) b r x j = ∑ s, D.ds h (pos b r) s * D.k s (colOf h x) := by
  rw [sum_pos]
  refine Finset.sum_congr rfl fun j _ => Finset.sum_congr rfl fun s _ => ?_
  rw [D.head_DS]; rfl

theorem sum_dk (j : Fin 8) (s : Fin 1024) (x : Fin 128) :
    (∑ b, dkT (D.head h) j s x b) * Real.log 2 = ∑ t, D.ds h t (pos j s) * (D.q t (colOf h x) * D.σ) := by
  rw [sum_pos, Finset.sum_mul]
  refine Finset.sum_congr rfl fun b _ => ?_
  rw [dkT, Finset.sum_mul]
  refine Finset.sum_congr rfl fun r _ => ?_
  rw [D.head_DS]
  have hl := Data.log_two_ne
  show D.ds h (pos b r) (pos j s) * (D.q (pos b r) (colOf h x) * (D.σ * (1 * (1 / Real.log 2)))) * Real.log 2 = _
  field_simp

theorem sum_dv (j : Fin 8) (s : Fin 1024) (x : Fin 128) :
    ∑ b, dvT (D.head h) j s x b = ∑ t, D.wt h t (pos j s) * D.d t (colOf h x) := by
  rw [sum_pos]
  refine Finset.sum_congr rfl fun b _ => Finset.sum_congr rfl fun r _ => ?_
  rw [D.head_P]; rfl

theorem sum_dc (j : Fin 8) (s : Fin 1024) : ∑ b, dcT (D.head h) j s b = ∑ t, D.ds h t (pos j s) := by
  rw [sum_pos]
  exact Finset.sum_congr rfl fun b _ => Finset.sum_congr rfl fun r _ => D.head_DS h _ _

theorem sum_dcq (b : Fin 8) (r : Fin 1024) : ∑ j, dcqT (D.head h) b r j = ∑ s, D.ds h (pos b r) s := by
  rw [sum_pos]
  exact Finset.sum_congr rfl fun j _ => Finset.sum_congr rfl fun s _ => D.head_DS h _ _
end

/-! ## The points -/

variable {m : (ℓ : Loc nD τ sig) → Buf (Elt Ideal) ℓ} {c : Dev nD} {D : Data}

theorem pt_dq (R : ArgsReal m c D) (t : Fin cfg0.N) (ht : t.val % 8 = 7) (s : Fin 8192) (x : Fin 128) :
    k0_pay14 (F := Ideal) (stAt m c t.val t.isLt).dq (ix2 s x) = (((∑ s', D.ds (hOf t) s s' * D.k s' (colOf (hOf t) x)) * D.σ : ℝ) : EReal) := by
  have e := (ended R t.val t.isLt).dq (blk s) (off s) x
  rw [pos_blk_off, jOf_eq, show (kOf t).val + 1 = 8 from congrArg (· + 1) ht, before_eight, sum_dq, pos_blk_off] at e
  pointwise [k0_pay14]
  rw [R.σ, EReal.coe_mul, ← e]

theorem pt_dk (R : ArgsReal m c D) (t : Fin cfg0.N) (s : Fin 1024) (x : Fin 128) :
    k0_pay10 (F := Ideal) (stAt m c t.val t.isLt).c.1 (ix2 s x)
      = ((∑ t', D.ds (hOf t) t' (pos (kOf t) s) * (D.q t' (colOf (hOf t) x) * D.σ) : ℝ) : EReal) := by
  have e := (ended R t.val t.isLt).dk s x
  rw [jOf_eq] at e
  rw [← sum_dk, EReal.coe_mul, ← e]
  pointwise [k0_pay10]
  rfl

theorem pt_dv (R : ArgsReal m c D) (t : Fin cfg0.N) (s : Fin 1024) (x : Fin 128) :
    k0_pay11 (F := Ideal) (stAt m c t.val t.isLt).c.2.1 (ix2 s x)
      = ((∑ t', D.wt (hOf t) t' (pos (kOf t) s) * D.d t' (colOf (hOf t) x) : ℝ) : EReal) := by
  have e := (ended R t.val t.isLt).dv s x
  rw [jOf_eq] at e
  rw [← sum_dv, ← e]
  pointwise [k0_pay11]

theorem pt_dc (R : ArgsReal m c D) (t : Fin cfg0.N) (s : Fin 1024) :
    (stAt m c t.val t.isLt).c.2.2 (ix2 s 0) = ((-∑ t', D.ds (hOf t) t' (pos (kOf t) s) : ℝ) : EReal) := by
  have e := (ended R t.val t.isLt).dc s
  rw [jOf_eq, sum_dc] at e
  exact e

theorem pt_dcq (R : ArgsReal m c D) (t : Fin cfg0.N) (ht : t.val % 8 = 7) (b : Fin 8) (r : Fin 1024) :
    (stAt m c t.val t.isLt).dcq (ix4 0 b 0 r) = ((∑ s, D.ds (hOf t) (pos b r) s : ℝ) : EReal) := by
  have e := (ended R t.val t.isLt).dcq b r
  rw [jOf_eq, show (kOf t).val + 1 = 8 from congrArg (· + 1) ht, before_eight, sum_dcq] at e
  exact e

end Cert.KernelIdeal.Body

end
-- ==== Proof.Lanes.lean ====
module

public import proofs.«01_k».proof.Proof.Points

@[expose] public section

set_option maxRecDepth 16384

/-!
# The gate's gradient by key, lane by lane

One buffer serves every point: a point writes its head's lane into its key block's rows and keeps the other lanes. After
the last point lane `h` holds head `h`'s gradient and the lanes beyond the heads hold zero.
-/

noncomputable section

namespace Cert.KernelIdeal.Body

open Idealize.ShloMosaic Idealize.ShloMosaic.TcCoe Idealize.SL.Sem
open Cert.KernelIdeal Cert.KernelIdeal.Gen
open Cert.Fox
open Idealize.ShloMosaic.Pipeline (RDat)

/-- The array once the first `n` heads are in. -/
def lanes (D : Data) (n : ℕ) (s : Fin 8192) (x : Fin 128) : EReal :=
  if x.val < n then (if h : x.val < 16 then ((-∑ t, D.ds ⟨x.val, h⟩ t s : ℝ) : EReal) else 0) else 0

theorem lanes_succ (D : Data) (h : Fin 16) (s : Fin 8192) (x : Fin 128) :
    lanes D (h.val + 1) s x = if x.val = h.val then ((-∑ t, D.ds h t s : ℝ) : EReal) else lanes D h.val s x := by
  unfold lanes
  by_cases e : x.val = h.val
  · have e' : (⟨x.val, by omega⟩ : Fin 16) = h := Fin.ext e
    rw [if_pos (by omega), if_pos e, dif_pos (by omega), e']
  · rw [if_neg e]
    by_cases hl : x.val < h.val
    · rw [if_pos (by omega), if_pos hl]
    · rw [if_neg (by omega), if_neg hl]

/-- What a point finds: earlier key blocks with this head in, later ones with the heads before. -/
def Before (D : Data) (t : Fin cfg0.N) (Y : S8192x128.Idx → EReal) : Prop :=
  ∀ (b : Fin 8) (r : Fin 1024) (x : Fin 128), (b < kOf t → Y (ix2 (pos b r) x) = lanes D ((hOf t).val + 1) (pos b r) x)
    ∧ (kOf t ≤ b → (hOf t).val ≠ 0 → Y (ix2 (pos b r) x) = lanes D (hOf t).val (pos b r) x)

/-- What a point leaves. -/
def After (D : Data) (t : Fin cfg0.N) (Y : S8192x128.Idx → EReal) : Prop :=
  ∀ (b : Fin 8) (r : Fin 1024) (x : Fin 128), (b ≤ kOf t → Y (ix2 (pos b r) x) = lanes D ((hOf t).val + 1) (pos b r) x)
    ∧ (kOf t < b → (hOf t).val ≠ 0 → Y (ix2 (pos b r) x) = lanes D (hOf t).val (pos b r) x)

theorem pay12_apply (v : FVec Ideal S1024x1 .f32) (r : Fin 1024) (x : Fin 128) :
    k0_pay12 (F := Ideal) v (ix2 r x) = if x.val = 0 then v (ix2 r 0) else 0 := by
  pointwise [k0_pay12]
  rw [show (0#32 : BitVec 32) = BitVec.ofNat 32 0 from rfl, WordCmp.cmpi_eq_ofNat (by omega) (by omega), Scalar.select_decide]

theorem pay13_apply (h : ℕ) (hh : h < 16) (v : FVec Ideal S1024x1 .f32) (o : FVec Ideal S1024x128 .f32) (r : Fin 1024) (x : Fin 128) :
    k0_pay13 (F := Ideal) (BitVec.ofNat 32 h) v o (ix2 r x) = if x.val = h then v (ix2 r 0) else o (ix2 r x) := by
  pointwise [k0_pay13]
  rw [WordCmp.cmpi_eq_ofNat (by omega) (by omega), Scalar.select_decide]

variable {m : (ℓ : Loc nD τ sig) → Buf (Elt Ideal) ℓ} {c : Dev nD} {D : Data}

theorem after_of_before (R : ArgsReal m c D) (t : Fin cfg0.N) {Y : S8192x128.Idx → EReal} (hY : Before D t Y) :
    After D t (dckOf (F := Ideal) (grid0.coords t) (stAt m c t.val t.isLt).c.2.2 Y) := by
  intro b r x
  have hdc := pt_dc R t
  have hh : (grid0.coords t 0).val = (hOf t).val := coords0 t
  have hj : jOf (grid0.coords t) = kOf t := jOf_eq t
  generalize (stAt m c t.val t.isLt).c.2.2 = dc at hdc ⊢
  unfold dckOf
  rw [hh, hj]
  refine ⟨fun hb => ?_, fun hb h0 => ?_⟩
  · by_cases he : b = kOf t
    · subst he
      rw [lanes_succ]
      by_cases h0 : (hOf t).val = 0
      · rw [if_pos h0, putRows_apply, if_pos rfl, pay12_apply, hdc, h0]
        refine if_congr Iff.rfl rfl ?_
        unfold lanes; rw [if_neg (Nat.not_lt_zero _)]
      · rw [if_neg h0, putRows_apply, if_pos rfl, pay13_apply _ (hOf t).isLt, hdc, rows_apply, (hY (kOf t) r x).2 (le_refl _) h0]
    · have := (hY b r x).1 (lt_of_le_of_ne hb he)
      split <;> rw [putRows_apply, if_neg he] <;> exact this
  · have := (hY b r x).2 (le_of_lt hb) h0
    rw [if_neg h0, putRows_apply, if_neg (ne_of_gt hb)]
    exact this

/-- A point finds what the point before left. -/
theorem before_of_after (n : ℕ) (hn : n + 1 < cfg0.N) {Y : S8192x128.Idx → EReal} (hY : After D ⟨n, Nat.lt_of_succ_lt hn⟩ Y) :
    Before D ⟨n + 1, hn⟩ Y := by
  intro b r x
  obtain ⟨h1, h2⟩ := hY b r x
  have hb8 := b.isLt
  by_cases hj : (n + 1) % 8 = 0
  · have eh : (hOf ⟨n, Nat.lt_of_succ_lt hn⟩).val + 1 = (hOf ⟨n + 1, hn⟩).val := by show n / 8 + 1 = (n + 1) / 8; omega
    rw [eh] at h1
    refine ⟨fun hb => ?_, fun _ _ => h1 ?_⟩
    · have : b.val < (n + 1) % 8 := hb
      omega
    · show b.val ≤ n % 8; omega
  · have eh : hOf ⟨n, Nat.lt_of_succ_lt hn⟩ = hOf ⟨n + 1, hn⟩ := Fin.ext (by show n / 8 = (n + 1) / 8; omega)
    rw [eh] at h1 h2
    refine ⟨fun hb => h1 ?_, fun hb h0 => h2 ?_ h0⟩
    · have : b.val < (n + 1) % 8 := hb
      show b.val ≤ n % 8; omega
    · have : (n + 1) % 8 ≤ b.val := hb
      show n % 8 < b.val; omega

theorem before_zero' (h : 0 < cfg0.N) (Y : S8192x128.Idx → EReal) : Before D ⟨0, h⟩ Y :=
  fun _ _ _ => ⟨fun hb => absurd hb (Nat.not_lt_zero _), fun _ h0 => absurd (show (0 : ℕ) / 8 = 0 by decide) h0⟩

theorem leaves_11 (R : ArgsReal m c D) : ∀ (n : ℕ) (hn : n < cfg0.N) (X : S8192x128.Idx → EReal), (rdat m c).Leaves 11 ⟨n, hn⟩ X → After D ⟨n, hn⟩ X
  | 0, hn, X, ⟨Y, _, hX⟩ => by
    have hX' : X = dckOf (F := Ideal) (grid0.coords ⟨0, hn⟩) (stAt m c 0 hn).c.2.2 Y := hX
    rw [hX']
    exact after_of_before R ⟨0, hn⟩ (before_zero' hn Y)
  | n + 1, hn, X, ⟨Y, hY, hX⟩ => by
    have hX' : X = dckOf (F := Ideal) (grid0.coords ⟨n + 1, hn⟩) (stAt m c (n + 1) hn).c.2.2 Y := hX
    rw [hX']
    refine after_of_before R ⟨n + 1, hn⟩ (before_of_after n hn ?_)
    rcases ((rdat m c).finds_of_pos ((cfg0.win 11).fetch_out rfl ⟨n + 1, hn⟩) (Nat.succ_ne_zero n) Y).mp hY with hf | hL
    · have h1 := (flush0_11 _).mp hf
      have h2 : n % 128 = 127 := h1
      have h3 : n + 1 < 128 := hn
      omega
    · exact leaves_11 R n (Nat.lt_of_succ_lt hn) Y hL

/-- The last point leaves every lane. -/
theorem pt_dck (R : ArgsReal m c D) (t : Fin cfg0.N) (ht : t.val % 128 = 127) (X : S8192x128.Idx → EReal) (hX : (rdat m c).Leaves 11 t X)
    (s : Fin 8192) (x : Fin 128) : X (ix2 s x) = lanes D 16 s x := by
  have h128 : t.val < 128 := t.isLt
  have h := ((leaves_11 R t.val t.isLt X hX) (blk s) (off s) x).1 (by
    show (blk s).val ≤ t.val % 8
    have := (blk s).isLt
    omega)
  rw [pos_blk_off, show (hOf ⟨t.val, t.isLt⟩).val + 1 = 16 by show t.val / 8 + 1 = 16; omega] at h
  exact h

end Cert.KernelIdeal.Body

end
-- ==== Proof.Final.lean ====
module

public import proofs.«01_k».proof.Proof.Lanes
public import Idealize.ShloMosaic.Lib.Pipeline.ArrRel

@[expose] public section

set_option maxRecDepth 16384

/-!
# The result arrays after the run

Each of the five result arrays is the reference's result at the same arguments.
-/

noncomputable section

namespace Cert.KernelIdeal.Body

open Idealize.ShloMosaic Idealize.ShloMosaic.TcCoe Idealize.SL.Sem
open Cert.KernelIdeal Cert.KernelIdeal.Gen
open Cert.Fox
open Cert.ReferenceIdeal.Stage (Reals hd ln outDq outDk outDv outDck outDcq outDq_real outDk_real outDv_real outDck_real outDcq_real)
open Idealize.ShloMosaic.Pipeline (Dat RDat)

/-! ## Where a block's element lies in its array -/

theorem emb_8 (t : Fin cfg0.N) (s : Fin 8192) (x : Fin 128) : (((cfg0.win 8).blk t).view.emb (ix2 s x) : S8192x2048.Idx) = ix2 s (colOf (hOf t) x) := by
  blk_ext [idx t, colOf, hOf]
theorem emb_9 (t : Fin cfg0.N) (s : Fin 1024) (x : Fin 128) : (((cfg0.win 9).blk t).view.emb (ix2 s x) : S8192x2048.Idx) = ix2 (pos (kOf t) s) (colOf (hOf t) x) := by
  blk_ext [idx t, colOf, hOf, pos, kOf]
theorem emb_10 (t : Fin cfg0.N) (s : Fin 1024) (x : Fin 128) : (((cfg0.win 10).blk t).view.emb (ix2 s x) : S8192x2048.Idx) = ix2 (pos (kOf t) s) (colOf (hOf t) x) := by
  blk_ext [idx t, colOf, hOf, pos, kOf]
theorem emb_11 (t : Fin cfg0.N) (s : Fin 8192) (x : Fin 128) : (((cfg0.win 11).blk t).view.emb (ix2 s x) : S8192x128.Idx) = ix2 s x := by
  blk_ext [idx t]
theorem emb_12 (t : Fin cfg0.N) (b : Fin 8) (r : Fin 1024) : (((cfg0.win 12).blk t).view.emb (ix4 0 b 0 r) : S16x8x1x1024.Idx) = ix4 (hOf t) b 0 r := by
  blk_ext [idx t, hOf]

variable {m : (ℓ : Loc nD τ sig) → Buf (Elt Ideal) ℓ} {c : Dev nD} {D : Data}

section
variable (R : ArgsReal m c D)
  {after : (w : Fin cfg0.W) → Fin cfg0.N → (cfg0.win w).block.Idx → Elt Ideal (cfg0.win w).elt}
  (hL : ∀ (w : Fin cfg0.W) (u : Fin cfg0.N), (cfg0.win w).flush u = true → (rdat m c).Leaves w u (after w u))
include R hL

theorem at_8 (t : Fin cfg0.N) (hf : (cfg0.win 8).flush t = true) (y : S8192x128.Idx) :
    after 8 t y = outDq (Entry.A0 m c) (Entry.A1 m c) (Entry.A2 m c) (Entry.A3 m c) (Entry.A4 m c) (((cfg0.win 8).blk t).view.emb y) := by
  obtain ⟨Y, -, hX⟩ := hL 8 t hf
  have ht := (flush0_8 t).mp hf
  have hX' : after 8 t = if (grid0.coords t 1).val = 7 then k0_pay14 (F := Ideal) (stAt m c t.val t.isLt).dq else Y := hX
  rw [hX', if_pos ((coords1 t).trans ht)]
  idx_vars y
  rw [pt_dq R t ht]
  refine Eq.trans ?_ (congrArg _ (emb_8 t _ _)).symm
  rw [outDq_real R, hd_colOf]

theorem at_9 (t : Fin cfg0.N) (hf : (cfg0.win 9).flush t = true) (y : S1024x128.Idx) :
    after 9 t y = outDk (Entry.A0 m c) (Entry.A1 m c) (Entry.A2 m c) (Entry.A3 m c) (Entry.A4 m c) (((cfg0.win 9).blk t).view.emb y) := by
  obtain ⟨Y, -, hX⟩ := hL 9 t hf
  have hX' : after 9 t = k0_pay10 (F := Ideal) (stAt m c t.val t.isLt).c.1 := hX
  rw [hX']
  idx_vars y
  rw [pt_dk R t]
  refine Eq.trans ?_ (congrArg _ (emb_9 t _ _)).symm
  rw [outDk_real R, hd_colOf]

theorem at_10 (t : Fin cfg0.N) (hf : (cfg0.win 10).flush t = true) (y : S1024x128.Idx) :
    after 10 t y = outDv (Entry.A0 m c) (Entry.A1 m c) (Entry.A3 m c) (Entry.A4 m c) (((cfg0.win 10).blk t).view.emb y) := by
  obtain ⟨Y, -, hX⟩ := hL 10 t hf
  have hX' : after 10 t = k0_pay11 (F := Ideal) (stAt m c t.val t.isLt).c.2.1 := hX
  rw [hX']
  idx_vars y
  rw [pt_dv R t]
  refine Eq.trans ?_ (congrArg _ (emb_10 t _ _)).symm
  rw [outDv_real R, hd_colOf]

theorem at_11 (t : Fin cfg0.N) (hf : (cfg0.win 11).flush t = true) (y : S8192x128.Idx) :
    after 11 t y = outDck (Entry.A0 m c) (Entry.A1 m c) (Entry.A2 m c) (Entry.A3 m c) (Entry.A4 m c) (((cfg0.win 11).blk t).view.emb y) := by
  have hX := hL 11 t hf
  generalize after 11 t = X at hX ⊢
  idx_vars y
  refine (pt_dck R t ((flush0_11 t).mp hf) X hX y0 y1).trans (Eq.trans ?_ (congrArg _ (emb_11 t _ _)).symm)
  rw [outDck_real R]
  unfold lanes
  by_cases h : y1.val < 16
  · rw [if_pos h]
  · rw [if_neg h, dif_neg h]

theorem at_12 (t : Fin cfg0.N) (hf : (cfg0.win 12).flush t = true) (y : S1x8x1x1024.Idx) :
    after 12 t y = outDcq (Entry.A0 m c) (Entry.A1 m c) (Entry.A2 m c) (Entry.A3 m c) (Entry.A4 m c) (((cfg0.win 12).blk t).view.emb y) := by
  obtain ⟨Y, -, hX⟩ := hL 12 t hf
  have hX' : after 12 t = (stAt m c t.val t.isLt).dcq := hX
  rw [hX']
  idx_vars y
  obtain rfl : y0 = 0 := Subsingleton.elim _ _
  obtain rfl : y2 = 0 := Subsingleton.elim _ _
  rw [pt_dcq R t ((flush0_12 t).mp hf)]
  refine Eq.trans ?_ (congrArg _ (emb_12 t _ _)).symm
  rw [outDcq_real R]

theorem fin_8 : ((rdat m c).withAfter after).arrAt 8 cfg0.N
    = (outDq (Entry.A0 m c) (Entry.A1 m c) (Entry.A2 m c) (Entry.A3 m c) (Entry.A4 m c) : FVec Ideal S8192x2048 .bf16) :=
  Dat.arrAt_eq_of_covers _ 8 _ (by decide +kernel) fun t hf y => at_8 R hL t hf y
theorem fin_9 : ((rdat m c).withAfter after).arrAt 9 cfg0.N
    = (outDk (Entry.A0 m c) (Entry.A1 m c) (Entry.A2 m c) (Entry.A3 m c) (Entry.A4 m c) : FVec Ideal S8192x2048 .bf16) :=
  Dat.arrAt_eq_of_covers _ 9 _ (by decide +kernel) fun t hf y => at_9 R hL t hf y
theorem fin_10 : ((rdat m c).withAfter after).arrAt 10 cfg0.N
    = (outDv (Entry.A0 m c) (Entry.A1 m c) (Entry.A3 m c) (Entry.A4 m c) : FVec Ideal S8192x2048 .bf16) :=
  Dat.arrAt_eq_of_covers _ 10 _ (by decide +kernel) fun t hf y => at_10 R hL t hf y
theorem fin_11 : ((rdat m c).withAfter after).arrAt 11 cfg0.N
    = (outDck (Entry.A0 m c) (Entry.A1 m c) (Entry.A2 m c) (Entry.A3 m c) (Entry.A4 m c) : FVec Ideal S8192x128 .f32) :=
  Dat.arrAt_eq_of_covers _ 11 _ (by decide +kernel) fun t hf y => at_11 R hL t hf y
theorem fin_12 : ((rdat m c).withAfter after).arrAt 12 cfg0.N
    = (outDcq (Entry.A0 m c) (Entry.A1 m c) (Entry.A2 m c) (Entry.A3 m c) (Entry.A4 m c) : FVec Ideal S16x8x1x1024 .f32) :=
  Dat.arrAt_eq_of_covers _ 12 _ (by decide +kernel) fun t hf y => at_12 R hL t hf y

end

end Cert.KernelIdeal.Body

end
-- ==== Proof.RunValue.lean ====
module

public import proofs.«01_k».proof.Proof.Final
public import Idealize.ShloMosaic.Lib.Pipeline.ArrRel

@[expose] public section

set_option maxRecDepth 16384

/-!
# The run with its results
-/

noncomputable section

namespace Cert.KernelIdeal.Body

open Idealize.ShloMosaic Idealize.ShloMosaic.TcCoe Idealize.SL.Sem
open Cert.KernelIdeal Cert.KernelIdeal.Gen
open Cert.Fox
open Cert.ReferenceIdeal.Stage (Reals hd ln outDq outDk outDv outDck outDcq outDq_real outDk_real outDv_real outDck_real outDcq_real)
open Idealize.ShloMosaic.Pipeline (Dat RDat)

variable (m : (ℓ : Loc nD τ sig) → Buf (Elt Ideal) ℓ) (ρ : Dev nD → PrngReg)

set_option maxHeartbeats 2000000 in
/-- The run of the idealized kernel at real arguments: the five results are the reference's, the arguments unchanged. -/
theorem run_value (hR : ∀ c : Dev nD, ∃ D, ArgsReal m c D) :
    θ_run (defs (F := Ideal)) (onTc (τ := τ) (main (F := Ideal))) ⟨m, fun _ => 0, ρ⟩ (fun r => ∀ c : Dev nD,
      r.2.mem ((c.tc : Thread nD τ).loc main_v66_0) = (outDq (Entry.A0 m c) (Entry.A1 m c) (Entry.A2 m c) (Entry.A3 m c) (Entry.A4 m c) : FVec Ideal S8192x2048 .bf16)
      ∧ r.2.mem ((c.tc : Thread nD τ).loc main_v66_1) = (outDk (Entry.A0 m c) (Entry.A1 m c) (Entry.A2 m c) (Entry.A3 m c) (Entry.A4 m c) : FVec Ideal S8192x2048 .bf16)
      ∧ r.2.mem ((c.tc : Thread nD τ).loc main_v66_2) = (outDv (Entry.A0 m c) (Entry.A1 m c) (Entry.A3 m c) (Entry.A4 m c) : FVec Ideal S8192x2048 .bf16)
      ∧ r.2.mem ((c.tc : Thread nD τ).loc main_v66_3) = (outDck (Entry.A0 m c) (Entry.A1 m c) (Entry.A2 m c) (Entry.A3 m c) (Entry.A4 m c) : FVec Ideal S8192x128 .f32)
      ∧ r.2.mem ((c.tc : Thread nD τ).loc main_v66_4) = (outDcq (Entry.A0 m c) (Entry.A1 m c) (Entry.A2 m c) (Entry.A3 m c) (Entry.A4 m c) : FVec Ideal S16x8x1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ?_) (run_main m ρ)
  obtain ⟨D, R⟩ := hR c
  obtain ⟨after, hL, hA⟩ := RDat.FramePost.exists_exact h.1 c
  have e8 := (hA 8).trans (fin_8 R hL)
  have e9 := (hA 9).trans (fin_9 R hL)
  have e10 := (hA 10).trans (fin_10 R hL)
  have e11 := (hA 11).trans (fin_11 R hL)
  have e12 := (hA 12).trans (fin_12 R hL)
  clear hA hL
  exact ⟨e8, e9, e10, e11, e12,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩

end Cert.KernelIdeal.Body

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Args
public import proofs.«01_k».proof.Proof.Words.Args
public import proofs.«01_k».proof.Proof.Mlp.Claims
public import proofs.«01_k».proof.Proof.Mlp.Up
public import proofs.«01_k».proof.Proof.Mlp.Down
public import proofs.«01_k».proof.Proof.Proj.Dw
public import proofs.«01_k».proof.Proof.Proj.Dx
public import proofs.«01_k».proof.Proof.Proj.KvfDx
public import proofs.«01_k».proof.Proof.Proj.OutDx
public import proofs.«01_k».proof.Proof.Proj.Kv
public import proofs.«01_k».proof.Proof.Proj.Out
public import proofs.«01_k».proof.Proof.Attn.Claims
public import proofs.«01_k».proof.Proof.Finite
public import proofs.«01_k».proof.Proof.RunValue
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m g _ => Cert.Kernel.Body.run_args m g

/-- The idealized kernel's frame. -/
theorem frame_ideal : Cert.quiescent_KernelIdeal := fun m g _ => Cert.KernelIdeal.Body.run_args m g

/-- The reference's frame: it declares no semaphore. -/
theorem frame_reference : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run m g)

/-- The one rewrite: the constant `ln2` is named the logarithm of two. -/
theorem preserves : Cert.preserves_Kernel_KernelIdeal := IdealRules.named_const.statement _ _ _ _ _ rfl

/-- The idealized kernel and the reference end with equal results, where the arguments are finite. -/
theorem algebraic : Cert.algebraic_KernelIdeal_ReferenceIdeal_pre_finite := by
  intro m g m' g' hpre hargs
  have hR : ∀ c, ∃ D, Cert.KernelIdeal.Body.ArgsReal m c D := fun c => Cert.Pre_finite.reals (hpre c)
  refine ⟨_, _, _, _, _, Cert.KernelIdeal.Body.run_value m g hR, (θ_run Cert.ReferenceIdeal.defs _ _).mono (fun r h c => ?_) (Cert.ReferenceIdeal.Value.run m' g')⟩
  obtain ⟨h0, h1, h2, h3, h4⟩ := hargs c
  obtain ⟨r0, r1, r2, r3, r4, rest⟩ := h c
  refine ⟨r0.trans ?_, r1.trans ?_, r2.trans ?_, r3.trans ?_, r4.trans ?_, rest⟩
  · rw [Cert.ReferenceIdeal.Stage.res92]; unfold Cert.ReferenceIdeal.Stage.A0 Cert.ReferenceIdeal.Stage.A1 Cert.ReferenceIdeal.Stage.A2 Cert.ReferenceIdeal.Stage.A3 Cert.ReferenceIdeal.Stage.A4
    rw [h0, h1, h2, h3, h4]
  · rw [Cert.ReferenceIdeal.Stage.res93]; unfold Cert.ReferenceIdeal.Stage.A0 Cert.ReferenceIdeal.Stage.A1 Cert.ReferenceIdeal.Stage.A2 Cert.ReferenceIdeal.Stage.A3 Cert.ReferenceIdeal.Stage.A4
    rw [h0, h1, h2, h3, h4]
  · rw [Cert.ReferenceIdeal.Stage.res94]; unfold Cert.ReferenceIdeal.Stage.A0 Cert.ReferenceIdeal.Stage.A1 Cert.ReferenceIdeal.Stage.A3 Cert.ReferenceIdeal.Stage.A4
    rw [h0, h1, h3, h4]
  · rw [Cert.ReferenceIdeal.Stage.res95]; unfold Cert.ReferenceIdeal.Stage.A0 Cert.ReferenceIdeal.Stage.A1 Cert.ReferenceIdeal.Stage.A2 Cert.ReferenceIdeal.Stage.A3 Cert.ReferenceIdeal.Stage.A4
    rw [h0, h1, h2, h3, h4]
  · rw [Cert.ReferenceIdeal.Stage.res97]; unfold Cert.ReferenceIdeal.Stage.A0 Cert.ReferenceIdeal.Stage.A1 Cert.ReferenceIdeal.Stage.A2 Cert.ReferenceIdeal.Stage.A3 Cert.ReferenceIdeal.Stage.A4
    rw [h0, h1, h2, h3, h4]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_finite.Gen.facts, Cert.Pre_finite14.Gen.facts,
  frame_kernel, frame_ideal, fun m g _ => Cert.KernelIdeal.Body.run_args m g, frame_reference,
  fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  fun m g _ => Cert.Kernel9.Gen.frame m g, fun m g _ => Cert.Kernel9Ideal.Gen.frame m g, frame_reference9,
  fun m g _ => Cert.Kernel10.Gen.frame m g, fun m g _ => Cert.Kernel10Ideal.Gen.frame m g, frame_reference10,
  fun m g _ => Cert.Kernel11.Gen.frame m g, fun m g _ => Cert.Kernel11Ideal.Gen.frame m g, frame_reference11,
  fun m g _ => Cert.Kernel12.Gen.frame m g, fun m g _ => Cert.Kernel12Ideal.Gen.frame m g, frame_reference12,
  fun m g _ => Cert.Kernel13.Gen.frame m g, fun m g _ => Cert.Kernel13Ideal.Gen.frame m g, frame_reference13,
  fun m g _ => Cert.Kernel14.Gen.frame m g, fun m g _ => Cert.Kernel14Ideal.Gen.frame m g, fun m g _ => Cert.Kernel14Ideal.Gen.frame m g, frame_reference14,
  fun m g _ => frame_reference14 m g trivial,
  preserves, algebraic, trivial, algebraic2, trivial, algebraic3, trivial, algebraic4, trivial, algebraic5,
  trivial, algebraic6, trivial, algebraic7, trivial, algebraic8, trivial, algebraic9, trivial, algebraic10, trivial, algebraic11, trivial, algebraic12, trivial, algebraic13, preserves14, algebraic14⟩

end Cert.Proof

end
